-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsRefIdeal [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).1 = (fun _ => 1#1)
    ∧ (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))).2 = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_queries [hPre_finite_queries : Cert.Pre_finite_queries.Facts] (m : (ℓ : Loc Cert.MidIdeal.nD Cert.MidIdeal.τ Cert.MidIdeal.sig) → Buf (Elt Ideal) ℓ) : Prop :=
  ∀ c : Dev Cert.MidIdeal.nD,
    (Cert.Pre_finite_queries.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).1 = (fun _ => 1#1)
    ∧ (Cert.Pre_finite_queries.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.1 = (fun _ => 1#1)
    ∧ (Cert.Pre_finite_queries.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_queries [hPre_finite_queries : Cert.Pre_finite_queries.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_queries.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).1 = (fun _ => 1#1)
    ∧ (Cert.Pre_finite_queries.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.1 = (fun _ => 1#1)
    ∧ (Cert.Pre_finite_queries.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2 = (fun _ => 1#1)

def Pre_Positions (m : (ℓ : Loc Cert.Positions.nD Cert.Positions.τ Cert.Positions.sig) → Buf (Elt Bits) ℓ) : Prop :=
  True

def Pre_PositionsIdeal (m : (ℓ : Loc Cert.PositionsIdeal.nD Cert.PositionsIdeal.τ Cert.PositionsIdeal.sig) → Buf (Elt Ideal) ℓ) : Prop :=
  True

def Pre_PositionsIdeal_experts_exist [hPre_experts_exist : Cert.Pre_experts_exist.Facts] (m : (ℓ : Loc Cert.PositionsIdeal.nD Cert.PositionsIdeal.τ Cert.PositionsIdeal.sig) → Buf (Elt Ideal) ℓ) : Prop :=
  ∀ c : Dev Cert.PositionsIdeal.nD,
    (Cert.Pre_experts_exist.fn (F := Ideal) (m ((c.tc : Thread Cert.PositionsIdeal.nD Cert.PositionsIdeal.τ).loc Cert.PositionsIdeal.main_arg0)) (m ((c.tc : Thread Cert.PositionsIdeal.nD Cert.PositionsIdeal.τ).loc Cert.PositionsIdeal.main_arg1)) (m ((c.tc : Thread Cert.PositionsIdeal.nD Cert.PositionsIdeal.τ).loc Cert.PositionsIdeal.main_arg2))) = (fun _ => 1#1)

def Pre_PositionsRefIdeal (m : (ℓ : Loc Cert.PositionsRefIdeal.nD Cert.PositionsRefIdeal.τ Cert.PositionsRefIdeal.sig) → Buf (Elt Ideal) ℓ) : Prop :=
  True

def Pre_PositionsRefIdeal_experts_exist [hPre_experts_exist : Cert.Pre_experts_exist.Facts] (m : (ℓ : Loc Cert.PositionsRefIdeal.nD Cert.PositionsRefIdeal.τ Cert.PositionsRefIdeal.sig) → Buf (Elt Ideal) ℓ) : Prop :=
  ∀ c : Dev Cert.PositionsRefIdeal.nD,
    (Cert.Pre_experts_exist.fn (F := Ideal) (m ((c.tc : Thread Cert.PositionsRefIdeal.nD Cert.PositionsRefIdeal.τ).loc Cert.PositionsRefIdeal.main_arg0)) (m ((c.tc : Thread Cert.PositionsRefIdeal.nD Cert.PositionsRefIdeal.τ).loc Cert.PositionsRefIdeal.main_arg1)) (m ((c.tc : Thread Cert.PositionsRefIdeal.nD Cert.PositionsRefIdeal.τ).loc Cert.PositionsRefIdeal.main_arg2))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_buckets_exist [hPre_buckets_exist : Cert.Pre_buckets_exist.Facts] (m : (ℓ : Loc Cert.BiasIdeal.nD Cert.BiasIdeal.τ Cert.BiasIdeal.sig) → Buf (Elt Ideal) ℓ) : Prop :=
  ∀ c : Dev Cert.BiasIdeal.nD,
    (Cert.Pre_buckets_exist.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_buckets_exist [hPre_buckets_exist : Cert.Pre_buckets_exist.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_buckets_exist.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidIdeal_pre_finite_queries [hMidIdeal : Cert.MidIdeal.Facts] [hPre_finite_queries : Cert.Pre_finite_queries.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_queries m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_MidRefIdeal_pre_finite_queries [hMidRefIdeal : Cert.MidRefIdeal.Facts] [hPre_finite_queries : Cert.Pre_finite_queries.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_queries m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_Positions [hPositions : Cert.Positions.Facts] : Prop :=
  ∀ (m : (ℓ : Loc Cert.Positions.nD Cert.Positions.τ Cert.Positions.sig) → Buf (Elt Bits) ℓ) (g : Dev Cert.Positions.nD → PrngReg), Pre_Positions m →
    θ_run (Cert.Positions.defs (F := Bits)) (onTc (τ := Cert.Positions.τ) (Cert.Positions.main (F := Bits))) ⟨m, fun _ => 0, g⟩ (fun r => (∀ c : Dev Cert.Positions.nD,
      r.2.mem ((c.tc : Thread Cert.Positions.nD Cert.Positions.τ).loc Cert.Positions.main_arg0) = m ((c.tc : Thread Cert.Positions.nD Cert.Positions.τ).loc Cert.Positions.main_arg0)
      ∧ r.2.mem ((c.tc : Thread Cert.Positions.nD Cert.Positions.τ).loc Cert.Positions.main_arg1) = m ((c.tc : Thread Cert.Positions.nD Cert.Positions.τ).loc Cert.Positions.main_arg1)
      ∧ r.2.mem ((c.tc : Thread Cert.Positions.nD Cert.Positions.τ).loc Cert.Positions.main_arg2) = m ((c.tc : Thread Cert.Positions.nD Cert.Positions.τ).loc Cert.Positions.main_arg2))
      ∧ r.2.sem = fun _ => 0)

def quiescent_PositionsIdeal [hPositionsIdeal : Cert.PositionsIdeal.Facts] : Prop :=
  ∀ (m : (ℓ : Loc Cert.PositionsIdeal.nD Cert.PositionsIdeal.τ Cert.PositionsIdeal.sig) → Buf (Elt Ideal) ℓ) (g : Dev Cert.PositionsIdeal.nD → PrngReg), Pre_PositionsIdeal m →
    θ_run (Cert.PositionsIdeal.defs (F := Ideal)) (onTc (τ := Cert.PositionsIdeal.τ) (Cert.PositionsIdeal.main (F := Ideal))) ⟨m, fun _ => 0, g⟩ (fun r => (∀ c : Dev Cert.PositionsIdeal.nD,
      r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
      ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1)
      ∧ r.2.mem ((c.tc : Thread Cert.PositionsIdeal.nD Cert.PositionsIdeal.τ).loc Cert.PositionsIdeal.main_arg2) = m ((c.tc : Thread Cert.PositionsIdeal.nD Cert.PositionsIdeal.τ).loc Cert.PositionsIdeal.main_arg2))
      ∧ r.2.sem = fun _ => 0)

def quiescent_PositionsIdeal_pre_experts_exist [hPositionsIdeal : Cert.PositionsIdeal.Facts] [hPre_experts_exist : Cert.Pre_experts_exist.Facts] : Prop :=
  ∀ (m : (ℓ : Loc Cert.PositionsIdeal.nD Cert.PositionsIdeal.τ Cert.PositionsIdeal.sig) → Buf (Elt Ideal) ℓ) (g : Dev Cert.PositionsIdeal.nD → PrngReg), Pre_PositionsIdeal_experts_exist m →
    θ_run (Cert.PositionsIdeal.defs (F := Ideal)) (onTc (τ := Cert.PositionsIdeal.τ) (Cert.PositionsIdeal.main (F := Ideal))) ⟨m, fun _ => 0, g⟩ (fun r => (∀ c : Dev Cert.PositionsIdeal.nD,
      r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
      ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1)
      ∧ r.2.mem ((c.tc : Thread Cert.PositionsIdeal.nD Cert.PositionsIdeal.τ).loc Cert.PositionsIdeal.main_arg2) = m ((c.tc : Thread Cert.PositionsIdeal.nD Cert.PositionsIdeal.τ).loc Cert.PositionsIdeal.main_arg2))
      ∧ r.2.sem = fun _ => 0)

def quiescent_PositionsRefIdeal [hPositionsRefIdeal : Cert.PositionsRefIdeal.Facts] : Prop :=
  ∀ (m : (ℓ : Loc Cert.PositionsRefIdeal.nD Cert.PositionsRefIdeal.τ Cert.PositionsRefIdeal.sig) → Buf (Elt Ideal) ℓ) (g : Dev Cert.PositionsRefIdeal.nD → PrngReg), Pre_PositionsRefIdeal m →
    θ_run (Cert.PositionsRefIdeal.defs (F := Ideal)) (onTc (τ := Cert.PositionsRefIdeal.τ) (Cert.PositionsRefIdeal.main (F := Ideal))) ⟨m, fun _ => 0, g⟩ (fun r => (∀ c : Dev Cert.PositionsRefIdeal.nD,
      r.2.mem ((c.tc : Thread Cert.PositionsRefIdeal.nD Cert.PositionsRefIdeal.τ).loc Cert.PositionsRefIdeal.main_arg0) = m ((c.tc : Thread Cert.PositionsRefIdeal.nD Cert.PositionsRefIdeal.τ).loc Cert.PositionsRefIdeal.main_arg0)
      ∧ r.2.mem ((c.tc : Thread Cert.PositionsRefIdeal.nD Cert.PositionsRefIdeal.τ).loc Cert.PositionsRefIdeal.main_arg1) = m ((c.tc : Thread Cert.PositionsRefIdeal.nD Cert.PositionsRefIdeal.τ).loc Cert.PositionsRefIdeal.main_arg1)
      ∧ r.2.mem ((c.tc : Thread Cert.PositionsRefIdeal.nD Cert.PositionsRefIdeal.τ).loc Cert.PositionsRefIdeal.main_arg2) = m ((c.tc : Thread Cert.PositionsRefIdeal.nD Cert.PositionsRefIdeal.τ).loc Cert.PositionsRefIdeal.main_arg2))
      ∧ r.2.sem = fun _ => 0)

def quiescent_PositionsRefIdeal_pre_experts_exist [hPositionsRefIdeal : Cert.PositionsRefIdeal.Facts] [hPre_experts_exist : Cert.Pre_experts_exist.Facts] : Prop :=
  ∀ (m : (ℓ : Loc Cert.PositionsRefIdeal.nD Cert.PositionsRefIdeal.τ Cert.PositionsRefIdeal.sig) → Buf (Elt Ideal) ℓ) (g : Dev Cert.PositionsRefIdeal.nD → PrngReg), Pre_PositionsRefIdeal_experts_exist m →
    θ_run (Cert.PositionsRefIdeal.defs (F := Ideal)) (onTc (τ := Cert.PositionsRefIdeal.τ) (Cert.PositionsRefIdeal.main (F := Ideal))) ⟨m, fun _ => 0, g⟩ (fun r => (∀ c : Dev Cert.PositionsRefIdeal.nD,
      r.2.mem ((c.tc : Thread Cert.PositionsRefIdeal.nD Cert.PositionsRefIdeal.τ).loc Cert.PositionsRefIdeal.main_arg0) = m ((c.tc : Thread Cert.PositionsRefIdeal.nD Cert.PositionsRefIdeal.τ).loc Cert.PositionsRefIdeal.main_arg0)
      ∧ r.2.mem ((c.tc : Thread Cert.PositionsRefIdeal.nD Cert.PositionsRefIdeal.τ).loc Cert.PositionsRefIdeal.main_arg1) = m ((c.tc : Thread Cert.PositionsRefIdeal.nD Cert.PositionsRefIdeal.τ).loc Cert.PositionsRefIdeal.main_arg1)
      ∧ r.2.mem ((c.tc : Thread Cert.PositionsRefIdeal.nD Cert.PositionsRefIdeal.τ).loc Cert.PositionsRefIdeal.main_arg2) = m ((c.tc : Thread Cert.PositionsRefIdeal.nD Cert.PositionsRefIdeal.τ).loc Cert.PositionsRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_buckets_exist [hBiasIdeal : Cert.BiasIdeal.Facts] [hPre_buckets_exist : Cert.Pre_buckets_exist.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_buckets_exist m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_BiasRefIdeal_pre_buckets_exist [hBiasRefIdeal : Cert.BiasRefIdeal.Facts] [hPre_buckets_exist : Cert.Pre_buckets_exist.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_buckets_exist m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)) (v2 : (c : Dev Cert.InprojIdeal.nD) → Buf (Elt Ideal) ((c.tc : Thread Cert.InprojIdeal.nD Cert.InprojIdeal.τ).loc Cert.InprojIdeal.main_v8_2)) (v3 : (c : Dev Cert.InprojIdeal.nD) → Buf (Elt Ideal) ((c.tc : Thread Cert.InprojIdeal.nD Cert.InprojIdeal.τ).loc Cert.InprojIdeal.main_v8_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_v8_2) = v2 c
          ∧ r.2.mem ((c.tc : Thread Cert.InprojIdeal.nD Cert.InprojIdeal.τ).loc Cert.InprojIdeal.main_v8_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_v18) = v2 c
          ∧ r.2.mem ((c.tc : Thread Cert.InprojRefIdeal.nD Cert.InprojRefIdeal.τ).loc Cert.InprojRefIdeal.main_v21) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v14)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v14) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v63) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_v17) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Mid_MidIdeal : Prop :=
  True

def algebraic_MidIdeal_MidRefIdeal_pre_finite_queries [hMidIdeal : Cert.MidIdeal.Facts] [hMidRefIdeal : Cert.MidRefIdeal.Facts] [hPre_finite_queries : Cert.Pre_finite_queries.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_queries m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v14_0)) (v1 : (c : Dev Cert.MidIdeal.nD) → Buf (Elt Ideal) ((c.tc : Thread Cert.MidIdeal.nD Cert.MidIdeal.τ).loc Cert.MidIdeal.main_v14_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v14_0) = v0 c
          ∧ r.2.mem ((c.tc : Thread Cert.MidIdeal.nD Cert.MidIdeal.τ).loc Cert.MidIdeal.main_v14_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v41) = v0 c
          ∧ r.2.mem ((c.tc : Thread Cert.MidRefIdeal.nD Cert.MidRefIdeal.τ).loc Cert.MidRefIdeal.main_v54) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def preserves_Positions_PositionsIdeal : Prop :=
  True

def algebraic_PositionsIdeal_PositionsRefIdeal_pre_experts_exist [hPositionsIdeal : Cert.PositionsIdeal.Facts] [hPositionsRefIdeal : Cert.PositionsRefIdeal.Facts] [hPre_experts_exist : Cert.Pre_experts_exist.Facts] : Prop :=
  ∀ (m : (ℓ : Loc Cert.PositionsIdeal.nD Cert.PositionsIdeal.τ Cert.PositionsIdeal.sig) → Buf (Elt Ideal) ℓ) (g : Dev Cert.PositionsIdeal.nD → PrngReg)
    (m' : (ℓ : Loc Cert.PositionsRefIdeal.nD Cert.PositionsRefIdeal.τ Cert.PositionsRefIdeal.sig) → Buf (Elt Ideal) ℓ) (g' : Dev Cert.PositionsRefIdeal.nD → PrngReg), Pre_PositionsIdeal_experts_exist m →
    (∀ c : Dev Cert.PositionsIdeal.nD,
      m' ((c.tc : Thread Cert.PositionsRefIdeal.nD Cert.PositionsRefIdeal.τ).loc Cert.PositionsRefIdeal.main_arg0) = m ((c.tc : Thread Cert.PositionsIdeal.nD Cert.PositionsIdeal.τ).loc Cert.PositionsIdeal.main_arg0)
      ∧ m' ((c.tc : Thread Cert.PositionsRefIdeal.nD Cert.PositionsRefIdeal.τ).loc Cert.PositionsRefIdeal.main_arg1) = m ((c.tc : Thread Cert.PositionsIdeal.nD Cert.PositionsIdeal.τ).loc Cert.PositionsIdeal.main_arg1)
      ∧ m' ((c.tc : Thread Cert.PositionsRefIdeal.nD Cert.PositionsRefIdeal.τ).loc Cert.PositionsRefIdeal.main_arg2) = m ((c.tc : Thread Cert.PositionsIdeal.nD Cert.PositionsIdeal.τ).loc Cert.PositionsIdeal.main_arg2)) →
    ∃ (v0 : (c : Dev Cert.PositionsIdeal.nD) → Buf (Elt Ideal) ((c.tc : Thread Cert.PositionsIdeal.nD Cert.PositionsIdeal.τ).loc Cert.PositionsIdeal.main_v0)),
      θ_run (Cert.PositionsIdeal.defs (F := Ideal)) (onTc (τ := Cert.PositionsIdeal.τ) (Cert.PositionsIdeal.main (F := Ideal))) ⟨m, fun _ => 0, g⟩ (fun r => ∀ c : Dev Cert.PositionsIdeal.nD,
          r.2.mem ((c.tc : Thread Cert.PositionsIdeal.nD Cert.PositionsIdeal.τ).loc Cert.PositionsIdeal.main_v0) = v0 c
          ∧ r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
          ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1)
          ∧ r.2.mem ((c.tc : Thread Cert.PositionsIdeal.nD Cert.PositionsIdeal.τ).loc Cert.PositionsIdeal.main_arg2) = m ((c.tc : Thread Cert.PositionsIdeal.nD Cert.PositionsIdeal.τ).loc Cert.PositionsIdeal.main_arg2))
      ∧ θ_run (Cert.PositionsRefIdeal.defs (F := Ideal)) (onTc (τ := Cert.PositionsRefIdeal.τ) (Cert.PositionsRefIdeal.main (F := Ideal))) ⟨m', fun _ => 0, g'⟩ (fun r => ∀ c : Dev Cert.PositionsRefIdeal.nD,
          r.2.mem ((c.tc : Thread Cert.PositionsRefIdeal.nD Cert.PositionsRefIdeal.τ).loc Cert.PositionsRefIdeal.main_v7) = v0 c
          ∧ r.2.mem ((c.tc : Thread Cert.PositionsRefIdeal.nD Cert.PositionsRefIdeal.τ).loc Cert.PositionsRefIdeal.main_arg0) = m' ((c.tc : Thread Cert.PositionsRefIdeal.nD Cert.PositionsRefIdeal.τ).loc Cert.PositionsRefIdeal.main_arg0)
          ∧ r.2.mem ((c.tc : Thread Cert.PositionsRefIdeal.nD Cert.PositionsRefIdeal.τ).loc Cert.PositionsRefIdeal.main_arg1) = m' ((c.tc : Thread Cert.PositionsRefIdeal.nD Cert.PositionsRefIdeal.τ).loc Cert.PositionsRefIdeal.main_arg1)
          ∧ r.2.mem ((c.tc : Thread Cert.PositionsRefIdeal.nD Cert.PositionsRefIdeal.τ).loc Cert.PositionsRefIdeal.main_arg2) = m' ((c.tc : Thread Cert.PositionsRefIdeal.nD Cert.PositionsRefIdeal.τ).loc Cert.PositionsRefIdeal.main_arg2))

def preserves_Bias_BiasIdeal : Prop :=
  True

def algebraic_BiasIdeal_BiasRefIdeal_pre_buckets_exist [hBiasIdeal : Cert.BiasIdeal.Facts] [hBiasRefIdeal : Cert.BiasRefIdeal.Facts] [hPre_buckets_exist : Cert.Pre_buckets_exist.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_buckets_exist m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v11) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hMemkv : Cert.Memkv.Facts) (hMemkvIdeal : Cert.MemkvIdeal.Facts) (hMemkvRefIdeal : Cert.MemkvRefIdeal.Facts) (hMid : Cert.Mid.Facts) (hMidIdeal : Cert.MidIdeal.Facts) (hMidRefIdeal : Cert.MidRefIdeal.Facts) (hPositions : Cert.Positions.Facts) (hPositionsIdeal : Cert.PositionsIdeal.Facts) (hPositionsRefIdeal : Cert.PositionsRefIdeal.Facts) (hBias : Cert.Bias.Facts) (hBiasIdeal : Cert.BiasIdeal.Facts) (hBiasRefIdeal : Cert.BiasRefIdeal.Facts) (hPre_finite_scores : Cert.Pre_finite_scores.Facts) (hPre_tables_in_range : Cert.Pre_tables_in_range.Facts) (hPre_finite_queries : Cert.Pre_finite_queries.Facts) (hPre_experts_exist : Cert.Pre_experts_exist.Facts) (hPre_buckets_exist : Cert.Pre_buckets_exist.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal) (hPre_tables_in_range := hPre_tables_in_range)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Mid (hMid := hMid)
    ∧ quiescent_MidIdeal (hMidIdeal := hMidIdeal)
    ∧ quiescent_MidIdeal_pre_finite_queries (hMidIdeal := hMidIdeal) (hPre_finite_queries := hPre_finite_queries)
    ∧ quiescent_MidRefIdeal (hMidRefIdeal := hMidRefIdeal)
    ∧ quiescent_MidRefIdeal_pre_finite_queries (hMidRefIdeal := hMidRefIdeal) (hPre_finite_queries := hPre_finite_queries)
    ∧ quiescent_Positions (hPositions := hPositions)
    ∧ quiescent_PositionsIdeal (hPositionsIdeal := hPositionsIdeal)
    ∧ quiescent_PositionsIdeal_pre_experts_exist (hPositionsIdeal := hPositionsIdeal) (hPre_experts_exist := hPre_experts_exist)
    ∧ quiescent_PositionsRefIdeal (hPositionsRefIdeal := hPositionsRefIdeal)
    ∧ quiescent_PositionsRefIdeal_pre_experts_exist (hPositionsRefIdeal := hPositionsRefIdeal) (hPre_experts_exist := hPre_experts_exist)
    ∧ quiescent_Bias (hBias := hBias)
    ∧ quiescent_BiasIdeal (hBiasIdeal := hBiasIdeal)
    ∧ quiescent_BiasIdeal_pre_buckets_exist (hBiasIdeal := hBiasIdeal) (hPre_buckets_exist := hPre_buckets_exist)
    ∧ quiescent_BiasRefIdeal (hBiasRefIdeal := hBiasRefIdeal)
    ∧ quiescent_BiasRefIdeal_pre_buckets_exist (hBiasRefIdeal := hBiasRefIdeal) (hPre_buckets_exist := hPre_buckets_exist)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_tables_in_range := hPre_tables_in_range)
    ∧ preserves_Memkv_MemkvIdeal
    ∧ algebraic_MemkvIdeal_MemkvRefIdeal (hMemkvIdeal := hMemkvIdeal) (hMemkvRefIdeal := hMemkvRefIdeal)
    ∧ preserves_Mid_MidIdeal
    ∧ algebraic_MidIdeal_MidRefIdeal_pre_finite_queries (hMidIdeal := hMidIdeal) (hMidRefIdeal := hMidRefIdeal) (hPre_finite_queries := hPre_finite_queries)
    ∧ preserves_Positions_PositionsIdeal
    ∧ algebraic_PositionsIdeal_PositionsRefIdeal_pre_experts_exist (hPositionsIdeal := hPositionsIdeal) (hPositionsRefIdeal := hPositionsRefIdeal) (hPre_experts_exist := hPre_experts_exist)
    ∧ preserves_Bias_BiasIdeal
    ∧ algebraic_BiasIdeal_BiasRefIdeal_pre_buckets_exist (hBiasIdeal := hBiasIdeal) (hBiasRefIdeal := hBiasRefIdeal) (hPre_buckets_exist := hPre_buckets_exist)
-- ==== Pre_buckets_exist.lean ====
abbrev S32x8 : Shape := ⟨2, ![32, 8]⟩
abbrev S128x256 : Shape := ⟨2, ![128, 256]⟩
abbrev S_ : Shape := ⟨0, ![]⟩

class Facts : Prop where
  bcast_S_S128x256 : S_.BroadcastsInDim S128x256 (![] : Fin 0 → Fin S128x256.rank)

variable [Facts]

def fn {F : FTy → Type} [FloatOps F] (main_arg0 : FVec F S32x8 .f32) (main_arg1 : IVec S128x256 32) : IVec S128x256 1 :=
  let main_c : IVec S_ 32 := constantI S_ 32 32#32
  let main_v0 : IVec S128x256 32 := broadcastInDim S128x256 ![] bcast_S_S128x256 main_c
  let main_v1 : IVec S128x256 1 := cmpi .slt main_arg1 main_v0
  main_v1
-- ==== Pre_experts_exist.lean ====
abbrev S32 : Shape := ⟨1, ![32]⟩
abbrev S4x16384 : Shape := ⟨2, ![4, 16384]⟩
abbrev S_ : Shape := ⟨0, ![]⟩

class Facts : Prop where
  bcast_S_S4x16384 : S_.BroadcastsInDim S4x16384 (![] : Fin 0 → Fin S4x16384.rank)

variable [Facts]

def fn {F : FTy → Type} [FloatOps F] (main_arg0 : IVec S32 32) (main_arg1 : IVec S4x16384 32) (main_arg2 : IVec S4x16384 32) : IVec S4x16384 1 :=
  let main_c : IVec S_ 32 := constantI S_ 32 0#32
  let main_v0 : IVec S4x16384 32 := broadcastInDim S4x16384 ![] bcast_S_S4x16384 main_c
  let main_v1 : IVec S4x16384 1 := cmpi .sge main_arg1 main_v0
  let main_c_0 : IVec S_ 32 := constantI S_ 32 32#32
  let main_v2 : IVec S4x16384 32 := broadcastInDim S4x16384 ![] bcast_S_S4x16384 main_c_0
  let main_v3 : IVec S4x16384 1 := cmpi .slt main_arg1 main_v2
  let main_v4 : IVec S4x16384 1 := andi main_v1 main_v3
  main_v4
-- ==== Pre_finite_queries.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S512x512 : Shape := ⟨2, ![512, 512]⟩
abbrev S512x1024 : Shape := ⟨2, ![512, 1024]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  bcast_S_S1024x512 : S_.BroadcastsInDim S1024x512 (![] : Fin 0 → Fin S1024x512.rank)
  bcast_S_S512x512 : S_.BroadcastsInDim S512x512 (![] : Fin 0 → Fin S512x512.rank)

variable [Facts]

def fn {F : FTy → Type} [FloatOps F] (main_arg0 : FVec F S16384x512 .f32) (main_arg1 : FVec F S16384x512 .f32) (main_arg2 : FVec F S16384x1024 .f32) (main_arg3 : FVec F S1024x1024 .f32) (main_arg4 : FVec F S1024 .f32) (main_arg5 : FVec F S1024 .f32) (main_arg6 : FVec F S1024x512 .f32) (main_arg7 : FVec F S512x512 .f32) (main_arg8 : FVec F S512x512 .f32) (main_arg9 : FVec F S512x1024 .f32) (main_arg10 : FVec F S1024 .f32) (main_arg11 : FVec F S1024x32 .f32) (main_arg12 : FVec F S32 .f32) : IVec S1024 1 × IVec S1024x512 1 × IVec S512x512 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x512 .f32 := Host.absf main_arg6
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S512x512 .f32 := Host.absf main_arg7
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  (main_v2, main_v5, main_v8)
-- ==== Pre_finite_scores.lean ====
abbrev S16384x768 : Shape := ⟨2, ![16384, 768]⟩
abbrev S8 : Shape := ⟨1, ![8]⟩
abbrev S8x128x256 : Shape := ⟨3, ![8, 128, 256]⟩
abbrev S16384x640 : Shape := ⟨2, ![16384, 640]⟩
abbrev S_ : Shape := ⟨0, ![]⟩

class Facts : Prop where
  slices_S16384x768_S16384x640_0_0 : S16384x768.Slices ![0, 0] S16384x640
  bcast_S_S16384x640 : S_.BroadcastsInDim S16384x640 (![] : Fin 0 → Fin S16384x640.rank)
  bcast_S_S8 : S_.BroadcastsInDim S8 (![] : Fin 0 → Fin S8.rank)
  bcast_S_S8x128x256 : S_.BroadcastsInDim S8x128x256 (![] : Fin 0 → Fin S8x128x256.rank)

variable [Facts]

def fn {F : FTy → Type} [FloatOps F] (main_arg0 : FVec F S16384x768 .f32) (main_arg1 : FVec F S8 .f32) (main_arg2 : FVec F S8x128x256 .f32) : IVec S16384x640 1 × IVec S8 1 × IVec S8x128x256 1 :=
  let main_v0 : FVec F S16384x640 .f32 := (extractStridedSlice S16384x640 ![0, 0] · slices_S16384x768_S16384x640_0_0) main_arg0
  let main_v1 : FVec F S16384x640 .f32 := Host.absf main_v0
  let main_cst : FVec F S_ .f32 := constant S_ .f32 0x7F800000#32
  let main_v2 : FVec F S16384x640 .f32 := broadcastInDim S16384x640 ![] bcast_S_S16384x640 main_cst
  let main_v3 : IVec S16384x640 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_cst_1 : FVec F S_ .f32 := constant S_ .f32 0x7F800000#32
  let main_v7 : FVec F S8x128x256 .f32 := broadcastInDim S8x128x256 ![] bcast_S_S8x128x256 main_cst_1
  let main_v8 : IVec S8x128x256 1 := cmpf .olt main_arg2 main_v7
  (main_v3, main_v6, main_v8)
-- ==== Pre_tables_in_range.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : FVec F S73728x1024 .f32) (main_arg3 : FVec F S32x1024x2048 .f32) (main_arg4 : FVec F S32x2048 .f32) (main_arg5 : FVec F S32x1024x1024 .f32) (main_arg6 : FVec F S32x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S16384x768 : Shape := ⟨2, ![16384, 768]⟩
abbrev S8 : Shape := ⟨1, ![8]⟩
abbrev S8x128x256 : Shape := ⟨3, ![8, 128, 256]⟩
abbrev S16384x512 : Shape := ⟨2, ![16384, 512]⟩
abbrev S128x512 : Shape := ⟨2, ![128, 512]⟩
abbrev S128x128 : Shape := ⟨2, ![128, 128]⟩
abbrev S128x256 : Shape := ⟨2, ![128, 256]⟩
abbrev S128x64 : Shape := ⟨2, ![128, 64]⟩
abbrev S256x64 : Shape := ⟨2, ![256, 64]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 13
  | .smem => 1
  | _ => 0

abbrev bufTy : (tb : Table) → Fin (tcTables nBuf tb) → BufTy
  | .hbm, ⟨0, _⟩ => ⟨S16384x768, .f32⟩
  | .hbm, ⟨1, _⟩ => ⟨S8, .f32⟩
  | .hbm, ⟨2, _⟩ => ⟨S8x128x256, .f32⟩
  | .hbm, ⟨3, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S128x512, .f32⟩
  | .local _ .vmem, ⟨12, _⟩ => ⟨S128x512, .f32⟩
  | .local _ .smem, ⟨0, _⟩ => ⟨S8, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x768 : Shape := ⟨2, ![16384, 768]⟩
abbrev S8 : Shape := ⟨1, ![8]⟩
abbrev S8x128x256 : Shape := ⟨3, ![8, 128, 256]⟩
abbrev S2x8192x768 : Shape := ⟨3, ![2, 8192, 768]⟩
abbrev S2x8192x512 : Shape := ⟨3, ![2, 8192, 512]⟩
abbrev S2x8192x128 : Shape := ⟨3, ![2, 8192, 128]⟩
abbrev S2x64x128x2x4x64 : Shape := ⟨6, ![2, 64, 128, 2, 4, 64]⟩
abbrev S2x64x128x2x64 : Shape := ⟨5, ![2, 64, 128, 2, 64]⟩
abbrev S_ : Shape := ⟨0, ![]⟩
abbrev S2x65x128x2x64 : Shape := ⟨5, ![2, 65, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S64x1x256 : Shape := ⟨3, ![64, 1, 256]⟩
abbrev S2x4x128x256 : Shape := ⟨4, ![2, 4, 128, 256]⟩
abbrev S1x64x1x1x1x256 : Shape := ⟨6, ![1, 64, 1, 1, 1, 256]⟩
abbrev S1x1x2x4x128x256 : Shape := ⟨6, ![1, 1, 2, 4, 128, 256]⟩
abbrev S2x4 : Shape := ⟨2, ![2, 4]⟩
abbrev S1x1x2x4x1x1 : Shape := ⟨6, ![1, 1, 2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩
abbrev S16384x512 : Shape := ⟨2, ![16384, 512]⟩

abbrev nBuf : Space → Nat
  | .hbm => 74
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S8, .f32⟩
  | .hbm, ⟨2, _⟩ => ⟨S8x128x256, .f32⟩
  | .hbm, ⟨3, _⟩ => ⟨S2x8192x768, .f32⟩
  | .hbm, ⟨4, _⟩ => ⟨S2x8192x512, .f32⟩
  | .hbm, ⟨5, _⟩ => ⟨S2x8192x128, .f32⟩
  | .hbm, ⟨6, _⟩ => ⟨S2x8192x128, .f32⟩
  | .hbm, ⟨7, _⟩ => ⟨S2x64x128x2x4x64, .f32⟩
  | .hbm, ⟨8, _⟩ => ⟨S2x64x128x2x64, .f32⟩
  | .hbm, ⟨9, _⟩ => ⟨S2x64x128x2x64, .f32⟩
  | .hbm, ⟨10, _⟩ => ⟨S_, .i32⟩
  | .hbm, ⟨11, _⟩ => ⟨S_, .f32⟩
  | .hbm, ⟨12, _⟩ => ⟨S2x65x128x2x64, .f32⟩
  | .hbm, ⟨13, _⟩ => ⟨S2x64x128x2x64, .f32⟩
  | .hbm, ⟨14, _⟩ => ⟨S2x64x256x2x64, .f32⟩
  | .hbm, ⟨15, _⟩ => ⟨S_, .i32⟩
  | .hbm, ⟨16, _⟩ => ⟨S_, .f32⟩
  | .hbm, ⟨17, _⟩ => ⟨S2x65x128x2x64, .f32⟩
  | .hbm, ⟨18, _⟩ => ⟨S2x64x128x2x64, .f32⟩
  | .hbm, ⟨19, _⟩ => ⟨S2x64x256x2x64, .f32⟩
  | .hbm, ⟨20, _⟩ => ⟨S2x64x2x256x128x4, .f32⟩
  | .hbm, ⟨21, _⟩ => ⟨S2x64x2x4x128x256, .f32⟩
  | .hbm, ⟨22, _⟩ => ⟨S_, .f32⟩
  | .hbm, ⟨23, _⟩ => ⟨S2x64x2x4x128x256, .f32⟩
  | .hbm, ⟨24, _⟩ => ⟨S2x64x2x4x128x256, .f32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x256, .i32⟩
  | .hbm, ⟨36, _⟩ => ⟨S64x256, .i32⟩
  | .hbm, ⟨37, _⟩ => ⟨S64x256, .i32⟩
  | .hbm, ⟨38, _⟩ => ⟨S_, .i32⟩
  | .hbm, ⟨39, _⟩ => ⟨S64x256, .i32⟩
  | .hbm, ⟨40, _⟩ => ⟨S64x256, .i1⟩
  | .hbm, ⟨41, _⟩ => ⟨S64x1x256, .i1⟩
  | .hbm, ⟨42, _⟩ => ⟨S2x4x128x256, .f32⟩
  | .hbm, ⟨43, _⟩ => ⟨S1x64x1x1x1x256, .i1⟩
  | .hbm, ⟨44, _⟩ => ⟨S1x1x2x4x128x256, .f32⟩
  | .hbm, ⟨45, _⟩ => ⟨S2x64x2x4x128x256, .f32⟩
  | .hbm, ⟨46, _⟩ => ⟨S2x64x2x4x128x256, .f32⟩
  | .hbm, ⟨47, _⟩ => ⟨S_, .f32⟩
  | .hbm, ⟨48, _⟩ => ⟨S_, .f32⟩
  | .hbm, ⟨49, _⟩ => ⟨S2x64x2x4x128x256, .i1⟩
  | .hbm, ⟨50, _⟩ => ⟨S2x64x2x4x128x256, .f32⟩
  | .hbm, ⟨51, _⟩ => ⟨S2x64x2x4x128x256, .f32⟩
  | .hbm, ⟨52, _⟩ => ⟨S2x4, .f32⟩
  | .hbm, ⟨53, _⟩ => ⟨S1x1x2x4x1x1, .f32⟩
  | .hbm, ⟨54, _⟩ => ⟨S2x64x2x4x128x1, .f32⟩
  | .hbm, ⟨55, _⟩ => ⟨S2x64x2x4x128x257, .f32⟩
  | .hbm, ⟨56, _⟩ => ⟨S_, .f32⟩
  | .hbm, ⟨57, _⟩ => ⟨S2x64x2x4x128, .f32⟩
  | .hbm, ⟨58, _⟩ => ⟨S_, .f32⟩
  | .hbm, ⟨59, _⟩ => ⟨S2x64x2x4x128, .f32⟩
  | .hbm, ⟨60, _⟩ => ⟨S2x64x2x4x128, .f32⟩
  | .hbm, ⟨61, _⟩ => ⟨S2x64x2x4x128x1, .f32⟩
  | .hbm, ⟨62, _⟩ => ⟨S2x64x2x4x128x257, .f32⟩
  | .hbm, ⟨63, _⟩ => ⟨S2x64x2x4x128x257, .f32⟩
  | .hbm, ⟨64, _⟩ => ⟨S2x64x2x4x128x257, .f32⟩
  | .hbm, ⟨65, _⟩ => ⟨S_, .f32⟩
  | .hbm, ⟨66, _⟩ => ⟨S2x64x2x4x128, .f32⟩
  | .hbm, ⟨67, _⟩ => ⟨S2x64x2x4x128x1, .f32⟩
  | .hbm, ⟨68, _⟩ => ⟨S2x64x2x4x128x257, .f32⟩
  | .hbm, ⟨69, _⟩ => ⟨S2x64x2x4x128x257, .f32⟩
  | .hbm, ⟨70, _⟩ => ⟨S2x64x2x4x128x256, .f32⟩
  | .hbm, ⟨71, _⟩ => ⟨S2x64x2x64x4x128, .f32⟩
  | .hbm, ⟨72, _⟩ => ⟨S2x64x128x2x4x64, .f32⟩
  | .hbm, ⟨73, _⟩ => ⟨S16384x512, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x2312 : Shape := ⟨2, ![1024, 2312]⟩
abbrev S768 : Shape := ⟨1, ![768]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x768 : Shape := ⟨2, ![1024, 768]⟩
abbrev S1024x2432 : Shape := ⟨2, ![1024, 2432]⟩
abbrev S1x1024 : Shape := ⟨2, ![1, 1024]⟩
abbrev S1x768 : Shape := ⟨2, ![1, 768]⟩
abbrev S16384x512 : Shape := ⟨2, ![16384, 512]⟩
abbrev S16384x128 : Shape := ⟨2, ![16384, 128]⟩
abbrev S16384x768 : Shape := ⟨2, ![16384, 768]⟩
abbrev S512x1024 : Shape := ⟨2, ![512, 1024]⟩
abbrev S512x512 : Shape := ⟨2, ![512, 512]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S512x2432 : Shape := ⟨2, ![512, 2432]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2312, .f32⟩
  | .hbm, ⟨3, _⟩ => ⟨S768, .f32⟩
  | .hbm, ⟨4, _⟩ => ⟨S1024x1536, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x768, .f32⟩
  | .hbm, ⟨10, _⟩ => ⟨S1024x2432, .f32⟩
  | .hbm, ⟨11, _⟩ => ⟨S1024x2432, .bf16⟩
  | .hbm, ⟨12, _⟩ => ⟨S1x1024, .f32⟩
  | .hbm, ⟨13, _⟩ => ⟨S1x768, .f32⟩
  | .hbm, ⟨14, _⟩ => ⟨S16384x512, .f32⟩
  | .hbm, ⟨15, _⟩ => ⟨S16384x1024, .f32⟩
  | .hbm, ⟨16, _⟩ => ⟨S16384x128, .f32⟩
  | .hbm, ⟨17, _⟩ => ⟨S16384x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S1x768, .f32⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S512x768, .f32⟩
  | .local _ .vmem, ⟨12, _⟩ => ⟨S512x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S16384x1024 : Shape := ⟨2, ![16384, 1024]⟩
abbrev S1024 : Shape := ⟨1, ![1024]⟩
abbrev S1024x2312 : Shape := ⟨2, ![1024, 2312]⟩
abbrev S768 : Shape := ⟨1, ![768]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2312 : Shape := ⟨2, ![16384, 2312]⟩
abbrev S16384x512 : Shape := ⟨2, ![16384, 512]⟩
abbrev S16384x8 : Shape := ⟨2, ![16384, 8]⟩
abbrev S16384x768 : Shape := ⟨2, ![16384, 768]⟩
abbrev S16384x128 : Shape := ⟨2, ![16384, 128]⟩
abbrev S1x768 : Shape := ⟨2, ![1, 768]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2312, .f32⟩
  | .hbm, ⟨3, _⟩ => ⟨S768, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2312, .f32⟩
  | .hbm, ⟨21, _⟩ => ⟨S16384x512, .f32⟩
  | .hbm, ⟨22, _⟩ => ⟨S16384x1024, .f32⟩
  | .hbm, ⟨23, _⟩ => ⟨S16384x8, .f32⟩
  | .hbm, ⟨24, _⟩ => ⟨S16384x768, .f32⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S1x768, .f32⟩
  | .hbm, ⟨29, _⟩ => ⟨S16384x768, .f32⟩
  | .hbm, ⟨30, _⟩ => ⟨S16384x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1024x1024x2 : Shape := ⟨4, ![32, 1024, 1024, 2]⟩
abbrev S32x1x1024x2 : Shape := ⟨4, ![32, 1, 1024, 2]⟩
abbrev S32x1024x1024x1 : Shape := ⟨4, ![32, 1024, 1024, 1]⟩
abbrev S32x1x1024x1 : Shape := ⟨4, ![32, 1, 1024, 1]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 20
  | .vmem => 16
  | .smem => 2
  | _ => 0

abbrev bufTy : (tb : Table) → Fin (tcTables nBuf tb) → BufTy
  | .hbm, ⟨0, _⟩ => ⟨S73728x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024x2, .f32⟩
  | .hbm, ⟨6, _⟩ => ⟨S32x1x1024x2, .f32⟩
  | .hbm, ⟨7, _⟩ => ⟨S32x1024x1024x1, .f32⟩
  | .hbm, ⟨8, _⟩ => ⟨S32x1024x1024, .f32⟩
  | .hbm, ⟨9, _⟩ => ⟨S32x1024x1024, .bf16⟩
  | .hbm, ⟨10, _⟩ => ⟨S32x1024x1024x1, .f32⟩
  | .hbm, ⟨11, _⟩ => ⟨S32x1024x1024, .f32⟩
  | .hbm, ⟨12, _⟩ => ⟨S32x1024x1024, .bf16⟩
  | .hbm, ⟨13, _⟩ => ⟨S32x1x1024x1, .f32⟩
  | .hbm, ⟨14, _⟩ => ⟨S32x1x1024, .f32⟩
  | .hbm, ⟨15, _⟩ => ⟨S32x1x1024x1, .f32⟩
  | .hbm, ⟨16, _⟩ => ⟨S32x1x1024, .f32⟩
  | .hbm, ⟨17, _⟩ => ⟨S32x1024x1024, .bf16⟩
  | .hbm, ⟨18, _⟩ => ⟨S32x1x1024, .f32⟩
  | .hbm, ⟨19, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x256x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048, .f32⟩
  | .hbm, ⟨27, _⟩ => ⟨S288x1x2048, .f32⟩
  | .hbm, ⟨28, _⟩ => ⟨S288x256x2048, .f32⟩
  | .hbm, ⟨29, _⟩ => ⟨S288x256x2048, .f32⟩
  | .hbm, ⟨30, _⟩ => ⟨S288x256x1024, .f32⟩
  | .hbm, ⟨31, _⟩ => ⟨S288x256x1024, .f32⟩
  | .hbm, ⟨32, _⟩ => ⟨S_, .f32⟩
  | .hbm, ⟨33, _⟩ => ⟨S288x256x1024, .f32⟩
  | .hbm, ⟨34, _⟩ => ⟨S288x256x1024, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S_, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S288x256x1024, .f32⟩
  | .hbm, ⟨45, _⟩ => ⟨S288x256x1024, .f32⟩
  | .hbm, ⟨46, _⟩ => ⟨S_, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S288x256x1024, .f32⟩
  | .hbm, ⟨53, _⟩ => ⟨S_, .f32⟩
  | .hbm, ⟨54, _⟩ => ⟨S288x256x1024, .f32⟩
  | .hbm, ⟨55, _⟩ => ⟨S288x256x1024, .f32⟩
  | .hbm, ⟨56, _⟩ => ⟨S288x256x1024, .f32⟩
  | .hbm, ⟨57, _⟩ => ⟨S_, .i32⟩
  | .hbm, ⟨58, _⟩ => ⟨S288, .i32⟩
  | .hbm, ⟨59, _⟩ => ⟨S288, .i1⟩
  | .hbm, ⟨60, _⟩ => ⟨S_, .i32⟩
  | .hbm, ⟨61, _⟩ => ⟨S288, .i32⟩
  | .hbm, ⟨62, _⟩ => ⟨S288, .i32⟩
  | .hbm, ⟨63, _⟩ => ⟨S288, .i32⟩
  | .hbm, ⟨64, _⟩ => ⟨S288x1, .i32⟩
  | .hbm, ⟨65, _⟩ => ⟨S288x1024x1024, .f32⟩
  | .hbm, ⟨66, _⟩ => ⟨S288x256x1024, .f32⟩
  | .hbm, ⟨67, _⟩ => ⟨S_, .i32⟩
  | .hbm, ⟨68, _⟩ => ⟨S288, .i32⟩
  | .hbm, ⟨69, _⟩ => ⟨S288, .i1⟩
  | .hbm, ⟨70, _⟩ => ⟨S_, .i32⟩
  | .hbm, ⟨71, _⟩ => ⟨S288, .i32⟩
  | .hbm, ⟨72, _⟩ => ⟨S288, .i32⟩
  | .hbm, ⟨73, _⟩ => ⟨S288, .i32⟩
  | .hbm, ⟨74, _⟩ => ⟨S288x1, .i32⟩
  | .hbm, ⟨75, _⟩ => ⟨S288x1024, .f32⟩
  | .hbm, ⟨76, _⟩ => ⟨S288x1x1024, .f32⟩
  | .hbm, ⟨77, _⟩ => ⟨S288x256x1024, .f32⟩
  | .hbm, ⟨78, _⟩ => ⟨S288x256x1024, .f32⟩
  | .hbm, ⟨79, _⟩ => ⟨S288, .i32⟩
  | .hbm, ⟨80, _⟩ => ⟨S288x1x1, .i32⟩
  | .hbm, ⟨81, _⟩ => ⟨S_, .i32⟩
  | .hbm, ⟨82, _⟩ => ⟨S288x1x1, .i32⟩
  | .hbm, ⟨83, _⟩ => ⟨S288x1x1, .i1⟩
  | .hbm, ⟨84, _⟩ => ⟨S_, .f32⟩
  | .hbm, ⟨85, _⟩ => ⟨S_, .f32⟩
  | .hbm, ⟨86, _⟩ => ⟨S288x256x1024, .i1⟩
  | .hbm, ⟨87, _⟩ => ⟨S288x256x1024, .f32⟩
  | .hbm, ⟨88, _⟩ => ⟨S288x256x1024, .f32⟩
  | .hbm, ⟨89, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Memkv.lean ====
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S512x512, .bf16⟩
  | .hbm, ⟨6, _⟩ => ⟨S512x512, .bf16⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemkvRefIdeal.lean ====
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mid.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S512x512 : Shape := ⟨2, ![512, 512]⟩
abbrev S512x1024 : Shape := ⟨2, ![512, 1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S_ : Shape := ⟨0, ![]⟩
abbrev S4x16384 : Shape := ⟨2, ![4, 16384]⟩
abbrev S32x128 : Shape := ⟨2, ![32, 128]⟩
abbrev S256x512 : Shape := ⟨2, ![256, 512]⟩
abbrev S4x512 : Shape := ⟨2, ![4, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S32x512 : Shape := ⟨2, ![32, 512]⟩
abbrev S1x512 : Shape := ⟨2, ![1, 512]⟩

abbrev nBuf : Space → Nat
  | .hbm => 42
  | .vmem => 31
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S512x512, .f32⟩
  | .hbm, ⟨8, _⟩ => ⟨S512x512, .f32⟩
  | .hbm, ⟨9, _⟩ => ⟨S512x1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1024x512, .bf16⟩
  | .hbm, ⟨17, _⟩ => ⟨S512x512, .bf16⟩
  | .hbm, ⟨18, _⟩ => ⟨S512x512, .bf16⟩
  | .hbm, ⟨19, _⟩ => ⟨S512x1024, .bf16⟩
  | .hbm, ⟨20, _⟩ => ⟨S1x1024, .f32⟩
  | .hbm, ⟨21, _⟩ => ⟨S32x1024, .f32⟩
  | .hbm, ⟨22, _⟩ => ⟨S32x1024, .bf16⟩
  | .hbm, ⟨23, _⟩ => ⟨S32x1, .f32⟩
  | .hbm, ⟨24, _⟩ => ⟨S_, .f32⟩
  | .hbm, ⟨25, _⟩ => ⟨S512x512, .f32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S16384x1024, .f32⟩
  | .hbm, ⟨37, _⟩ => ⟨S16384x1024, .f32⟩
  | .hbm, ⟨38, _⟩ => ⟨S4x16384, .i32⟩
  | .hbm, ⟨39, _⟩ => ⟨S4x16384, .f32⟩
  | .hbm, ⟨40, _⟩ => ⟨S4x16384, .i32⟩
  | .hbm, ⟨41, _⟩ => ⟨S32x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S512x1024, .bf16⟩
  | .local _ .vmem, ⟨15, _⟩ => ⟨S1x1024, .f32⟩
  | .local _ .vmem, ⟨16, _⟩ => ⟨S32x1024, .bf16⟩
  | .local _ .vmem, ⟨17, _⟩ => ⟨S32x1, .f32⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S4x512, .i32⟩
  | .local _ .vmem, ⟨24, _⟩ => ⟨S4x512, .i32⟩
  | .local _ .vmem, ⟨25, _⟩ => ⟨S4x512, .f32⟩
  | .local _ .vmem, ⟨26, _⟩ => ⟨S4x512, .f32⟩
  | .local _ .vmem, ⟨27, _⟩ => ⟨S4x512, .i32⟩
  | .local _ .vmem, ⟨28, _⟩ => ⟨S4x512, .i32⟩
  | .local _ .vmem, ⟨29, _⟩ => ⟨S32x128, .f32⟩
  | .local _ .vmem, ⟨30, _⟩ => ⟨S32x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_v14_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MidRefIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S512x512 : Shape := ⟨2, ![512, 512]⟩
abbrev S512x1024 : Shape := ⟨2, ![512, 1024]⟩
abbrev S1024x32 : Shape := ⟨2, ![1024, 32]⟩
abbrev S32 : Shape := ⟨1, ![32]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 78
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S512x512, .f32⟩
  | .hbm, ⟨8, _⟩ => ⟨S512x512, .f32⟩
  | .hbm, ⟨9, _⟩ => ⟨S512x1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x512, .f32⟩
  | .hbm, ⟨36, _⟩ => ⟨S2x8192x4x128, .f32⟩
  | .hbm, ⟨37, _⟩ => ⟨S2x256x4x128, .f32⟩
  | .hbm, ⟨38, _⟩ => ⟨S2x256x4x128, .f32⟩
  | .hbm, ⟨39, _⟩ => ⟨S2x4x8192x256, .f32⟩
  | .hbm, ⟨40, _⟩ => ⟨S_, .f32⟩
  | .hbm, ⟨41, _⟩ => ⟨S2x4x8192x256, .f32⟩
  | .hbm, ⟨42, _⟩ => ⟨S2x4x8192x256, .f32⟩
  | .hbm, ⟨43, _⟩ => ⟨S_, .f32⟩
  | .hbm, ⟨44, _⟩ => ⟨S2x4x8192, .f32⟩
  | .hbm, ⟨45, _⟩ => ⟨S_, .f32⟩
  | .hbm, ⟨46, _⟩ => ⟨S2x4x8192, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x8192x256, .f32⟩
  | .hbm, ⟨52, _⟩ => ⟨S_, .f32⟩
  | .hbm, ⟨53, _⟩ => ⟨S2x4x8192, .f32⟩
  | .hbm, ⟨54, _⟩ => ⟨S2x4x8192x1, .f32⟩
  | .hbm, ⟨55, _⟩ => ⟨S2x4x8192x256, .f32⟩
  | .hbm, ⟨56, _⟩ => ⟨S2x4x8192x256, .f32⟩
  | .hbm, ⟨57, _⟩ => ⟨S2x4x128x8192, .f32⟩
  | .hbm, ⟨58, _⟩ => ⟨S2x8192x4x128, .f32⟩
  | .hbm, ⟨59, _⟩ => ⟨S16384x512, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Positions.lean ====
abbrev S32 : Shape := ⟨1, ![32]⟩
abbrev S4x16384 : Shape := ⟨2, ![4, 16384]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S32, .i32⟩
  | .hbm, ⟨1, _⟩ => ⟨S4x16384, .i32⟩
  | .hbm, ⟨2, _⟩ => ⟨S4x16384, .i32⟩
  | .hbm, ⟨3, _⟩ => ⟨S4x16384, .i32⟩
  | .local _ .vmem, ⟨0, _⟩ => ⟨S4x16384, .i32⟩
  | .local _ .vmem, ⟨1, _⟩ => ⟨S4x16384, .i32⟩
  | .local _ .vmem, ⟨2, _⟩ => ⟨S4x16384, .i32⟩
  | .local _ .smem, ⟨0, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PositionsRefIdeal.lean ====
abbrev S32 : Shape := ⟨1, ![32]⟩
abbrev S4x16384 : Shape := ⟨2, ![4, 16384]⟩
abbrev S_ : Shape := ⟨0, ![]⟩
abbrev S4x16384x1 : Shape := ⟨3, ![4, 16384, 1]⟩

abbrev nBuf : Space → Nat
  | .hbm => 13
  | .vmem => 0
  | .smem => 0
  | _ => 0

abbrev bufTy : (tb : Table) → Fin (tcTables nBuf tb) → BufTy
  | .hbm, ⟨0, _⟩ => ⟨S32, .i32⟩
  | .hbm, ⟨1, _⟩ => ⟨S4x16384, .i32⟩
  | .hbm, ⟨2, _⟩ => ⟨S4x16384, .i32⟩
  | .hbm, ⟨3, _⟩ => ⟨S_, .i32⟩
  | .hbm, ⟨4, _⟩ => ⟨S4x16384, .i32⟩
  | .hbm, ⟨5, _⟩ => ⟨S4x16384, .i1⟩
  | .hbm, ⟨6, _⟩ => ⟨S_, .i32⟩
  | .hbm, ⟨7, _⟩ => ⟨S4x16384, .i32⟩
  | .hbm, ⟨8, _⟩ => ⟨S4x16384, .i32⟩
  | .hbm, ⟨9, _⟩ => ⟨S4x16384, .i32⟩
  | .hbm, ⟨10, _⟩ => ⟨S4x16384x1, .i32⟩
  | .hbm, ⟨11, _⟩ => ⟨S4x16384, .i32⟩
  | .hbm, ⟨12, _⟩ => ⟨S4x16384, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Bias.lean ====
abbrev S32x8 : Shape := ⟨2, ![32, 8]⟩
abbrev S128x256 : Shape := ⟨2, ![128, 256]⟩
abbrev S8x128x256 : Shape := ⟨3, ![8, 128, 256]⟩
abbrev S1x1 : Shape := ⟨2, ![1, 1]⟩
abbrev S1x128x256 : Shape := ⟨3, ![1, 128, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S8x128x256, .f32⟩
  | .local _ .vmem, ⟨0, _⟩ => ⟨S128x256, .i32⟩
  | .local _ .vmem, ⟨1, _⟩ => ⟨S8x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasRefIdeal.lean ====
abbrev S32x8 : Shape := ⟨2, ![32, 8]⟩
abbrev S128x256 : Shape := ⟨2, ![128, 256]⟩
abbrev S1x128x256 : Shape := ⟨3, ![1, 128, 256]⟩
abbrev S_ : Shape := ⟨0, ![]⟩
abbrev S128x256x1 : Shape := ⟨3, ![128, 256, 1]⟩
abbrev S128x256x8 : Shape := ⟨3, ![128, 256, 8]⟩
abbrev S8x128x256 : Shape := ⟨3, ![8, 128, 256]⟩

abbrev nBuf : Space → Nat
  | .hbm => 21
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S1x128x256, .i32⟩
  | .hbm, ⟨3, _⟩ => ⟨S_, .i32⟩
  | .hbm, ⟨4, _⟩ => ⟨S1x128x256, .i32⟩
  | .hbm, ⟨5, _⟩ => ⟨S1x128x256, .i1⟩
  | .hbm, ⟨6, _⟩ => ⟨S_, .i32⟩
  | .hbm, ⟨7, _⟩ => ⟨S128x256, .i32⟩
  | .hbm, ⟨8, _⟩ => ⟨S128x256, .i1⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S128x256x1, .i32⟩
  | .hbm, ⟨14, _⟩ => ⟨S128x256x8, .f32⟩
  | .hbm, ⟨15, _⟩ => ⟨S8x128x256, .f32⟩
  | .hbm, ⟨16, _⟩ => ⟨S_, .f32⟩
  | .hbm, ⟨17, _⟩ => ⟨S_, .f32⟩
  | .hbm, ⟨18, _⟩ => ⟨S8x128x256, .i1⟩
  | .hbm, ⟨19, _⟩ => ⟨S8x128x256, .f32⟩
  | .hbm, ⟨20, _⟩ => ⟨S8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.InprojValue.lean ====
/-
  Hand-written, untrusted. The input projection: what the pipelined kernel's four result arrays hold after its run, index by
  index, as the plain mathematics: `u = x * rsqrt(mean(x*x) + eps) * g` row by row, then `u @ w_in` cut into its column ranges.
-/
module

public import proofs.«01_k».proof.Defs
public import proofs.«01_k».proof.Proof.Gen.InprojIdeal.Value
public import proofs.«01_k».proof.Proof.Gen.InprojRefIdeal.Run
public import Idealize.ShloMosaic.Lib.Pipeline.Value
public import Idealize.ShloMosaic.Lib.Pointwise
public import Idealize.ShloMosaic.Lib.Claim

@[expose] public section

noncomputable section

namespace Cert.InprojIdeal.Rows

open Cert.InprojIdeal Cert.InprojIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- One element of the normalised row: `x[r,k] * rsqrt(sum_j x[r,j]^2 / 1024 + eps) * g[k]`. -/
def normed (x : Fin 1024 → EReal) (g : Fin 1024 → EReal) (k : Fin 1024) : EReal :=
  x k * FloatOps.rsqrt (F := Ideal) (φ := .f32) (Ideal.div (∑ j : Fin 1024, x j * x j) (Ideal.ofBits .f32 0x44800000#32) + Ideal.ofBits .f32 0x3727C5AC#32) * g k

theorem hz2 : (![0, 0] : Fin 2 → Nat) = fun _ => 0 := funext fun a => by fin_cases a <;> rfl

/-- The product the body computes once per block, read at row `r` and column `j`. -/
theorem pay1_apply (v0 : Vec Ideal S512x1024 .f32) (v1 : Vec Ideal S1x1024 .f32) (v16 : Vec Ideal S1024x2432 .bf16) (r : Fin 512) (j : Fin 2432) :
    k0_pay1 v0 v1 v16 (ix2 r j) = ∑ k : Fin 1024, normed (fun k => v0 (ix2 r k)) (fun k => v1 (ix2 0 k)) k * v16 (ix2 k j) := by
  pointwise [k0_pay1, normed]

/-- The first window's index map: row block `t`, column block 0; so too for the four results; the other windows stay at 0. -/
theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- Block `t` of the first window is rows `512 t …` of the activations. -/
theorem iblk0_apply (c : Dev nD) (t : Fin cfg0.N) (r : Fin 512) (k : Fin 1024) (R : Fin 16384) (hR : (R : Nat) = t.val * 512 + r) :
    (iblk m c 0 t : Vec Ideal S512x1024 .f32) (ix2 r k) = (m ((c : Thread nD τ).loc main_arg0) : Vec Ideal S16384x1024 .f32) (ix2 R k) := by
  show (V m c main_arg0 : Vec Ideal S16384x1024 .f32) ((win0_0.rect t).emb (ix2 r k)) = _
  rw [V_main_arg0]
  refine congrArg _ (Shape.idx_ext₂ ?_ ?_)
  · rw [Pipeline.Window.rect_emb_val win0_0 t (ix2 r k) 0, (index_facts t).1.1]; exact hR.symm
  · rw [Pipeline.Window.rect_emb_val win0_0 t (ix2 r k) 1, (index_facts t).1.2]; exact (Nat.zero_mul _).symm ▸ Nat.zero_add _

/-- The weight the second window's block holds at column `k`. -/
theorem iblk1_apply (c : Dev nD) (t : Fin cfg0.N) (k : Fin 1024) :
    (iblk m c 1 t : Vec Ideal S1x1024 .f32) (ix2 0 k) = (m ((c : Thread nD τ).loc main_arg1) : Vec Ideal S1024 .f32) (ix1 k) := by
  show (V m c main_v6 : Vec Ideal S1x1024 .f32) ((win0_1.rect t).emb (ix2 0 k)) = _
  have e : (win0_1.rect t).emb (ix2 0 k) = (ix2 0 k : S1x1024.Idx) := Shape.idx_ext₂
    (Pipeline.Window.rect_emb_val_of_index_zero win0_1 t 0 (index_facts t).2.1.1 (ix2 0 k)) (Pipeline.Window.rect_emb_val_of_index_zero win0_1 t 1 (index_facts t).2.1.2 (ix2 0 k))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

/-- The bias the fourth window's block holds at column `j`. -/
theorem iblk3_apply (c : Dev nD) (t : Fin cfg0.N) (j : Fin 768) :
    (iblk m c 3 t : Vec Ideal S1x768 .f32) (ix2 0 j) = (m ((c : Thread nD τ).loc main_arg3) : Vec Ideal S768 .f32) (ix1 j) := by
  show (V m c main_v7 : Vec Ideal S1x768 .f32) ((win0_3.rect t).emb (ix2 0 j)) = _
  have e : (win0_3.rect t).emb (ix2 0 j) = (ix2 0 j : S1x768.Idx) := Shape.idx_ext₂
    (Pipeline.Window.rect_emb_val_of_index_zero win0_3 t 0 (index_facts t).2.2.2.1.1 (ix2 0 j)) (Pipeline.Window.rect_emb_val_of_index_zero win0_3 t 1 (index_facts t).2.2.2.1.2 (ix2 0 j))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

/-- Three column ranges side by side: 1536, 128 and 768 columns. -/
def beside (x : Vec Ideal S1024x1536 .f32) (y : Vec Ideal S1024x128 .f32) (z : Vec Ideal S1024x768 .f32) : Vec Ideal S1024x2432 .f32 :=
  concatenate S1024x2432 1 [⟨S1024x1536, x⟩, ⟨S1024x128, y⟩, ⟨S1024x768, z⟩] concatenates_S1024x1536_S1024x128_S1024x768_S1024x2432_d1

/-- Equal column ranges side by side are equal. -/
theorem beside_congr {x x' : Vec Ideal S1024x1536 .f32} {y y' : Vec Ideal S1024x128 .f32} {z z' : Vec Ideal S1024x768 .f32} (hx : x = x') (hy : y = y') (hz : z = z') :
    concatenate S1024x2432 1 [⟨S1024x1536, x⟩, ⟨S1024x128, y⟩, ⟨S1024x768, z⟩] concatenates_S1024x1536_S1024x128_S1024x768_S1024x2432_d1 = beside x' y' z' := by
  subst hx hy hz; rfl

/-- The matrix the region is entered with: the columns of `w_in` re-laid with the 8 of `dt` padded to 128. -/
theorem V_w (c : Dev nD) : V m c main_v5 = (truncf (F := Ideal) (s := S1024x2432) (φ := .f32) .bf16 (beside
    (extractStridedSlice S1024x1536 ![0, 0] (m ((c : Thread nD τ).loc main_arg2)) slices_S1024x2312_S1024x1536_0_0)
    (pad S1024x128 ![0, 0] ![0, 120] ![0, 0] (extractStridedSlice S1024x8 ![0, 1536] (m ((c : Thread nD τ).loc main_arg2)) slices_S1024x2312_S1024x8_0_1536) (sitofp (F := Ideal) .f32 (constantI S_ 32 0#32)) pads_S1024x8_S1024x128_000_01200 h_S_)
    (extractStridedSlice S1024x768 ![0, 1544] (m ((c : Thread nD τ).loc main_arg2)) slices_S1024x2312_S1024x768_0_1544)) bitsLt_bf16_f32 : Vec Ideal S1024x2432 .bf16) := by
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  refine congrArg (fun v => truncf (F := Ideal) (s := S1024x2432) (φ := .f32) .bf16 v bitsLt_bf16_f32) (beside_congr ?_ ?_ ?_) <;> dsimp only [Matrix.cons_val] <;> after_results_simp

/-- The re-laid matrix the third window's block holds: columns below 1536 as they are, then the 8 of `dt` padded by zeros to
    128, then the last 768. -/
theorem iblk2_apply (c : Dev nD) (t : Fin cfg0.N) (k : Fin 1024) (j : Fin 2432) :
    (iblk m c 2 t : Vec Ideal S1024x2432 .bf16) (ix2 k j) =
      if h : (j : Nat) < 1544 then (m ((c : Thread nD τ).loc main_arg2) : Vec Ideal S1024x2312 .f32) (ix2 k ⟨j, by omega⟩)
      else if h : (j : Nat) < 1664 then (0 : EReal) else (m ((c : Thread nD τ).loc main_arg2) : Vec Ideal S1024x2312 .f32) (ix2 k ⟨j - 120, by omega⟩) := by
  show (V m c main_v5 : Vec Ideal S1024x2432 .bf16) ((win0_2.rect t).emb (ix2 k j)) = _
  have e : (win0_2.rect t).emb (ix2 k j) = (ix2 k j : S1024x2432.Idx) := Shape.idx_ext₂
    (Pipeline.Window.rect_emb_val_of_index_zero win0_2 t 0 (index_facts t).2.2.1.1 (ix2 k j)) (Pipeline.Window.rect_emb_val_of_index_zero win0_2 t 1 (index_facts t).2.2.1.2 (ix2 k j))
  rw [e, V_w]
  generalize (m ((c : Thread nD τ).loc main_arg2) : Vec Ideal S1024x2312 .f32) = w
  pointwise [beside]
  by_cases h1 : (j : Nat) < 1536
  · rw [dif_pos h1, dif_pos (by omega)]
  · rw [dif_neg h1]
    by_cases h2 : (j : Nat) - 1536 < 128
    · rw [dif_pos h2]
      by_cases h3 : (j : Nat) - 1536 < 8
      · have h4 : (j : Nat) < 1544 := by omega
        refine (dif_pos h3).trans (Eq.trans ?_ (dif_pos h4).symm)
        exact congrArg (fun a => w (ix2 k a)) (Fin.ext (Nat.add_sub_of_le (Nat.le_of_not_lt h1)))
      · rw [dif_neg h3, dif_neg (by omega), dif_pos (by omega)]
        show (((0#32 : BitVec 32).toInt : ℝ) : EReal) = 0
        simp
    · rw [dif_neg h2, dif_neg (by omega), dif_neg (by omega)]
      exact congrArg (fun a => w (ix2 k a)) (Fin.ext (by show 1544 + ((j : Nat) - 1536 - 128) = (j : Nat) - 120; omega))

/-- The product's element at row `R` and column `j` of `w_in`. -/
def proj (c : Dev nD) (R : Fin 16384) (j : Fin 2312) : EReal :=
  ∑ k : Fin 1024, normed (fun k => (m ((c : Thread nD τ).loc main_arg0) : Vec Ideal S16384x1024 .f32) (ix2 R k))
    (fun k => (m ((c : Thread nD τ).loc main_arg1) : Vec Ideal S1024 .f32) (ix1 k)) k
    * (m ((c : Thread nD τ).loc main_arg2) : Vec Ideal S1024x2312 .f32) (ix2 k j)

/-- The first result: columns 0 … 511. -/
def G4 (c : Dev nD) : Vec Ideal S16384x512 .f32 := fun i => proj m c (i 0) ⟨i 1, (i 1).isLt.trans (by decide)⟩
/-- The second result: columns 512 … 1535. -/
def G5 (c : Dev nD) : Vec Ideal S16384x1024 .f32 := fun i => proj m c (i 0) ⟨512 + i 1, by have := (i 1).isLt; change (i 1 : Nat) < 1024 at this; omega⟩
/-- The third result: columns 1536 … 1543, then zeros. -/
def G6 (c : Dev nD) : Vec Ideal S16384x128 .f32 := fun i => if h : (i 1 : Nat) < 8 then proj m c (i 0) ⟨1536 + i 1, by omega⟩ else 0
/-- The fourth result: columns 1544 … 2311 and the bias. -/
def G7 (c : Dev nD) : Vec Ideal S16384x768 .f32 := fun i =>
  proj m c (i 0) ⟨1544 + i 1, by have := (i 1).isLt; change (i 1 : Nat) < 768 at this; omega⟩ + (m ((c : Thread nD τ).loc main_arg3) : Vec Ideal S768 .f32) (ix1 (i 1))

/-- The body's product over block `t`, read at a column of the matrix as given. -/
theorem block_apply (c : Dev nD) (t : Fin cfg0.N) (r : Fin 512) (R : Fin 16384) (hR : (R : Nat) = t.val * 512 + r) (j : Fin 2432) (J : Fin 2312)
    (hJ : (j : Nat) < 1544 ∧ (J : Nat) = j ∨ 1664 ≤ (j : Nat) ∧ (J : Nat) = j - 120) :
    k0_pay1 (iblk m c 0 t : Vec Ideal S512x1024 .f32) (iblk m c 1 t : Vec Ideal S1x1024 .f32) (iblk m c 2 t : Vec Ideal S1024x2432 .bf16) (ix2 r j) = proj m c R J := by
  rw [pay1_apply]
  refine Finset.sum_congr rfl fun k _ => ?_
  simp only [iblk0_apply m c t r _ R hR, iblk1_apply, iblk2_apply]
  rcases hJ with ⟨h, e⟩ | ⟨h, e⟩
  · rw [dif_pos h, show (⟨j, by omega⟩ : Fin 2312) = J from Fin.ext e.symm]
  · rw [dif_neg (by omega), dif_neg (by omega), show (⟨j - 120, by omega⟩ : Fin 2312) = J from Fin.ext e.symm]

/-- The body's product over block `t`, read at a padding column. -/
theorem block_pad_apply (c : Dev nD) (t : Fin cfg0.N) (r : Fin 512) (j : Fin 2432) (hj : 1544 ≤ (j : Nat)) (hj' : (j : Nat) < 1664) :
    k0_pay1 (iblk m c 0 t : Vec Ideal S512x1024 .f32) (iblk m c 1 t : Vec Ideal S1x1024 .f32) (iblk m c 2 t : Vec Ideal S1024x2432 .bf16) (ix2 r j) = (0 : EReal) := by
  rw [pay1_apply]
  refine Finset.sum_eq_zero fun k _ => ?_
  rw [iblk2_apply, dif_neg (by omega), dif_pos hj', mul_zero]

/-- The row of the array that row `r` of block `t` is. -/
def row (t : Fin cfg0.N) (r : Fin 512) : Fin 16384 := ⟨t.val * 512 + r, by have h : t.val < 32 := t.isLt; have := r.isLt; omega⟩

/-- Where element `(y0, y1)` of block `t` of result window 4 lies in the array. -/
theorem emb4 (t : Fin cfg0.N) (y0 : Fin 512) (y1 : Fin 512) : (win0_4.rect t).emb (ix2 y0 y1) = (ix2 (row t y0) y1 : S16384x512.Idx) :=
  Shape.idx_ext₂ (by rw [Pipeline.Window.rect_emb_val win0_4 t _ 0, (index_facts t).2.2.2.2.1.1]; rfl)
    (Pipeline.Window.rect_emb_val_of_index_zero win0_4 t 1 (index_facts t).2.2.2.2.1.2 (ix2 y0 y1))

/-- Where element `(y0, y1)` of block `t` of result window 5 lies in the array. -/
theorem emb5 (t : Fin cfg0.N) (y0 : Fin 512) (y1 : Fin 1024) : (win0_5.rect t).emb (ix2 y0 y1) = (ix2 (row t y0) y1 : S16384x1024.Idx) :=
  Shape.idx_ext₂ (by rw [Pipeline.Window.rect_emb_val win0_5 t _ 0, (index_facts t).2.2.2.2.2.1.1]; rfl)
    (Pipeline.Window.rect_emb_val_of_index_zero win0_5 t 1 (index_facts t).2.2.2.2.2.1.2 (ix2 y0 y1))

/-- Where element `(y0, y1)` of block `t` of result window 6 lies in the array. -/
theorem emb6 (t : Fin cfg0.N) (y0 : Fin 512) (y1 : Fin 128) : (win0_6.rect t).emb (ix2 y0 y1) = (ix2 (row t y0) y1 : S16384x128.Idx) :=
  Shape.idx_ext₂ (by rw [Pipeline.Window.rect_emb_val win0_6 t _ 0, (index_facts t).2.2.2.2.2.2.1.1]; rfl)
    (Pipeline.Window.rect_emb_val_of_index_zero win0_6 t 1 (index_facts t).2.2.2.2.2.2.1.2 (ix2 y0 y1))

/-- Where element `(y0, y1)` of block `t` of result window 7 lies in the array. -/
theorem emb7 (t : Fin cfg0.N) (y0 : Fin 512) (y1 : Fin 768) : (win0_7.rect t).emb (ix2 y0 y1) = (ix2 (row t y0) y1 : S16384x768.Idx) :=
  Shape.idx_ext₂ (by rw [Pipeline.Window.rect_emb_val win0_7 t _ 0, (index_facts t).2.2.2.2.2.2.2.1]; rfl)
    (Pipeline.Window.rect_emb_val_of_index_zero win0_7 t 1 (index_facts t).2.2.2.2.2.2.2.2 (ix2 y0 y1))

/-- What point `t` writes back of the first result is block `t` of `G4`. -/
theorem flushed4_eq (c : Dev nD) (t : Fin cfg0.N) :
    (dats m 0 c).flushed 4 t = ((cfg0.win 4).blk t).view.read (Elt Ideal) (G4 m c) := by
  rw [Value.flushed4]
  unfold out0_4
  rw [View.canon_unit_zero (S := S512x512) hz2, View.ld_unit_zero (S := S512x1024) hz2, View.ld_unit_zero (S := S1x1024) hz2, View.ld_unit_zero (S := S1024x2432) hz2]
  funext y
  idx_vars y
  show _ = G4 m c ((win0_4.rect t).emb (ix2 y0 y1))
  rw [emb4]
  show k0_pay2 _ _ _ (ix2 y0 y1) = _
  pointwise [k0_pay2]
  exact block_apply m c t y0 _ rfl _ _ (Or.inl ⟨by have := y1.isLt; show (y1 : Nat) < 1544; omega, rfl⟩)

/-- What point `t` writes back of the second result is block `t` of `G5`. -/
theorem flushed5_eq (c : Dev nD) (t : Fin cfg0.N) :
    (dats m 0 c).flushed 5 t = ((cfg0.win 5).blk t).view.read (Elt Ideal) (G5 m c) := by
  rw [Value.flushed5]
  unfold out0_5
  rw [View.canon_unit_zero (S := S512x1024) hz2, View.ld_unit_zero (S := S512x1024) hz2, View.ld_unit_zero (S := S1x1024) hz2, View.ld_unit_zero (S := S1024x2432) hz2]
  funext y
  idx_vars y
  show _ = G5 m c ((win0_5.rect t).emb (ix2 y0 y1))
  rw [emb5]
  show k0_pay3 _ _ _ (ix2 y0 y1) = _
  pointwise [k0_pay3]
  exact block_apply m c t y0 _ rfl _ _ (Or.inl ⟨by have := y1.isLt; show 512 + (y1 : Nat) < 1544; omega, rfl⟩)

/-- What point `t` writes back of the third result is block `t` of `G6`. -/
theorem flushed6_eq (c : Dev nD) (t : Fin cfg0.N) :
    (dats m 0 c).flushed 6 t = ((cfg0.win 6).blk t).view.read (Elt Ideal) (G6 m c) := by
  rw [Value.flushed6]
  unfold out0_6
  rw [View.canon_unit_zero (S := S512x128) hz2, View.ld_unit_zero (S := S512x1024) hz2, View.ld_unit_zero (S := S1x1024) hz2, View.ld_unit_zero (S := S1024x2432) hz2]
  funext y
  idx_vars y
  show _ = G6 m c ((win0_6.rect t).emb (ix2 y0 y1))
  rw [emb6]
  show k0_pay4 _ _ _ (ix2 y0 y1) = _
  pointwise [k0_pay4]
  show _ = if h : (y1 : Nat) < 8 then proj m c (row t y0) ⟨1536 + y1, by omega⟩ else 0
  by_cases h : (y1 : Nat) < 8
  · rw [dif_pos h]
    exact block_apply m c t y0 _ rfl _ _ (Or.inl ⟨by show 1536 + (y1 : Nat) < 1544; omega, rfl⟩)
  · rw [dif_neg h]
    exact block_pad_apply m c t y0 _ (by show 1544 ≤ 1536 + (y1 : Nat); omega) (by have := y1.isLt; show 1536 + (y1 : Nat) < 1664; omega)

/-- What point `t` writes back of the fourth result is block `t` of `G7`. -/
theorem flushed7_eq (c : Dev nD) (t : Fin cfg0.N) :
    (dats m 0 c).flushed 7 t = ((cfg0.win 7).blk t).view.read (Elt Ideal) (G7 m c) := by
  rw [Value.flushed7]
  unfold out0_7
  rw [View.canon_unit_zero (S := S512x768) hz2, View.ld_unit_zero (S := S512x1024) hz2, View.ld_unit_zero (S := S1x1024) hz2, View.ld_unit_zero (S := S1024x2432) hz2, View.ld_unit_zero (S := S1x768) hz2]
  funext y
  idx_vars y
  show _ = G7 m c ((win0_7.rect t).emb (ix2 y0 y1))
  rw [emb7]
  show k0_pay5 _ _ _ _ (ix2 y0 y1) = _
  pointwise [k0_pay5]
  rw [iblk3_apply]
  exact congrArg (· + _) (block_apply m c t y0 _ rfl _ _ (Or.inr ⟨Nat.le_add_right _ _, by show 1544 + (y1 : Nat) = 1664 + (y1 : Nat) - 120; omega⟩))

/-- The block that holds a row. -/
def blockOf (r : Fin 16384) : Fin cfg0.N := ⟨r.val / 512, by show r.val / 512 < 32; have := r.isLt; omega⟩
/-- The row's place within that block. -/
def within (r : Fin 16384) : Fin 512 := ⟨r.val % 512, Nat.mod_lt _ (by decide)⟩

theorem row_within (r : Fin 16384) : row (blockOf r) (within r) = r := Fin.ext (by show r.val / 512 * 512 + r.val % 512 = r.val; omega)

/-- Result window 4 holds `G4` after the run: the 32 blocks of 512 rows are all of its rows. -/
theorem arr4_eq (c : Dev nD) : (dats m 0 c).arrAt 4 cfg0.N = G4 m c := by
  refine (dats m 0 c).arrAt_eq_of_cover 4 (G4 m c) (fun t _ => flushed4_eq m c t) fun i => ⟨blockOf (i 0), flush0_4 _, ?_⟩
  idx_vars i
  have e : (win0_4.rect (blockOf i0)).emb (ix2 (within i0) i1) = (ix2 i0 i1 : S16384x512.Idx) := (emb4 _ _ _).trans (by rw [row_within])
  rw [← e]
  exact View.emb_mem_set ((cfg0.win 4).blk (blockOf i0)).view (ix2 (within i0) i1)

/-- Result window 5 holds `G5` after the run: the 32 blocks of 512 rows are all of its rows. -/
theorem arr5_eq (c : Dev nD) : (dats m 0 c).arrAt 5 cfg0.N = G5 m c := by
  refine (dats m 0 c).arrAt_eq_of_cover 5 (G5 m c) (fun t _ => flushed5_eq m c t) fun i => ⟨blockOf (i 0), flush0_5 _, ?_⟩
  idx_vars i
  have e : (win0_5.rect (blockOf i0)).emb (ix2 (within i0) i1) = (ix2 i0 i1 : S16384x1024.Idx) := (emb5 _ _ _).trans (by rw [row_within])
  rw [← e]
  exact View.emb_mem_set ((cfg0.win 5).blk (blockOf i0)).view (ix2 (within i0) i1)

/-- Result window 6 holds `G6` after the run: the 32 blocks of 512 rows are all of its rows. -/
theorem arr6_eq (c : Dev nD) : (dats m 0 c).arrAt 6 cfg0.N = G6 m c := by
  refine (dats m 0 c).arrAt_eq_of_cover 6 (G6 m c) (fun t _ => flushed6_eq m c t) fun i => ⟨blockOf (i 0), flush0_6 _, ?_⟩
  idx_vars i
  have e : (win0_6.rect (blockOf i0)).emb (ix2 (within i0) i1) = (ix2 i0 i1 : S16384x128.Idx) := (emb6 _ _ _).trans (by rw [row_within])
  rw [← e]
  exact View.emb_mem_set ((cfg0.win 6).blk (blockOf i0)).view (ix2 (within i0) i1)

/-- Result window 7 holds `G7` after the run: the 32 blocks of 512 rows are all of its rows. -/
theorem arr7_eq (c : Dev nD) : (dats m 0 c).arrAt 7 cfg0.N = G7 m c := by
  refine (dats m 0 c).arrAt_eq_of_cover 7 (G7 m c) (fun t _ => flushed7_eq m c t) fun i => ⟨blockOf (i 0), flush0_7 _, ?_⟩
  idx_vars i
  have e : (win0_7.rect (blockOf i0)).emb (ix2 (within i0) i1) = (ix2 i0 i1 : S16384x768.Idx) := (emb7 _ _ _).trans (by rw [row_within])
  rw [← e]
  exact View.emb_mem_set ((cfg0.win 7).blk (blockOf i0)).view (ix2 (within i0) i1)

end Cert.InprojIdeal.Rows

end
-- ==== Proof.InprojClaim.lean ====
module

public import proofs.«01_k».proof.Proof.InprojValue

/-!
# The in-projection against its reference

The reference's one product, normed rows of `x` by `w_in`, read at an index; its four results; and the claim.
-/

@[expose] public section

noncomputable section

namespace Cert.InprojRefIdeal.Rows

open Cert.InprojRefIdeal Cert.InprojRefIdeal.Gen Idealize.ShloMosaic Idealize.ShloMosaic.TcCoe Idealize.SL.Sem
open Cert.InprojIdeal.Rows (normed)
open scoped BigOperators

/-- The reference's product: the rows of `x`, each divided by its root mean square and scaled by `g`, times `w`. -/
def product (x : Vec Ideal S16384x1024 .f32) (g : Vec Ideal S1024 .f32) (w : Vec Ideal S1024x2312 .f32) : FVec Ideal S16384x2312 .f32 :=
  Host.dotGeneral (F := Ideal) (φ₁ := .f32) (φ₂ := .f32) dot_S16384x1024_S1024x2312_S16384x2312_1_0_0_1_n_n none
    (mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    w

/-- The product at row `R` and column `j`. -/
theorem product_apply (x : Vec Ideal S16384x1024 .f32) (g : Vec Ideal S1024 .f32) (w : Vec Ideal S1024x2312 .f32) (R : Fin 16384) (j : Fin 2312) :
    product x g w (ix2 R j) = ∑ k : Fin 1024, normed (fun k => x (ix2 R k)) (fun k => g (ix1 k)) k * w (ix2 k j) := by
  pointwise [product, normed]

end Cert.InprojRefIdeal.Rows

namespace Cert.InprojIdeal.Rows

open Idealize.ShloMosaic Idealize.ShloMosaic.TcCoe Idealize.SL.Sem
open Cert.InprojRefIdeal.Rows (product product_apply)

variable (m : (ℓ : Loc nD τ sig) → Buf (Elt Ideal) ℓ)

/-- The reference's product of the arguments is the product the kernel's results are stated by. -/
theorem product_eq_proj (c : Dev nD) (R : Fin 16384) (j : Fin 2312) :
    product (m ((c : Thread nD τ).loc main_arg0)) (m ((c : Thread nD τ).loc main_arg1)) (m ((c : Thread nD τ).loc main_arg2)) (ix2 R j) = proj m c R j :=
  product_apply _ _ _ R j

/-- The reference's four results, at the kernel's arguments, are `G4` … `G7`. -/
theorem ref4_eq (c : Dev nD) : (extractStridedSlice Cert.InprojRefIdeal.S16384x512 ![0, 0]
    (product (m ((c : Thread nD τ).loc main_arg0)) (m ((c : Thread nD τ).loc main_arg1)) (m ((c : Thread nD τ).loc main_arg2)))
    Cert.InprojRefIdeal.Gen.slices_S16384x2312_S16384x512_0_0 : Vec Ideal S16384x512 .f32) = G4 m c := by
  funext i
  idx_vars i
  pointwise
  rw [product_eq_proj]
  rfl

/-- The second result. -/
theorem ref5_eq (c : Dev nD) : (extractStridedSlice Cert.InprojRefIdeal.S16384x1024 ![0, 512] (product (m ((c : Thread nD τ).loc main_arg0)) (m ((c : Thread nD τ).loc main_arg1)) (m ((c : Thread nD τ).loc main_arg2)))
    Cert.InprojRefIdeal.Gen.slices_S16384x2312_S16384x1024_0_512 : Vec Ideal S16384x1024 .f32) = G5 m c := by
  funext i
  idx_vars i
  pointwise
  rw [product_eq_proj]
  rfl

/-- The third result, padded by zeros. -/
theorem ref6_eq (c : Dev nD) : (pad Cert.InprojRefIdeal.S16384x128 ![0, 0] ![0, 120] ![0, 0] (extractStridedSlice Cert.InprojRefIdeal.S16384x8 ![0, 1536] (product (m ((c : Thread nD τ).loc main_arg0)) (m ((c : Thread nD τ).loc main_arg1)) (m ((c : Thread nD τ).loc main_arg2)))
    Cert.InprojRefIdeal.Gen.slices_S16384x2312_S16384x8_0_1536) (sitofp (F := Ideal) .f32 (constantI Cert.InprojRefIdeal.S_ 32 0#32))
    Cert.InprojRefIdeal.Gen.pads_S16384x8_S16384x128_000_01200 Cert.InprojRefIdeal.Gen.h_S_ : Vec Ideal S16384x128 .f32) = G6 m c := by
  funext i
  idx_vars i
  pointwise
  by_cases h : (i1 : Nat) < 8
  · refine (dif_pos h).trans (Eq.trans ?_ (dif_pos h).symm)
    exact product_eq_proj m c i0 _
  · refine (dif_neg h).trans (Eq.trans ?_ (dif_neg h).symm)
    show (((0#32 : BitVec 32).toInt : ℝ) : EReal) = 0
    simp

/-- The fourth result, with its bias. -/
theorem ref7_eq (c : Dev nD) : (addf (F := Ideal) (φ := .f32) (extractStridedSlice Cert.InprojRefIdeal.S16384x768 ![0, 1544] (product (m ((c : Thread nD τ).loc main_arg0)) (m ((c : Thread nD τ).loc main_arg1)) (m ((c : Thread nD τ).loc main_arg2)))
    Cert.InprojRefIdeal.Gen.slices_S16384x2312_S16384x768_0_1544)
    (broadcastInDim Cert.InprojRefIdeal.S16384x768 ![0, 1] Cert.InprojRefIdeal.Gen.bcast_S1x768_S16384x768_0_1
      (broadcastInDim Cert.InprojRefIdeal.S1x768 ![1] Cert.InprojRefIdeal.Gen.bcast_S768_S1x768_1 (m ((c : Thread nD τ).loc main_arg3)))) : Vec Ideal S16384x768 .f32) = G7 m c := by
  funext i
  idx_vars i
  pointwise
  rw [product_eq_proj]
  rfl

/-- Both runs of the in-projection: from memories that agree on the arguments, the kernel's four results and the reference's
    four results are the same arrays, and each program leaves its arguments as they were. -/
theorem algebraic : Cert.algebraic_InprojIdeal_InprojRefIdeal (hInprojIdeal := Cert.InprojIdeal.Gen.facts) (hInprojRefIdeal := Cert.InprojRefIdeal.Gen.facts) := by
  intro m g m' g' _ hargs
  refine ⟨G4 m, G5 m, G6 m, G7 m, ?_, ?_⟩
  · refine (θ_run defs _ _).mono (fun r h c => ?_) (Value.run_blocks m g)
    obtain ⟨h4, h5, h6, h7, ha⟩ := h c
    exact ⟨h4.trans (arr4_eq m c), h5.trans (arr5_eq m c), h6.trans (arr6_eq m c), h7.trans (arr7_eq m c), ha⟩
  · refine (θ_run Cert.InprojRefIdeal.defs _ _).mono (fun r h c => ?_) (Cert.InprojRefIdeal.Value.run m' g')
    obtain ⟨h4, h5, h6, h7, ha⟩ := h c
    obtain ⟨a0, a1, a2, a3⟩ := hargs c
    rw [a0, a1, a2] at h4 h5 h6 h7
    rw [a3] at h7
    exact ⟨h4.trans (ref4_eq m c), h5.trans (ref5_eq m c), h6.trans (ref6_eq m c), h7.trans (ref7_eq m c), ha⟩

end Cert.InprojIdeal.Rows

end
-- ==== Proof.SwaBody.lean ====
module

public import proofs.«01_k».proof.Defs
public import proofs.«01_k».proof.Proof.Gen.KernelIdeal.Value
public import Idealize.ShloMosaic.Lib.Pipeline.Value
public import Idealize.ShloMosaic.Lib.Pointwise
public import Idealize.ShloMosaic.Lib.Claim
public import Idealize.ShloMosaic.Lib.Pipeline.ValueKit

@[expose] public section

noncomputable section

namespace Cert.KernelIdeal.Attention

open Cert.KernelIdeal Cert.KernelIdeal.Gen Idealize.ShloMosaic Idealize.ShloMosaic.TcCoe Idealize.SL.Sem
open Idealize.ShloMosaic.Pipeline (Dat)
open scoped BigOperators

theorem hz2 : (![0, 0] : Fin 2 → Nat) = fun _ => 0 := funext fun a => by fin_cases a <;> rfl

variable (m : (ℓ : Loc nD τ sig) → Buf (Elt Ideal) ℓ)

/-- The word the masked scores are filled with is minus infinity. -/
theorem neg_inf : Ideal.ofBits .f32 0xFF800000#32 = (⊥ : EReal) := by simp [Ideal.ofBits, Ideal.ieee]

/-! ## One head's scores and output, as the body computes them -/

/-- One head's scores: `q k^T + bias` where the mask is set, `-inf` elsewhere. -/
def headLogits (mask : IVec S128x256 1) (q : FVec Ideal S128x64 .bf16) (k : FVec Ideal S256x64 .bf16) (b : Vec Ideal S1x128x256 .f32) : FVec Ideal S128x256 .f32 :=
  select mask (addf (matmul dot_S128x64_S256x64_S128x256_1_1_0_0_n_n none q k (constant S128x256 .f32 0x00000000#32)) (shapeCast S128x256 b shapeCasts_S1x128x256_S128x256))
    (broadcast S128x256 (Scalar.ofBits .f32 0xFF800000#32))

/-- The row maximum of the scores and the sink. -/
def headMax (s : FVec Ideal S128x256 .f32) (z : Elt Ideal .f32) : FVec Ideal S128x1 .f32 :=
  maximumf (shapeCast S128x1 (multiReduction .maximumf [1] S128 s 0xFF800000#32 reduces_S128x256_S128 (.inl rfl) rfl) shapeCasts_S128_S128x1) (broadcast S128x1 z)

/-- The exponentials of the scores less the row maximum. -/
def headExp (s : FVec Ideal S128x256 .f32) (z : Elt Ideal .f32) : FVec Ideal S128x256 .f32 :=
  exp (subf s (broadcastTo S128x256 (headMax s z) broadcasts_S128x1_S128x256))

/-- One head's output: the exponentials times the values, divided by their sum and the sink's exponential. -/
def headOut (s : FVec Ideal S128x256 .f32) (z : Elt Ideal .f32) (v : FVec Ideal S256x64 .bf16) : FVec Ideal S128x64 .f32 :=
  divf (matmul dot_S128x256_S256x64_S128x64_1_0_0_1_n_n none (truncf .bf16 (headExp s z) bitsLt_bf16_f32) v (constant S128x64 .f32 0x00000000#32))
    (broadcastTo S128x64 (addf (shapeCast S128x1 (multiReduction .add [1] S128 (headExp s z) 0x00000000#32 reduces_S128x256_S128 (.inl rfl) rfl) shapeCasts_S128_S128x1)
      (exp (subf (broadcast S128x1 z) (headMax s z)))) broadcasts_S128x1_S128x64)

/-- Softmax-weighted sum with a sink: scores `s`, sink `z`, values `v`, dividing once at the end. -/
def attend (s : Fin 256 → EReal) (z : EReal) (v : Fin 256 → EReal) : EReal :=
  Ideal.div (∑ j, Ideal.exp (s j - max (Finset.univ.fold max ⊥ s) z) * v j)
    ((∑ j, Ideal.exp (s j - max (Finset.univ.fold max ⊥ s) z)) + Ideal.exp (z - max (Finset.univ.fold max ⊥ s) z))

theorem headOut_apply (s : FVec Ideal S128x256 .f32) (z : EReal) (v : FVec Ideal S256x64 .bf16) (r : Fin 128) (d : Fin 64) :
    headOut s z v (ix2 r d) = attend (fun j => s (ix2 r j)) z (fun j => v (ix2 j d)) := by
  pointwise [headOut, headExp, headMax, attend]
  rw [neg_inf]

/-- Columns `o … o+63`. -/
def cols {α : Type} {n k : Nat} (x : Shape.Idx ⟨2, ![n, k]⟩ → α) (o : Nat) (ho : o + 64 ≤ k) : Shape.Idx ⟨2, ![n, 64]⟩ → α :=
  fun y => x (ix2 (y 0) ⟨o + y 1, by have : (y 1 : Nat) < 64 := (y 1).isLt; omega⟩)

theorem slice_q (x : FVec Ideal S128x512 .bf16) (o : Nat) (h : S128x512.Slices ![0, o] S128x64) (ho : o + 64 ≤ 512) :
    extractStridedSlice S128x64 ![0, o] x h = cols x o ho := by
  funext y
  idx_vars y
  pointwise [cols]

theorem load_kv (x : Vec Ideal S128x128 .f32) (o : Nat) (inb) (ho : o + 64 ≤ 128) :
    View.ld x (Rect.unit ![0, o] ![128, 64] inb) = cols x o ho := by
  rw [View.ld_unit]
  funext y
  idx_vars y
  pointwise [cols]

/-- Head `h`'s piece of the output block, from the blocks the body reads. -/
def head (i : grid0.Coords) (x0 : Vec Ideal S8 .f32) (x1 : Vec Ideal S128x512 .f32) (x2 x3 x4 x5 : Vec Ideal S128x128 .f32) (x6 : Vec Ideal S8x128x256 .f32) (h : Fin 8) : FVec Ideal S128x64 .f32 :=
  headOut (headLogits (k0_pay3 i) (cols (k0_pay2 x1) (64 * h) (by omega))
      (k0_pay4 (cols x4 (64 * (h / 4)) (by omega)) (cols x2 (64 * (h / 4)) (by omega))) (fun y => x6 (ix3 h (y 1) (y 2))))
    (x0 (ix1 h)) (k0_pay5 (cols x5 (64 * (h / 4)) (by omega)) (cols x3 (64 * (h / 4)) (by omega)))

theorem head_slice (i : grid0.Coords) (x0 : Vec Ideal S8 .f32) (x1 : Vec Ideal S128x512 .f32) (x2 x3 x4 x5 : Vec Ideal S128x128 .f32) (x6 : Vec Ideal S8x128x256 .f32) (h : Fin 8)
    (o g : Nat) (hs : S128x512.Slices ![0, o] S128x64) (ho : o = 64 * h) (hg : g = 64 * (h / 4)) (hg' : g + 64 ≤ 128) :
    head i x0 x1 x2 x3 x4 x5 x6 h = headOut (headLogits (k0_pay3 i) (extractStridedSlice S128x64 ![0, o] (k0_pay2 x1 : FVec Ideal S128x512 .bf16) hs)
      (k0_pay4 (cols x4 g hg') (cols x2 g hg')) (fun y => x6 (ix3 h (y 1) (y 2))))
    (x0 (ix1 h)) (k0_pay5 (cols x5 g hg') (cols x3 g hg')) := by
  subst ho hg
  rw [slice_q _ _ hs (by omega)]
  rfl

theorem bias_head (x6 : Vec Ideal S8x128x256 .f32) (h : Nat) (hh : h < 8) (inb) :
    View.ld x6 (Rect.unit ![h, 0, 0] ![1, 128, 256] inb) = fun y => x6 (ix3 ⟨h, hh⟩ (y 1) (y 2)) := by
  rw [View.ld_unit]
  funext y
  idx_vars y
  pointwise

theorem sink_head (x0 : Vec Ideal S8 .f32) (h : Nat) (hh : h < 8) (inb) (y) :
    View.ld x0 (Rect.unit ![h] ![1] inb) y = x0 (ix1 ⟨h, hh⟩) := by
  rw [View.ld_unit]
  idx_vars y
  pointwise

/-- The output block is the eight heads' pieces side by side. -/
theorem block_eq (c : Dev nD) (t : Fin cfg0.N) (x0 : Vec Ideal S8 .f32) (x1 : Vec Ideal S128x512 .f32) (x2 x3 x4 x5 : Vec Ideal S128x128 .f32) (x6 : Vec Ideal S8x128x256 .f32) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 x6
      = concatenate S128x512 1 [⟨S128x64, head (grid0.coords t) x0 x1 x2 x3 x4 x5 x6 0⟩, ⟨S128x64, head (grid0.coords t) x0 x1 x2 x3 x4 x5 x6 1⟩, ⟨S128x64, head (grid0.coords t) x0 x1 x2 x3 x4 x5 x6 2⟩, ⟨S128x64, head (grid0.coords t) x0 x1 x2 x3 x4 x5 x6 3⟩, ⟨S128x64, head (grid0.coords t) x0 x1 x2 x3 x4 x5 x6 4⟩, ⟨S128x64, head (grid0.coords t) x0 x1 x2 x3 x4 x5 x6 5⟩, ⟨S128x64, head (grid0.coords t) x0 x1 x2 x3 x4 x5 x6 6⟩, ⟨S128x64, head (grid0.coords t) x0 x1 x2 x3 x4 x5 x6 7⟩] concatenates_S128x64_S128x64_S128x64_S128x64_S128x64_S128x64_S128x64_S128x64_S128x512_d1 := by
  frame_out
  rw [load_kv x2 0 _ (by omega), load_kv x3 0 _ (by omega), load_kv x4 0 _ (by omega), load_kv x5 0 _ (by omega), load_kv x2 64 _ (by omega), load_kv x3 64 _ (by omega), load_kv x4 64 _ (by omega), load_kv x5 64 _ (by omega)]
  rw [bias_head x6 0 (by omega), bias_head x6 1 (by omega), bias_head x6 2 (by omega), bias_head x6 3 (by omega), bias_head x6 4 (by omega), bias_head x6 5 (by omega), bias_head x6 6 (by omega), bias_head x6 7 (by omega)]
  simp only [sink_head x0 0 (by omega), sink_head x0 1 (by omega), sink_head x0 2 (by omega), sink_head x0 3 (by omega), sink_head x0 4 (by omega), sink_head x0 5 (by omega), sink_head x0 6 (by omega), sink_head x0 7 (by omega)]
  rw [head_slice _ _ _ _ _ _ _ _ 0 0 0 slices_S128x512_o0_0_S128x64 rfl rfl (by omega), head_slice _ _ _ _ _ _ _ _ 1 64 0 slices_S128x512_o0_64_S128x64 rfl rfl (by omega), head_slice _ _ _ _ _ _ _ _ 2 128 0 slices_S128x512_o0_128_S128x64 rfl rfl (by omega), head_slice _ _ _ _ _ _ _ _ 3 192 0 slices_S128x512_o0_192_S128x64 rfl rfl (by omega), head_slice _ _ _ _ _ _ _ _ 4 256 64 slices_S128x512_o0_256_S128x64 rfl rfl (by omega), head_slice _ _ _ _ _ _ _ _ 5 320 64 slices_S128x512_o0_320_S128x64 rfl rfl (by omega), head_slice _ _ _ _ _ _ _ _ 6 384 64 slices_S128x512_o0_384_S128x64 rfl rfl (by omega), head_slice _ _ _ _ _ _ _ _ 7 448 64 slices_S128x512_o0_448_S128x64 rfl rfl (by omega)]
  rfl

end Cert.KernelIdeal.Attention

end
-- ==== Proof.SwaMath.lean ====
module

public import proofs.«01_k».proof.Proof.SwaBody

/-!
# The attention's mathematics

A softmax with a sink, dividing once at the end, is the weighted sum of the quotients.
-/

@[expose] public section

noncomputable section

namespace Cert.KernelIdeal.Attention

open Idealize.ShloMosaic
open scoped BigOperators

/-- A sum times a nonnegative real. -/
theorem sum_mul_real {ι : Type} (S : Finset ι) (f : ι → EReal) (c : ℝ) (hc : 0 ≤ c) : (∑ j ∈ S, f j) * (c : EReal) = ∑ j ∈ S, f j * (c : EReal) := by
  classical
  induction S using Finset.induction_on with
  | empty => simp
  | insert a S ha ih =>
    rw [Finset.sum_insert ha, Finset.sum_insert ha, EReal.right_distrib_of_nonneg_of_ne_top (EReal.coe_nonneg.2 hc) (EReal.coe_ne_top c), ih]

/-- A fold of maxima below infinity. -/
theorem fold_max_ne_top {n : Nat} (s : Fin n → EReal) (hs : ∀ j, s j ≠ ⊤) : Finset.univ.fold max ⊥ s ≠ ⊤ := by
  refine ne_of_lt ((Finset.fold_max_lt _).2 ⟨bot_lt_top, fun j _ => lt_top_iff_ne_top.2 (hs j)⟩)

/-- The scores with the sink last. -/
def sunk (s : Fin 256 → EReal) (z : EReal) : Fin 257 → EReal := fun k => if h : (k : Nat) < 256 then s ⟨k, h⟩ else z

theorem sunk_castSucc (s : Fin 256 → EReal) (z : EReal) (k : Fin 256) : sunk s z (Fin.castSucc k) = s k := by
  have : ((Fin.castSucc k : Fin 257) : Nat) < 256 := k.isLt
  rw [sunk, dif_pos this]
  rfl

theorem sunk_last (s : Fin 256 → EReal) (z : EReal) : sunk s z (Fin.last 256) = z := by
  rw [sunk, dif_neg (by simp)]

theorem fold_sunk (s : Fin 256 → EReal) (z : EReal) : Finset.univ.fold max ⊥ (sunk s z) = max (Finset.univ.fold max ⊥ s) z := by
  rw [Fin.univ_castSuccEmb, Finset.fold_cons, Finset.fold_map, sunk_last, max_comm]
  exact congrArg (max · z) (Finset.fold_congr fun k _ => sunk_castSucc s z k)

/-- Dividing once at the end or each exponential on its own: the same, where no score is infinite and the sink is finite. -/
theorem attend_eq (s : Fin 256 → EReal) (z : EReal) (v v' : Fin 256 → EReal) (hs : ∀ j, s j ≠ ⊤) (hz : z ≠ ⊤) (hz' : z ≠ ⊥)
    (hv : ∀ j, s j ≠ ⊥ → v j = v' j) :
    attend s z v = ∑ j : Fin 256, v' j * Ideal.div (Ideal.exp (s j - Finset.univ.fold max ⊥ (sunk s z)))
      (∑ k : Fin 257, Ideal.exp (sunk s z k - Finset.univ.fold max ⊥ (sunk s z))) := by
  rw [attend, fold_sunk]
  have hM : max (Finset.univ.fold max ⊥ s) z ≠ ⊤ := ne_of_lt (max_lt (lt_top_iff_ne_top.2 (fold_max_ne_top s hs)) (lt_top_iff_ne_top.2 hz))
  have hM' : max (Finset.univ.fold max ⊥ s) z ≠ ⊥ := ne_of_gt (lt_of_lt_of_le (bot_lt_iff_ne_bot.2 hz') (le_max_right _ _))
  generalize max (Finset.univ.fold max ⊥ s) z = M at hM hM'
  lift M to ℝ using ⟨hM, hM'⟩
  lift z to ℝ using ⟨hz, hz'⟩
  have hq : ∀ j, ∃ q : ℝ, 0 ≤ q ∧ Ideal.exp (s j - (M : EReal)) = (q : EReal) ∧ (s j = ⊥ → q = 0) := by
    intro j
    rcases eq_or_ne (s j) ⊥ with h | h
    · refine ⟨0, le_rfl, ?_, fun _ => rfl⟩
      rw [h, EReal.bot_sub]
      rfl
    · obtain ⟨r, hr⟩ : ∃ r : ℝ, s j = (r : EReal) := ⟨(s j).toReal, (EReal.coe_toReal (hs j) h).symm⟩
      refine ⟨Real.exp (r - M), (Real.exp_pos _).le, ?_, fun e => absurd e h⟩
      rw [hr, ← EReal.coe_sub]
      rfl
  choose q hq0 hqe hqb using hq
  have he : Ideal.exp ((z : EReal) - (M : EReal)) = ((Real.exp (z - M) : ℝ) : EReal) := by
    rw [← EReal.coe_sub]
    rfl
  rw [Fin.sum_univ_castSucc (fun k => Ideal.exp (sunk s z k - (M : EReal))), sunk_last, he]
  simp only [sunk_castSucc, hqe]
  rw [show (∑ j, ((q j : ℝ) : EReal)) = ((∑ j, q j : ℝ) : EReal) from (map_sum (⟨⟨Real.toEReal, EReal.coe_zero⟩, EReal.coe_add⟩ : ℝ →+ EReal) q Finset.univ).symm, ← EReal.coe_add]
  have hD : 0 < (∑ j, q j) + Real.exp (z - M) := add_pos_of_nonneg_of_pos (Finset.sum_nonneg fun j _ => hq0 j) (Real.exp_pos _)
  generalize (∑ j, q j) + Real.exp (z - M) = D at hD
  have hdiv : ∀ x : EReal, Ideal.div x (D : EReal) = x * ((D⁻¹ : ℝ) : EReal) := by
    intro x
    rw [Ideal.div_coe hD.ne', one_div]
  simp only [hdiv]
  rw [sum_mul_real _ _ _ (inv_nonneg.2 hD.le)]
  refine Finset.sum_congr rfl fun j _ => ?_
  rcases eq_or_ne (s j) ⊥ with h | h
  · rw [hqb j h]
    simp
  · rw [hv j h, mul_comm ((q j : ℝ) : EReal), mul_assoc]

/-- A product of real columns is real. -/
theorem dot_real {n : Nat} (f g : Fin n → EReal) (hf : ∀ e, ∃ r : ℝ, f e = (r : EReal)) (hg : ∀ e, ∃ r : ℝ, g e = (r : EReal)) :
    ∃ r : ℝ, ∑ e, f e * g e = (r : EReal) := by
  choose a ha using hf
  choose b hb using hg
  refine ⟨∑ e, a e * b e, ?_⟩
  simp only [ha, hb, ← EReal.coe_mul]
  exact (map_sum (⟨⟨Real.toEReal, EReal.coe_zero⟩, EReal.coe_add⟩ : ℝ →+ EReal) (fun e => a e * b e) Finset.univ).symm

end Cert.KernelIdeal.Attention

end
-- ==== Proof.SwaValue.lean ====
module

public import proofs.«01_k».proof.Proof.SwaBody
public import Idealize.ShloMosaic.Lib.WordCmp

/-!
# The attention's result after the kernel's run

Each head's piece of a block read at an index, the blocks the windows bring, and the array the run leaves.
-/

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open scoped BigOperators

/-- The factor of the queries. -/
def scale : EReal := Ideal.ofBits .f32 0x3E000000#32

/-- Where a query block's row may look: any key of its own block, and the previous block's unless the block is its batch's first. -/
def seen (n : Nat) (j : Fin 256) : Prop := 128 ≤ (j : Nat) ∨ n ≠ 0

instance (n : Nat) (j : Fin 256) : Decidable (seen n j) := by unfold seen; infer_instance

theorem mask_word : ∀ (n : Fin 64) (j : Fin 256), IntOp.ori (IntOp.cmpi .sge (BitVec.ofNat 32 j) 128#32) (IntOp.cmpi .sgt (BitVec.ofNat 32 n) 0#32) =
    if seen n j then 1#1 else 0#1 := by
  decide +kernel

theorem pay3_apply (i : grid0.Coords) (r : Fin 128) (j : Fin 256) : k0_pay3 i (ix2 r j) = if seen (i 1).val j then 1#1 else 0#1 := by
  refine Eq.trans ?_ (mask_word (i 1) j)
  pointwise [k0_pay3]
  rfl

/-- A block of keys or values after the previous one. -/
def stacked (p o : Vec Ideal S128x128 .f32) (j : Fin 256) (k : Fin 128) : EReal :=
  if h : (j : Nat) < 128 then p (ix2 ⟨j, h⟩ k) else o (ix2 ⟨j - 128, by omega⟩ k)

/-- A head's scores from the blocks. -/
def blockScore (n : Nat) (x1 : Vec Ideal S128x512 .f32) (x2 x4 : Vec Ideal S128x128 .f32) (x6 : Vec Ideal S8x128x256 .f32) (h : Fin 8) (r : Fin 128) (j : Fin 256) : EReal :=
  if seen n j then (∑ e : Fin 64, (x1 (ix2 r ⟨64 * h + e, by omega⟩) * scale) * stacked x4 x2 j ⟨64 * (h / 4) + e, by omega⟩) + x6 (ix3 h r j) else ⊥

theorem pay4_apply (p o : Vec Ideal S128x128 .f32) (g : Nat) (hg : g + 64 ≤ 128) (j : Fin 256) (e : Fin 64) :
    k0_pay4 (cols p g hg : Vec Ideal S128x64 .f32) (cols o g hg : Vec Ideal S128x64 .f32) (ix2 j e) = stacked p o j ⟨g + e, by omega⟩ := by
  pointwise [k0_pay4, cols, stacked]

theorem pay5_apply (p o : Vec Ideal S128x128 .f32) (g : Nat) (hg : g + 64 ≤ 128) (j : Fin 256) (e : Fin 64) :
    k0_pay5 (cols p g hg : Vec Ideal S128x64 .f32) (cols o g hg : Vec Ideal S128x64 .f32) (ix2 j e) = stacked p o j ⟨g + e, by omega⟩ := by
  pointwise [k0_pay5, cols, stacked]

theorem headLogits_apply (mask : IVec S128x256 1) (q : FVec Ideal S128x64 .bf16) (k : FVec Ideal S256x64 .bf16) (b : Vec Ideal S1x128x256 .f32) (r : Fin 128) (j : Fin 256) :
    headLogits mask q k b (ix2 r j) = Scalar.select (mask (ix2 r j)) ((∑ e : Fin 64, q (ix2 r e) * k (ix2 j e)) + b (ix3 0 r j)) ⊥ := by
  pointwise [headLogits]
  rw [neg_inf]

theorem head_apply (i : grid0.Coords) (x0 : Vec Ideal S8 .f32) (x1 : Vec Ideal S128x512 .f32) (x2 x3 x4 x5 : Vec Ideal S128x128 .f32) (x6 : Vec Ideal S8x128x256 .f32) (h : Fin 8) (r : Fin 128) (d : Fin 64) :
    head i x0 x1 x2 x3 x4 x5 x6 h (ix2 r d) = attend (blockScore (i 1).val x1 x2 x4 x6 h r) (x0 (ix1 h)) (fun j => stacked x5 x3 j ⟨64 * (h / 4) + d, by omega⟩) := by
  unfold head
  rw [headOut_apply]
  refine congrArg₂ (fun s v => attend s (x0 (ix1 h)) v) (funext fun j => ?_) (funext fun j => pay5_apply x5 x3 _ _ j d)
  rw [headLogits_apply, pay3_apply]
  unfold blockScore
  by_cases hs : seen (i 1).val j
  · rw [if_pos hs, if_pos hs]
    exact congrArg₂ (fun a b : EReal => a + b) (Finset.sum_congr rfl fun e _ => congrArg₂ (fun a b : EReal => a * b) rfl (pay4_apply x4 x2 _ _ j e)) rfl
  · rw [if_neg hs, if_neg hs]
    rfl

variable (m : (ℓ : Loc nD τ sig) → Buf (Elt Ideal) ℓ)

theorem out_apply (c : Dev nD) (t : Fin cfg0.N) (x0 : Vec Ideal S8 .f32) (x1 : Vec Ideal S128x512 .f32) (x2 x3 x4 x5 : Vec Ideal S128x128 .f32) (x6 : Vec Ideal S8x128x256 .f32) (r : Fin 128) (k : Fin 512) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 x6 (ix2 r k)
      = head (grid0.coords t) x0 x1 x2 x3 x4 x5 x6 ⟨k / 64, by omega⟩ (ix2 r ⟨k % 64, by omega⟩) := by
  rw [block_eq]
  refine concatenate_ofFn_apply (s₁ := S128x64) (t := S128x512) 1 (fun n : Fin 8 => head (grid0.coords t) x0 x1 x2 x3 x4 x5 x6 n)
    concatenates_S128x64_S128x64_S128x64_S128x64_S128x64_S128x64_S128x64_S128x64_S128x512_d1 rfl 64 rfl (ix2 r k) ⟨k / 64, by omega⟩ rfl (ix2 r ⟨k % 64, by omega⟩) rfl ?_
  intro b hb
  match b with
  | ⟨0, _⟩ => rfl
  | ⟨1, _⟩ => exact absurd rfl hb

/-! ## The windows' blocks -/

theorem index_facts : ∀ t : Fin cfg0.N,
    (grid0.coords t 1).val = t.val % 64 ∧ (win0_1.index t 0 = t.val ∧ win0_1.index t 1 = 0) ∧ (win0_2.index t 0 = t.val ∧ win0_2.index t 1 = 4) ∧ (win0_3.index t 0 = t.val ∧ win0_3.index t 1 = 5)
    ∧ (win0_4.index t 0 = (if t.val % 64 = 0 then t.val else t.val - 1) ∧ win0_4.index t 1 = 4) ∧ (win0_5.index t 0 = (if t.val % 64 = 0 then t.val else t.val - 1) ∧ win0_5.index t 1 = 5)
    ∧ (win0_0.index t 0 = 0) ∧ (win0_6.index t 0 = 0 ∧ win0_6.index t 1 = 0 ∧ win0_6.index t 2 = 0) ∧ (win0_7.index t 0 = t.val ∧ win0_7.index t 1 = 0) :=
  (by decide +kernel : ∀ t : Fin grid0.N,
    (grid0.coords t 1).val = t.val % 64 ∧ (win0_1.index t 0 = t.val ∧ win0_1.index t 1 = 0) ∧ (win0_2.index t 0 = t.val ∧ win0_2.index t 1 = 4) ∧ (win0_3.index t 0 = t.val ∧ win0_3.index t 1 = 5)
    ∧ (win0_4.index t 0 = (if t.val % 64 = 0 then t.val else t.val - 1) ∧ win0_4.index t 1 = 4) ∧ (win0_5.index t 0 = (if t.val % 64 = 0 then t.val else t.val - 1) ∧ win0_5.index t 1 = 5)
    ∧ (win0_0.index t 0 = 0) ∧ (win0_6.index t 0 = 0 ∧ win0_6.index t 1 = 0 ∧ win0_6.index t 2 = 0) ∧ (win0_7.index t 0 = t.val ∧ win0_7.index t 1 = 0))

/-- A row of a block, in the whole array. -/
def row (t : Fin 128) (r : Fin 128) : Fin 16384 := ⟨t * 128 + r, by omega⟩

/-- The block before, or the block itself where it is its batch's first. -/
def before (t : Fin 128) : Fin 128 := if t.val % 64 = 0 then t else ⟨t - 1, by omega⟩

theorem before_val (t : Fin 128) : (before t).val = if t.val % 64 = 0 then t.val else t.val - 1 := by
  unfold before
  split <;> rfl

/-- A point as a block's number. -/
def blk (t : Fin cfg0.N) : Fin 128 := ⟨t.val, t.isLt⟩

theorem iblk2_apply (c : Dev nD) (t : Fin cfg0.N) (r k : Fin 128) :
    (iblk m c 2 t : Vec Ideal S128x128 .f32) (ix2 r k) = (m ((c : Thread nD τ).loc main_arg0) : Vec Ideal S16384x768 .f32) (ix2 (row (blk t) r) ⟨512 + k, by omega⟩) := by
  show (V m c main_arg0 : Vec Ideal S16384x768 .f32) ((win0_2.rect t).emb (ix2 r k)) = _
  rw [V_main_arg0]
  refine congrArg _ (Shape.idx_ext₂ ?_ ?_)
  · rw [Pipeline.Window.rect_emb_val win0_2 t (ix2 r k) 0, (index_facts t).2.2.1.1]; rfl
  · rw [Pipeline.Window.rect_emb_val win0_2 t (ix2 r k) 1, (index_facts t).2.2.1.2]; rfl

theorem iblk3_apply (c : Dev nD) (t : Fin cfg0.N) (r k : Fin 128) :
    (iblk m c 3 t : Vec Ideal S128x128 .f32) (ix2 r k) = (m ((c : Thread nD τ).loc main_arg0) : Vec Ideal S16384x768 .f32) (ix2 (row (blk t) r) ⟨640 + k, by omega⟩) := by
  show (V m c main_arg0 : Vec Ideal S16384x768 .f32) ((win0_3.rect t).emb (ix2 r k)) = _
  rw [V_main_arg0]
  refine congrArg _ (Shape.idx_ext₂ ?_ ?_)
  · rw [Pipeline.Window.rect_emb_val win0_3 t (ix2 r k) 0, (index_facts t).2.2.2.1.1]; rfl
  · rw [Pipeline.Window.rect_emb_val win0_3 t (ix2 r k) 1, (index_facts t).2.2.2.1.2]; rfl

theorem iblk4_apply (c : Dev nD) (t : Fin cfg0.N) (r k : Fin 128) :
    (iblk m c 4 t : Vec Ideal S128x128 .f32) (ix2 r k) = (m ((c : Thread nD τ).loc main_arg0) : Vec Ideal S16384x768 .f32) (ix2 (row (before (blk t)) r) ⟨512 + k, by omega⟩) := by
  show (V m c main_arg0 : Vec Ideal S16384x768 .f32) ((win0_4.rect t).emb (ix2 r k)) = _
  rw [V_main_arg0]
  refine congrArg _ (Shape.idx_ext₂ ?_ ?_)
  · rw [Pipeline.Window.rect_emb_val win0_4 t (ix2 r k) 0, (index_facts t).2.2.2.2.1.1]; exact congrArg (fun n => n * 128 + r.val) (before_val (blk t)).symm
  · rw [Pipeline.Window.rect_emb_val win0_4 t (ix2 r k) 1, (index_facts t).2.2.2.2.1.2]; rfl

theorem iblk5_apply (c : Dev nD) (t : Fin cfg0.N) (r k : Fin 128) :
    (iblk m c 5 t : Vec Ideal S128x128 .f32) (ix2 r k) = (m ((c : Thread nD τ).loc main_arg0) : Vec Ideal S16384x768 .f32) (ix2 (row (before (blk t)) r) ⟨640 + k, by omega⟩) := by
  show (V m c main_arg0 : Vec Ideal S16384x768 .f32) ((win0_5.rect t).emb (ix2 r k)) = _
  rw [V_main_arg0]
  refine congrArg _ (Shape.idx_ext₂ ?_ ?_)
  · rw [Pipeline.Window.rect_emb_val win0_5 t (ix2 r k) 0, (index_facts t).2.2.2.2.2.1.1]; exact congrArg (fun n => n * 128 + r.val) (before_val (blk t)).symm
  · rw [Pipeline.Window.rect_emb_val win0_5 t (ix2 r k) 1, (index_facts t).2.2.2.2.2.1.2]; rfl

theorem X1_apply (c : Dev nD) (t : Fin cfg0.N) (r : Fin 128) (k : Fin 512) :
    (X0_1 m c t : Vec Ideal S128x512 .f32) (ix2 r k) = (m ((c : Thread nD τ).loc main_arg0) : Vec Ideal S16384x768 .f32) (ix2 (row (blk t) r) ⟨k, by omega⟩) := by
  unfold X0_1 Pipeline.Window.fill
  refine (dif_pos (moved0_1 t (ix2 r k))).trans ?_
  show (V m c main_arg0 : Vec Ideal S16384x768 .f32) ((win0_1.rect t).emb _) = _
  rw [V_main_arg0]
  refine congrArg _ (Shape.idx_ext₂ ?_ ?_)
  · rw [Pipeline.Window.rect_emb_val win0_1 t _ 0, (index_facts t).2.1.1]; rfl
  · rw [Pipeline.Window.rect_emb_val win0_1 t _ 1, (index_facts t).2.1.2]; exact (Nat.zero_mul _).symm ▸ Nat.zero_add _

theorem iblk0_apply (c : Dev nD) (t : Fin cfg0.N) (h : Fin 8) :
    (iblk m c 0 t : Vec Ideal S8 .f32) (ix1 h) = (m ((c : Thread nD τ).loc main_arg1) : Vec Ideal S8 .f32) (ix1 h) := by
  show (V m c main_arg1 : Vec Ideal S8 .f32) ((win0_0.rect t).emb (ix1 h)) = _
  rw [V_main_arg1]
  refine congrArg _ (funext fun a => Fin.ext ?_)
  match a with
  | ⟨0, _⟩ => exact Pipeline.Window.rect_emb_val_of_index_zero win0_0 t 0 (index_facts t).2.2.2.2.2.2.1 (ix1 h)

theorem iblk6_apply (c : Dev nD) (t : Fin cfg0.N) (h : Fin 8) (r : Fin 128) (j : Fin 256) :
    (iblk m c 6 t : Vec Ideal S8x128x256 .f32) (ix3 h r j) = (m ((c : Thread nD τ).loc main_arg2) : Vec Ideal S8x128x256 .f32) (ix3 h r j) := by
  show (V m c main_arg2 : Vec Ideal S8x128x256 .f32) ((win0_6.rect t).emb (ix3 h r j)) = _
  rw [V_main_arg2]
  refine congrArg _ (funext fun a => Fin.ext ?_)
  have hw := (index_facts t).2.2.2.2.2.2.2.1
  match a with
  | ⟨0, _⟩ => exact Pipeline.Window.rect_emb_val_of_index_zero win0_6 t 0 hw.1 (ix3 h r j)
  | ⟨1, _⟩ => exact Pipeline.Window.rect_emb_val_of_index_zero win0_6 t 1 hw.2.1 (ix3 h r j)
  | ⟨2, _⟩ => exact Pipeline.Window.rect_emb_val_of_index_zero win0_6 t 2 hw.2.2 (ix3 h r j)

/-! ## The result -/

/-- The row of the `j`-th key of a block's rows. -/
def key (t : Fin 128) (j : Fin 256) : Fin 16384 := if h : (j : Nat) < 128 then row (before t) ⟨j, h⟩ else row t ⟨j - 128, by omega⟩

/-- A row's score at a key. -/
def score (x : Vec Ideal S16384x768 .f32) (w : Vec Ideal S8x128x256 .f32) (t : Fin 128) (h : Fin 8) (r : Fin 128) (j : Fin 256) : EReal :=
  if seen (t % 64) j then (∑ e : Fin 64, (x (ix2 (row t r) ⟨64 * h + e, by omega⟩) * scale) * x (ix2 (key t j) ⟨512 + (64 * (h / 4) + e), by omega⟩)) + w (ix3 h r j) else ⊥

/-- The attention's result at row `r` of block `t`, head `h` and column `d` within the head. -/
def val (x : Vec Ideal S16384x768 .f32) (z : Vec Ideal S8 .f32) (w : Vec Ideal S8x128x256 .f32) (t : Fin 128) (h : Fin 8) (r : Fin 128) (d : Fin 64) : EReal :=
  attend (score x w t h r) (z (ix1 h)) (fun j => x (ix2 (key t j) ⟨640 + (64 * (h / 4) + d), by omega⟩))

theorem stacked_eq (x : Vec Ideal S16384x768 .f32) (p o : Vec Ideal S128x128 .f32) (t : Fin 128) (b : Nat) (hb : b + 128 ≤ 768)
    (hp : ∀ r k, p (ix2 r k) = x (ix2 (row (before t) r) ⟨b + k, by omega⟩)) (ho : ∀ r k, o (ix2 r k) = x (ix2 (row t r) ⟨b + k, by omega⟩)) (j : Fin 256) (k : Fin 128) :
    stacked p o j k = x (ix2 (key t j) ⟨b + k, by omega⟩) := by
  unfold stacked key
  by_cases h : (j : Nat) < 128
  · rw [dif_pos h, dif_pos h, hp]
  · rw [dif_neg h, dif_neg h, ho]

theorem blockScore_eq (x : Vec Ideal S16384x768 .f32) (w : Vec Ideal S8x128x256 .f32) (x1 : Vec Ideal S128x512 .f32) (x2 x4 : Vec Ideal S128x128 .f32) (x6 : Vec Ideal S8x128x256 .f32) (t : Fin 128)
    (h1 : ∀ r k, x1 (ix2 r k) = x (ix2 (row t r) ⟨k, by omega⟩)) (h4 : ∀ r k, x4 (ix2 r k) = x (ix2 (row (before t) r) ⟨512 + k, by omega⟩)) (h2 : ∀ r k, x2 (ix2 r k) = x (ix2 (row t r) ⟨512 + k, by omega⟩))
    (h6 : ∀ h r j, x6 (ix3 h r j) = w (ix3 h r j)) (n : Nat) (hn : n = t % 64) (h : Fin 8) (r : Fin 128) (j : Fin 256) :
    blockScore n x1 x2 x4 x6 h r j = score x w t h r j := by
  subst hn
  unfold blockScore score
  refine congrArg (fun a : EReal => if seen (t % 64) j then a else ⊥) (congrArg₂ (fun a b : EReal => a + b) (Finset.sum_congr rfl fun e _ => ?_) (h6 h r j))
  rw [h1, stacked_eq x x4 x2 t 512 (by omega) h4 h2]

/-- The result array. -/
def G (c : Dev nD) : Vec Ideal S16384x512 .f32 := fun i =>
  val (m ((c : Thread nD τ).loc main_arg0)) (m ((c : Thread nD τ).loc main_arg1)) (m ((c : Thread nD τ).loc main_arg2))
    ⟨(i 0).val / 128, by have : (i 0).val < 16384 := (i 0).isLt; omega⟩ ⟨(i 1).val / 64, by have : (i 1).val < 512 := (i 1).isLt; omega⟩ ⟨(i 0).val % 128, by omega⟩ ⟨(i 1).val % 64, by omega⟩

theorem G_row (c : Dev nD) (t : Fin 128) (r : Fin 128) (k : Fin 512) : G m c (ix2 (row t r) k) =
    val (m ((c : Thread nD τ).loc main_arg0)) (m ((c : Thread nD τ).loc main_arg1)) (m ((c : Thread nD τ).loc main_arg2)) t ⟨k / 64, by omega⟩ r ⟨k % 64, by omega⟩ := by
  have h0 : (⟨(row t r).val / 128, by omega⟩ : Fin 128) = t := Fin.ext (by show (t.val * 128 + r.val) / 128 = t.val; omega)
  have h1 : (⟨(row t r).val % 128, by omega⟩ : Fin 128) = r := Fin.ext (by show (t.val * 128 + r.val) % 128 = r.val; omega)
  exact congrArg₂ (fun t r => val _ _ _ t ⟨k / 64, by omega⟩ r ⟨k % 64, by omega⟩) h0 h1

/-- Where an element of the result's block lies in the array. -/
theorem emb7 (t : Fin cfg0.N) (r : Fin 128) (k : Fin 512) : (win0_7.rect t).emb (ix2 r k) = (ix2 (row (blk t) r) k : S16384x512.Idx) :=
  Shape.idx_ext₂ (by rw [Pipeline.Window.rect_emb_val win0_7 t _ 0, (index_facts t).2.2.2.2.2.2.2.2.1]; rfl)
    (Pipeline.Window.rect_emb_val_of_index_zero win0_7 t 1 (index_facts t).2.2.2.2.2.2.2.2.2 (ix2 r k))

theorem flushed7_eq (c : Dev nD) (t : Fin cfg0.N) : (dats m 0 c).flushed 7 t = ((cfg0.win 7).blk t).view.read (Elt Ideal) (G m c) := by
  rw [Value.flushed7_A]
  funext y
  change S128x512.Idx at y
  idx_vars y
  show _ = G m c ((win0_7.rect t).emb (ix2 y0 y1))
  rw [emb7, G_row]
  refine (out_apply c t _ _ _ _ _ _ _ y0 y1).trans ((head_apply _ _ _ _ _ _ _ _ _ y0 _).trans ?_)
  unfold val
  rw [iblk0_apply]
  exact congrArg₂ (fun s v => attend s _ v)
    (funext fun j => blockScore_eq _ _ _ _ _ _ (blk t) (X1_apply m c t) (iblk4_apply m c t) (iblk2_apply m c t) (iblk6_apply m c t) _ (index_facts t).1 _ y0 j)
    (funext fun j => stacked_eq _ _ _ (blk t) 640 (by omega) (iblk5_apply m c t) (iblk3_apply m c t) j _)

theorem flush7 : ∀ t : Fin cfg0.N, (cfg0.win 7).flush t = true :=
  (by decide +kernel : ∀ t : Fin grid0.N, win0_7.flush t = true)

/-- The result after the run: the blocks are all of its rows. -/
theorem arr7_eq (c : Dev nD) : (dats m 0 c).arrAt 7 cfg0.N = G m c := by
  refine (dats m 0 c).arrAt_eq_of_cover 7 (G m c) (fun t _ => flushed7_eq m c t) fun i => ?_
  change S16384x512.Idx at i
  idx_vars i
  have hlt : i0.val / 128 < 128 := by omega
  refine ⟨(⟨i0.val / 128, hlt⟩ : Fin 128), flush7 _, ?_⟩
  have e : (win0_7.rect (⟨i0.val / 128, hlt⟩ : Fin 128)).emb (ix2 (⟨i0.val % 128, by omega⟩ : Fin 128) i1) = (ix2 i0 i1 : S16384x512.Idx) :=
    (emb7 _ _ _).trans (congrArg (fun R => ix2 R i1) (Fin.ext (by show i0.val / 128 * 128 + i0.val % 128 = i0.val; omega)))
  rw [← e]
  exact View.emb_mem_set ((cfg0.win 7).blk (⟨i0.val / 128, hlt⟩ : Fin 128)).view (ix2 (⟨i0.val % 128, by omega⟩ : Fin 128) i1)

end Cert.KernelIdeal.Attention

end
-- ==== Proof.SwaStages.lean ====
module

public import proofs.«01_k».proof.Defs
public import proofs.«01_k».proof.Proof.Gen.ReferenceIdeal.Run
public import Idealize.ShloMosaic.Lib.Pointwise
public import Idealize.ShloMosaic.Lib.Claim
public import Idealize.ShloMosaic.Lib.WordCmp

/-!
# The attention's reference

The reference's result named piece by piece.
-/

@[expose] public section

set_option maxRecDepth 16384

noncomputable section

namespace Cert.ReferenceIdeal.Stages

open Cert.ReferenceIdeal Cert.ReferenceIdeal.Gen Idealize.ShloMosaic Idealize.ShloMosaic.TcCoe Idealize.SL.Sem
open scoped BigOperators

/-- An array of the qkv's columns, block by block and head by head. -/
def heads (o : Nat) (h : S2x8192x768.Slices ![0, 0, o] S2x8192x128) (x : Vec Ideal S16384x768 .f32) : FVec Ideal S2x64x128x2x64 .f32 :=
  shapeCast _ (extractStridedSlice S2x8192x128 ![0, 0, o] (shapeCast S2x8192x768 x shapeCasts_S16384x768_S2x8192x768) h) shapeCasts_S2x8192x128_S2x64x128x2x64

/-- Each block's rows after the previous block's, zeros before the first block. -/
def withPrev (y : FVec Ideal S2x64x128x2x64 .f32) : FVec Ideal S2x64x256x2x64 .f32 :=
  concatenate S2x64x256x2x64 2 [⟨S2x64x128x2x64, (extractStridedSlice S2x64x128x2x64 ![0, 0, 0, 0, 0] (pad S2x65x128x2x64 ![0, 1, 0, 0, 0] ![0, 0, 0, 0, 0] ![0, 0, 0, 0, 0] y (sitofp (F := Ideal) .f32 (constantI S_ 32 0#32)) pads_S2x64x128x2x64_S2x65x128x2x64_000_100_000_000_000 h_S_) slices_S2x65x128x2x64_S2x64x128x2x64_0_0_0_0_0)⟩, ⟨S2x64x128x2x64, y⟩] concatenates_S2x64x128x2x64_S2x64x128x2x64_S2x64x256x2x64_d2

/-- Where a key stands before the first position. -/
def mask : IVec S2x64x2x4x128x256 1 :=
  broadcastInDim S2x64x2x4x128x256 ![0, 1, 2, 3, 4, 5] bcast_S1x64x1x1x1x256_S2x64x2x4x128x256_0_1_2_3_4_5 (broadcastInDim S1x64x1x1x1x256 ![1, 4, 5] bcast_S64x1x256_S1x64x1x1x1x256_1_4_5 (broadcastInDim S64x1x256 ![0, 2] bcast_S64x256_S64x1x256_0_2 (cmpi .sge (addi (broadcastInDim S64x256 ![0, 1] bcast_S64x1_S64x256_0_1 (muli (broadcastInDim S64x1 ![0] bcast_S64_S64x1_0 (iotaInDim S64 32 0)) (broadcastInDim S64x1 ![] bcast_S_S64x1 (constantI S_ 32 128#32)))) (broadcastInDim S64x256 ![0, 1] bcast_S1x256_S64x256_0_1 (subi (broadcastInDim S1x256 ![1] bcast_S256_S1x256_1 (iotaInDim S256 32 0)) (broadcastInDim S1x256 ![] bcast_S_S1x256 (constantI S_ 32 128#32))))) (broadcastInDim S64x256 ![] bcast_S_S64x256 (constantI S_ 32 0#32)))))

/-- The query columns, block by block and head by head. -/
def queries (x : Vec Ideal S16384x768 .f32) : FVec Ideal S2x64x128x2x4x64 .f32 :=
  shapeCast _ (extractStridedSlice S2x8192x512 ![0, 0, 0] (shapeCast S2x8192x768 x shapeCasts_S16384x768_S2x8192x768) slices_S2x8192x768_S2x8192x512_0_0_0) shapeCasts_S2x8192x512_S2x64x128x2x4x64

/-- The masked scores. -/
def logits (x : Vec Ideal S16384x768 .f32) (w : Vec Ideal S8x128x256 .f32) (kk : FVec Ideal S2x64x256x2x64 .f32) : FVec Ideal S2x64x2x4x128x256 .f32 :=
  select mask (addf (mulf (transpose S2x64x2x4x128x256 [0, 1, 2, 5, 4, 3] (Host.dotGeneral dot_S2x64x256x2x64_S2x64x128x2x4x64_S2x64x2x256x128x4_4_5_2_24_013_013 none kk (queries x)) transposes_S2x64x2x256x128x4_S2x64x2x4x128x256_0_1_2_5_4_3) (broadcastInDim S2x64x2x4x128x256 ![] bcast_S_S2x64x2x4x128x256 (constant S_ .f32 0x3E000000#32))) (broadcastInDim S2x64x2x4x128x256 ![0, 1, 2, 3, 4, 5] bcast_S1x1x2x4x128x256_S2x64x2x4x128x256_0_1_2_3_4_5 (broadcastInDim S1x1x2x4x128x256 ![2, 3, 4, 5] bcast_S2x4x128x256_S1x1x2x4x128x256_2_3_4_5 (shapeCast _ w shapeCasts_S8x128x256_S2x4x128x256)))) (broadcastInDim S2x64x2x4x128x256 ![] bcast_S_S2x64x2x4x128x256 (id (constant S_ .f32 0xFF800000#32)))

/-- The scores with the sink as a last column. -/
def withSink (s : FVec Ideal S2x64x2x4x128x256 .f32) (z : Vec Ideal S8 .f32) : FVec Ideal S2x64x2x4x128x257 .f32 :=
  concatenate S2x64x2x4x128x257 5 [⟨S2x64x2x4x128x256, s⟩, ⟨S2x64x2x4x128x1, (broadcastInDim S2x64x2x4x128x1 ![0, 1, 2, 3, 4, 5] bcast_S1x1x2x4x1x1_S2x64x2x4x128x1_0_1_2_3_4_5 (broadcastInDim S1x1x2x4x1x1 ![2, 3] bcast_S2x4_S1x1x2x4x1x1_2_3 (shapeCast _ z shapeCasts_S8_S2x4)))⟩] concatenates_S2x64x2x4x128x256_S2x64x2x4x128x1_S2x64x2x4x128x257_d5

/-- The rows' greatest scores. -/
def greatest (l : FVec Ideal S2x64x2x4x128x257 .f32) : FVec Ideal S2x64x2x4x128 .f32 :=
  maximumf (broadcastInDim S2x64x2x4x128 ![] bcast_S_S2x64x2x4x128 (constant S_ .f32 0xFF800000#32)) (Host.reduce FloatOps.maximumf l (constant S_ .f32 0xFF800000#32) reducesTo_S2x64x2x4x128x257_S2x64x2x4x128_d5 h_S_)

/-- The exponentials of the scores less the row's greatest. -/
def exps (l : FVec Ideal S2x64x2x4x128x257 .f32) : FVec Ideal S2x64x2x4x128x257 .f32 :=
  Host.exp (subf l (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (greatest l))))

/-- Each exponential over the sum of its row's, without the sink's column. -/
def quotient (u : FVec Ideal S2x64x2x4x128x257 .f32) : FVec Ideal S2x64x2x4x128x256 .f32 :=
  extractStridedSlice S2x64x2x4x128x256 ![0, 0, 0, 0, 0, 0] (Host.divf u (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (Host.reduceAdd u (constant S_ .f32 0x00000000#32) reducesTo_S2x64x2x4x128x257_S2x64x2x4x128_d5 h_S_)))) slices_S2x64x2x4x128x257_S2x64x2x4x128x256_0_0_0_0_0_0

/-- The softmax without the sink's column. -/
def softmax (l : FVec Ideal S2x64x2x4x128x257 .f32) : FVec Ideal S2x64x2x4x128x256 .f32 :=
  quotient (exps l)

/-- The weighted values, row by row. -/
def output (v : FVec Ideal S2x64x256x2x64 .f32) (p : FVec Ideal S2x64x2x4x128x256 .f32) : FVec Ideal S16384x512 .f32 :=
  shapeCast _ (transpose S2x64x128x2x4x64 [0, 1, 5, 2, 4, 3] (Host.dotGeneral dot_S2x64x256x2x64_S2x64x2x4x128x256_S2x64x2x64x4x128_2_5_4_34_013_012 none v p) transposes_S2x64x2x64x4x128_S2x64x128x2x4x64_0_1_5_2_4_3) shapeCasts_S2x64x128x2x4x64_S16384x512

theorem result_eq (m : (ℓ : Loc nD τ sig) → Buf (Elt Ideal) ℓ) (c : Dev nD) :
    Value.res_main_v55 m c = output (withPrev (heads 640 slices_S2x8192x768_S2x8192x128_0_0_640 (m ((c.tc : Thread nD τ).loc main_arg0))))
      (softmax (withSink (logits (m ((c.tc : Thread nD τ).loc main_arg0)) (m ((c.tc : Thread nD τ).loc main_arg2))
        (withPrev (heads 512 slices_S2x8192x768_S2x8192x128_0_0_512 (m ((c.tc : Thread nD τ).loc main_arg0))))) (m ((c.tc : Thread nD τ).loc main_arg1)))) := rfl

end Cert.ReferenceIdeal.Stages

end
-- ==== Proof.SwaRef.lean ====
module

public import proofs.«01_k».proof.Proof.SwaStages
public import Idealize.ShloMosaic.Lib.Pointwise
public import Idealize.ShloMosaic.Lib.Claim
public import Idealize.ShloMosaic.Lib.WordCmp

/-!
# The attention's reference

Each piece of the reference's result read at an index.
-/

@[expose] public section

set_option maxRecDepth 16384

noncomputable section

namespace Cert.ReferenceIdeal.Stages

open Cert.ReferenceIdeal Cert.ReferenceIdeal.Gen Idealize.ShloMosaic Idealize.ShloMosaic.TcCoe Idealize.SL.Sem
open scoped BigOperators

section reduce
variable {n0 n1 n2 n3 n4 n5 : Nat}

/-- Reducing the last of six axes: the entries that drop to `j` are those with `j`'s coordinates. -/
theorem fiber (h : (⟨6, ![n0, n1, n2, n3, n4, n5]⟩ : Shape).ReducesTo [5] ⟨5, ![n0, n1, n2, n3, n4]⟩) (a0 : Fin n0) (a1 : Fin n1) (a2 : Fin n2) (a3 : Fin n3) (a4 : Fin n4)
    (i : (⟨6, ![n0, n1, n2, n3, n4, n5]⟩ : Shape).Idx) :
    h.drop i = ix5 a0 a1 a2 a3 a4 ↔ ∃ k : Fin n5, ix6 a0 a1 a2 a3 a4 k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem reduceMax_apply {u : Shape} (h : (⟨6, ![n0, n1, n2, n3, n4, n5]⟩ : Shape).ReducesTo [5] ⟨5, ![n0, n1, n2, n3, n4]⟩) (l : FVec Ideal ⟨6, ![n0, n1, n2, n3, n4, n5]⟩ .f32)
    (init : FVec Ideal u .f32) (hu : 0 < u.numel) (a0 : Fin n0) (a1 : Fin n1) (a2 : Fin n2) (a3 : Fin n3) (a4 : Fin n4) :
    Host.reduce (FloatOps.maximumf (F := Ideal) (φ := .f32)) l init h hu (ix5 a0 a1 a2 a3 a4) = Finset.univ.fold max (init (Shape.Idx.first hu)) (fun k : Fin n5 => l (ix6 a0 a1 a2 a3 a4 k)) := by
  rw [Host.reduce_eq_fold]
  exact Finset.fold_filter_eq_fold_of_fiber max _ (fun k : Fin n5 => (ix6 a0 a1 a2 a3 a4 k : (⟨6, ![n0, n1, n2, n3, n4, n5]⟩ : Shape).Idx)) (fun _ _ e => congrFun e 5) (fiber h a0 a1 a2 a3 a4) _ l

theorem greater_apply {u : Shape} (h : (⟨6, ![n0, n1, n2, n3, n4, n5]⟩ : Shape).ReducesTo [5] ⟨5, ![n0, n1, n2, n3, n4]⟩) (l : FVec Ideal ⟨6, ![n0, n1, n2, n3, n4, n5]⟩ .f32)
    (x : FVec Ideal ⟨5, ![n0, n1, n2, n3, n4]⟩ .f32) (init : FVec Ideal u .f32) (hu : 0 < u.numel) (hi : init (Shape.Idx.first hu) = (⊥ : EReal)) (hx : ∀ i, x i = (⊥ : EReal))
    (a0 : Fin n0) (a1 : Fin n1) (a2 : Fin n2) (a3 : Fin n3) (a4 : Fin n4) :
    maximumf x (Host.reduce (FloatOps.maximumf (F := Ideal) (φ := .f32)) l init h hu) (ix5 a0 a1 a2 a3 a4) = Finset.univ.fold max ⊥ (fun k : Fin n5 => l (ix6 a0 a1 a2 a3 a4 k)) := by
  show max (x (ix5 a0 a1 a2 a3 a4)) _ = _
  rw [hx, reduceMax_apply, hi]
  exact max_eq_right bot_le

theorem reduceAdd_apply (h : (⟨6, ![n0, n1, n2, n3, n4, n5]⟩ : Shape).ReducesTo [5] ⟨5, ![n0, n1, n2, n3, n4]⟩) (l : (⟨6, ![n0, n1, n2, n3, n4, n5]⟩ : Shape).Idx → EReal)
    (a0 : Fin n0) (a1 : Fin n1) (a2 : Fin n2) (a3 : Fin n3) (a4 : Fin n4) :
    Ideal.hostReduceAdd h l 0 (ix5 a0 a1 a2 a3 a4) = ∑ k : Fin n5, l (ix6 a0 a1 a2 a3 a4 k) := by
  unfold Ideal.hostReduceAdd
  rw [zero_add]
  exact Finset.sum_filter_eq_sum_of_fiber _ (fun k : Fin n5 => (ix6 a0 a1 a2 a3 a4 k : (⟨6, ![n0, n1, n2, n3, n4, n5]⟩ : Shape).Idx)) (fun _ _ e => congrFun e 5) (fiber h a0 a1 a2 a3 a4) l

end reduce

theorem heads_apply (o : Nat) (h) (ho : o + 128 ≤ 768) (x : Vec Ideal S16384x768 .f32) (b : Fin 2) (n : Fin 64) (r : Fin 128) (g : Fin 2) (e : Fin 64) :
    heads o h x (ix5 b n r g e) = x (ix2 ⟨b * 8192 + (n * 128 + r), by omega⟩ ⟨o + (g * 64 + e), by omega⟩) := by
  pointwise [heads]

theorem withPrev_apply (y : FVec Ideal S2x64x128x2x64 .f32) (b : Fin 2) (n : Fin 64) (j : Fin 256) (g : Fin 2) (e : Fin 64) :
    withPrev y (ix5 b n j g e) = if h : (j : Nat) < 128 then
      if h_1 : (1 ≤ (n : Nat) ∧ (n : Nat) - 1 < 64) ∧ (j : Nat) < 128 then y (ix5 b ⟨n - 1, by omega⟩ ⟨j, by omega⟩ g e)
      else 0
    else y (ix5 b n ⟨j - 128, by omega⟩ g e) := by
  pointwise [withPrev]
  have h0 : (FloatOps.sitofp (F := Ideal) FTy.f32 0#32 : EReal) = 0 := by
    show (((0#32 : BitVec 32).toInt : ℝ) : EReal) = 0
    simp
  rw [h0]

theorem mask_word : ∀ (n : Fin 64) (j : Fin 256), IntOp.cmpi CmpIPredicate.sge
      (IntOp.addi (IntOp.muli (BitVec.ofNat 32 n) 128#32) (IntOp.subi (BitVec.ofNat 32 j) 128#32)) 0#32 =
    if 128 ≤ (j : Nat) ∨ (n : Nat) ≠ 0 then 1#1 else 0#1 := by
  decide +kernel

theorem mask_apply (b : Fin 2) (n : Fin 64) (g : Fin 2) (q : Fin 4) (r : Fin 128) (j : Fin 256) :
    mask (ix6 b n g q r j) = if 128 ≤ (j : Nat) ∨ (n : Nat) ≠ 0 then 1#1 else 0#1 := by
  pointwise [mask]
  exact mask_word n j

theorem logits_apply (x w kk) (b : Fin 2) (n : Fin 64) (g : Fin 2) (q : Fin 4) (r : Fin 128) (j : Fin 256) :
    logits x w kk (ix6 b n g q r j) = if 128 ≤ (j : Nat) ∨ (n : Nat) ≠ 0 then
      (∑ e : Fin 64, kk (ix5 b n j g e) * x (ix2 ⟨b * 8192 + (n * 128 + r), by omega⟩ ⟨g * 256 + q * 64 + e, by omega⟩)) * Ideal.ofBits .f32 0x3E000000#32
        + w (ix3 ⟨g * 4 + q, by omega⟩ r j)
      else ⊥ := by
  pointwise [logits, queries]
  have hb : Ideal.ofBits .f32 0xFF800000#32 = (⊥ : EReal) := by simp [Ideal.ofBits, Ideal.ieee]
  rw [mask_apply]
  by_cases hc : 128 ≤ (j : Nat) ∨ (n : Nat) ≠ 0
  · rw [if_pos hc, if_pos hc]
    rfl
  · rw [if_neg hc, if_neg hc]
    exact hb

theorem withSink_apply (s z) (b : Fin 2) (n : Fin 64) (g : Fin 2) (q : Fin 4) (r : Fin 128) (j : Fin 257) :
    withSink s z (ix6 b n g q r j) = if h : (j : Nat) < 256 then s (ix6 b n g q r ⟨j, h⟩) else z (ix1 ⟨g * 4 + q, by omega⟩) := by
  pointwise [withSink]

theorem greatest_apply (l) (b : Fin 2) (n : Fin 64) (g : Fin 2) (q : Fin 4) (r : Fin 128) :
    greatest l (ix5 b n g q r) = Finset.univ.fold max ⊥ (fun k : Fin 257 => l (ix6 b n g q r k)) := by
  have hb : Ideal.ofBits .f32 0xFF800000#32 = (⊥ : EReal) := by simp [Ideal.ofBits, Ideal.ieee]
  exact greater_apply _ l _ _ _ hb (fun _ => hb) b n g q r

theorem exps_apply (l) (b : Fin 2) (n : Fin 64) (g : Fin 2) (q : Fin 4) (r : Fin 128) (j : Fin 257) :
    exps l (ix6 b n g q r j) = Ideal.exp (l (ix6 b n g q r j) - greatest l (ix5 b n g q r)) := by
  pointwise [exps]

theorem quotient_apply (u) (b : Fin 2) (n : Fin 64) (g : Fin 2) (q : Fin 4) (r : Fin 128) (j : Fin 256) :
    quotient u (ix6 b n g q r j) = Ideal.div (u (ix6 b n g q r ⟨j, by omega⟩)) (∑ k : Fin 257, u (ix6 b n g q r k)) := by
  pointwise [quotient]
  rw [reduceAdd_apply]

theorem softmax_apply (l) (b : Fin 2) (n : Fin 64) (g : Fin 2) (q : Fin 4) (r : Fin 128) (j : Fin 256) :
    softmax l (ix6 b n g q r j) = Ideal.div (exps l (ix6 b n g q r ⟨j, by omega⟩)) (∑ k : Fin 257, exps l (ix6 b n g q r k)) :=
  quotient_apply (exps l) b n g q r j

theorem output_apply (v p) (R : Fin 16384) (k : Fin 512) :
    output v p (ix2 R k) = ∑ x : Fin 256,
      v (ix5 ⟨R / 8192, by omega⟩ ⟨R / 128 % 64, by omega⟩ x ⟨k / 256, by omega⟩ ⟨k % 64, by omega⟩) *
        p (ix6 ⟨R / 8192, by omega⟩ ⟨R / 128 % 64, by omega⟩ ⟨k / 256, by omega⟩ ⟨k / 64 % 4, by omega⟩ ⟨R % 128, by omega⟩ x) := by
  pointwise [output]

end Cert.ReferenceIdeal.Stages

end
-- ==== Proof.SwaClaim.lean ====
module

public import proofs.«01_k».proof.Proof.SwaMath
public import proofs.«01_k».proof.Proof.SwaValue
public import proofs.«01_k».proof.Proof.SwaRef
public import proofs.«01_k».proof.Proof.Gen.Pre_finite_scores

/-!
# The attention against its reference

The reference's result is the kernel's, where the queries, the keys and the sinks are finite and no bias is plus infinity.
-/

@[expose] public section

set_option maxRecDepth 16384

noncomputable section

namespace Cert.KernelIdeal.Attention

open Cert.KernelIdeal Cert.KernelIdeal.Gen Idealize.ShloMosaic Idealize.ShloMosaic.TcCoe Idealize.SL.Sem
open Cert.ReferenceIdeal.Stages (heads heads_apply withPrev withPrev_apply logits logits_apply withSink withSink_apply greatest_apply exps_apply softmax softmax_apply output output_apply)
open scoped BigOperators

/-- The factor of the queries is an eighth. -/
theorem scale_real : scale = ((1 / 8 : ℝ) : EReal) := by
  unfold scale
  simp [Ideal.ofBits, Ideal.ieee]
  norm_num
  rw [← EReal.coe_mul]
  norm_num

/-- What the reference's keys and values hold where a row looks. -/
theorem withPrev_seen (x : Vec Ideal S16384x768 .f32) (o : Nat) (ho) (ho' : o + 128 ≤ 768) (t : Fin 128) (h : Fin 8) (b : Fin 2) (n : Fin 64) (g : Fin 2) (ht : t.val = 64 * b + n) (hg : h.val / 4 = g)
    (j : Fin 256) (hs : seen (t % 64) j) (e : Fin 64) :
    withPrev (heads o ho x) (ix5 b n j g e) = x (ix2 (key t j) ⟨o + (64 * (h / 4) + e), by omega⟩) := by
  have hn : t.val % 64 = n := by omega
  rw [withPrev_apply]
  unfold key
  by_cases hj : (j : Nat) < 128
  · have hn0 : (n : Nat) ≠ 0 := by
      rcases hs with hs | hs
      · omega
      · omega
    rw [dif_pos hj, dif_pos ⟨⟨by omega, by omega⟩, hj⟩, dif_pos hj, heads_apply o ho ho']
    refine congrArg₂ (fun a b => x (ix2 a b)) (Fin.ext ?_) (Fin.ext ?_)
    · show b.val * 8192 + ((n.val - 1) * 128 + j.val) = (before t).val * 128 + j.val
      rw [before_val, if_neg (by omega)]
      omega
    · show o + (g.val * 64 + e.val) = o + (64 * (h.val / 4) + e.val)
      omega
  · rw [dif_neg hj, dif_neg hj, heads_apply o ho ho']
    refine congrArg₂ (fun a b => x (ix2 a b)) (Fin.ext ?_) (Fin.ext ?_)
    · show b.val * 8192 + (n.val * 128 + (j.val - 128)) = t.val * 128 + (j.val - 128)
      omega
    · show o + (g.val * 64 + e.val) = o + (64 * (h.val / 4) + e.val)
      omega

/-- The reference's scores are the kernel's. -/
theorem logits_eq (x : Vec Ideal S16384x768 .f32) (w : Vec Ideal S8x128x256 .f32) (ho) (t : Fin 128) (h : Fin 8) (b : Fin 2) (n : Fin 64) (g : Fin 2) (q : Fin 4) (ht : t.val = 64 * b + n) (hh : h.val = 4 * g + q)
    (r : Fin 128) (j : Fin 256) : logits x w (withPrev (heads 512 ho x)) (ix6 b n g q r j) = score x w t h r j := by
  have hn : t.val % 64 = n := by omega
  rw [logits_apply]
  unfold score
  by_cases hs : seen (t % 64) j
  · rw [if_pos hs, if_pos (by unfold seen at hs; omega)]
    have hw : (⟨g * 4 + q, by omega⟩ : Fin 8) = h := Fin.ext (by show g.val * 4 + q.val = h.val; omega)
    refine congrArg₂ (fun a b : EReal => a + b) ?_ (congrArg (fun h => w (ix3 h r j)) hw)
    show _ * scale = _
    rw [scale_real, sum_mul_real _ _ _ (by norm_num)]
    refine Finset.sum_congr rfl fun e _ => ?_
    rw [withPrev_seen x 512 ho (by omega) t h b n g ht (by omega) j hs e, mul_assoc, mul_comm]
    refine congrArg₂ (fun a b : EReal => a * b) (congrArg (fun a : EReal => a * _) (congrArg₂ (fun a b => x (ix2 a b)) (Fin.ext ?_) (Fin.ext ?_))) rfl
    · show b.val * 8192 + (n.val * 128 + r.val) = t.val * 128 + r.val
      omega
    · show g.val * 256 + q.val * 64 + e.val = 64 * h.val + e.val
      omega
  · rw [if_neg hs, if_neg (by unfold seen at hs; omega)]

/-- No score is plus infinity. -/
theorem score_ne_top (x : Vec Ideal S16384x768 .f32) (w : Vec Ideal S8x128x256 .f32) (hx : ∀ (R : Fin 16384) (k : Fin 768), k.val < 640 → ∃ a : ℝ, x (ix2 R k) = (a : EReal)) (hw : ∀ h r j, w (ix3 h r j) ≠ (⊤ : EReal))
    (t : Fin 128) (h : Fin 8) (r : Fin 128) (j : Fin 256) : score x w t h r j ≠ ⊤ := by
  unfold score
  split
  · refine EReal.add_ne_top ?_ (hw h r j)
    obtain ⟨a, ha⟩ := dot_real (fun e : Fin 64 => x (ix2 (row t r) ⟨64 * h + e, by omega⟩) * scale) (fun e : Fin 64 => x (ix2 (key t j) ⟨512 + (64 * (h / 4) + e), by omega⟩))
      (fun e => by
        obtain ⟨a, ha⟩ := hx (row t r) ⟨64 * h + e, by omega⟩ (by show 64 * h.val + e.val < 640; omega)
        exact ⟨a * (1 / 8), by rw [ha, scale_real, EReal.coe_mul]⟩)
      (fun e => hx _ _ (by show 512 + (64 * (h.val / 4) + e.val) < 640; omega))
    rw [ha]
    exact EReal.coe_ne_top a
  · exact bot_ne_top

/-- The reference's result at an index. -/
theorem ref_apply (x : Vec Ideal S16384x768 .f32) (z : Vec Ideal S8 .f32) (w : Vec Ideal S8x128x256 .f32) (ho ho')
    (hx : ∀ (R : Fin 16384) (k : Fin 768), k.val < 640 → ∃ a : ℝ, x (ix2 R k) = (a : EReal)) (hz : ∀ h, ∃ a : ℝ, z (ix1 h) = (a : EReal)) (hw : ∀ h r j, w (ix3 h r j) ≠ (⊤ : EReal)) (R : Fin 16384) (k : Fin 512) :
    output (withPrev (heads 640 ho x)) (softmax (withSink (logits x w (withPrev (heads 512 ho' x))) z)) (ix2 R k)
      = val x z w ⟨R / 128, by omega⟩ ⟨k / 64, by omega⟩ ⟨R % 128, by omega⟩ ⟨k % 64, by omega⟩ := by
  have ht : (⟨R / 128, by omega⟩ : Fin 128).val = 64 * (⟨R / 8192, by omega⟩ : Fin 2).val + (⟨R / 128 % 64, by omega⟩ : Fin 64).val := by
    show R.val / 128 = 64 * (R.val / 8192) + R.val / 128 % 64
    omega
  have hh : (⟨k / 64, by omega⟩ : Fin 8).val = 4 * (⟨k / 256, by omega⟩ : Fin 2).val + (⟨k / 64 % 4, by omega⟩ : Fin 4).val := by
    show k.val / 64 = 4 * (k.val / 256) + k.val / 64 % 4
    omega
  have hl : ∀ l : Fin 257, withSink (logits x w (withPrev (heads 512 ho' x))) z (ix6 ⟨R / 8192, by omega⟩ ⟨R / 128 % 64, by omega⟩ ⟨k / 256, by omega⟩ ⟨k / 64 % 4, by omega⟩ ⟨R % 128, by omega⟩ l)
      = sunk (score x w ⟨R / 128, by omega⟩ ⟨k / 64, by omega⟩ ⟨R % 128, by omega⟩) (z (ix1 ⟨k / 64, by omega⟩)) l := by
    intro l
    rw [withSink_apply]
    unfold sunk
    by_cases h : (l : Nat) < 256
    · rw [dif_pos h, dif_pos h]
      exact logits_eq x w ho' _ _ _ _ _ _ ht hh _ _
    · rw [dif_neg h, dif_neg h]
      exact congrArg (fun h => z (ix1 h)) (Fin.ext (by show k.val / 256 * 4 + k.val / 64 % 4 = k.val / 64; omega))
  obtain ⟨a, ha⟩ := hz ⟨k / 64, by omega⟩
  have hv := attend_eq (score x w ⟨R / 128, by omega⟩ ⟨k / 64, by omega⟩ ⟨R % 128, by omega⟩) (z (ix1 ⟨k / 64, by omega⟩))
    (fun j => x (ix2 (key ⟨R / 128, by omega⟩ j) ⟨640 + (64 * (k / 64 / 4) + k % 64), by omega⟩))
    (fun j => withPrev (heads 640 ho x) (ix5 ⟨R / 8192, by omega⟩ ⟨R / 128 % 64, by omega⟩ j ⟨k / 256, by omega⟩ ⟨k % 64, by omega⟩))
    (score_ne_top x w hx hw _ _ _) (by rw [ha]; exact EReal.coe_ne_top a) (by rw [ha]; exact EReal.coe_ne_bot a)
    (fun j hj => (withPrev_seen x 640 ho (by omega) ⟨R / 128, by omega⟩ ⟨k / 64, by omega⟩ _ _ _ ht (by show k.val / 64 / 4 = k.val / 256; omega) j
      (by by_contra hc; exact hj (if_neg hc)) ⟨k % 64, by omega⟩).symm)
  unfold val
  refine Eq.trans ?_ hv.symm
  rw [output_apply]
  refine Finset.sum_congr rfl fun j _ => congrArg₂ (fun a b : EReal => a * b) rfl ?_
  rw [softmax_apply]
  simp only [exps_apply, greatest_apply, hl]
  refine congrArg (fun s : EReal => Ideal.div (Ideal.exp (s - _)) _) ?_
  exact sunk_castSucc _ _ j

theorem inf_word : Ideal.ofBits .f32 0x7F800000#32 = (⊤ : EReal) := by simp [Ideal.ofBits, Ideal.ieee]

theorem lt_of_cmp {a b : EReal} (h : Ideal.cmp .olt a b = 1#1) : a < b := by
  by_contra hc
  unfold Ideal.cmp at h
  simp [hc] at h

theorem real_of_abs {a : EReal} (h : max a (-a) < ⊤) : ∃ r : ℝ, a = (r : EReal) := by
  obtain ⟨h1, h2⟩ := max_lt_iff.1 h
  refine ⟨a.toReal, (EReal.coe_toReal h1.ne ?_).symm⟩
  rintro rfl
  simp at h2

variable (m : (ℓ : Loc nD τ sig) → Buf (Elt Ideal) ℓ)

section pre
variable (x : Vec Ideal S16384x768 .f32) (z : Vec Ideal S8 .f32) (w : Vec Ideal S8x128x256 .f32)

theorem pre_x (h : (Cert.Pre_finite_scores.fn (F := Ideal) x z w).1 = fun _ => 1#1) (R : Fin 16384) (k : Fin 768) (hk : k.val < 640) : ∃ a : ℝ, x (ix2 R k) = (a : EReal) := by
  have h0 := congrFun h (ix2 R ⟨k, hk⟩)
  refine real_of_abs ?_
  rw [← inf_word]
  refine lt_of_cmp ?_
  refine Eq.trans ?_ h0
  pointwise [Cert.Pre_finite_scores.fn]
  rfl

theorem pre_z (h : (Cert.Pre_finite_scores.fn (F := Ideal) x z w).2.1 = fun _ => 1#1) (k : Fin 8) : ∃ a : ℝ, z (ix1 k) = (a : EReal) := by
  have h0 := congrFun h (ix1 k)
  refine real_of_abs ?_
  rw [← inf_word]
  refine lt_of_cmp ?_
  refine Eq.trans ?_ h0
  pointwise [Cert.Pre_finite_scores.fn]
  rfl

theorem pre_w (h : (Cert.Pre_finite_scores.fn (F := Ideal) x z w).2.2 = fun _ => 1#1) (k : Fin 8) (r : Fin 128) (j : Fin 256) : w (ix3 k r j) ≠ (⊤ : EReal) := by
  have h0 := congrFun h (ix3 k r j)
  refine ne_of_lt ?_
  rw [← inf_word]
  refine lt_of_cmp ?_
  refine Eq.trans ?_ h0
  pointwise [Cert.Pre_finite_scores.fn]

end pre

/-- The reference's result at the kernel's arguments is the array the kernel leaves. -/
theorem ref_eq (hp : Cert.Pre_KernelIdeal_finite_scores m) (c : Dev nD) (ho ho') :
    (output (withPrev (heads 640 ho (m ((c : Thread nD τ).loc main_arg0)))) (softmax (withSink (logits (m ((c : Thread nD τ).loc main_arg0)) (m ((c : Thread nD τ).loc main_arg2))
      (withPrev (heads 512 ho' (m ((c : Thread nD τ).loc main_arg0))))) (m ((c : Thread nD τ).loc main_arg1)))) : Vec Ideal S16384x512 .f32) = G m c := by
  obtain ⟨h0, h1, h2⟩ := hp c
  funext i
  idx_vars i
  exact ref_apply _ _ _ ho ho' (pre_x _ _ _ h0) (pre_z _ _ _ h1) (pre_w _ _ _ h2) i0 i1

/-- Both runs of the attention: from memories that agree on the arguments, the kernel's result and the reference's are the same
    array, and each program leaves its arguments as they were. -/
theorem algebraic : Cert.algebraic_KernelIdeal_ReferenceIdeal_pre_finite_scores (hKernelIdeal := Cert.KernelIdeal.Gen.facts) (hReferenceIdeal := Cert.ReferenceIdeal.Gen.facts) (hPre_finite_scores := Cert.Pre_finite_scores.Gen.facts) := by
  intro m g m' g' hp hargs
  refine ⟨G m, ?_, ?_⟩
  · refine (θ_run defs _ _).mono (fun r h c => ?_) (Value.run_blocks m g)
    exact ⟨(h c).1.trans (arr7_eq m c), (h c).2⟩
  · refine (θ_run Cert.ReferenceIdeal.defs _ _).mono (fun r h c => ?_) (Cert.ReferenceIdeal.Value.run m' g')
    obtain ⟨h0, ha⟩ := h c
    obtain ⟨a0, a1, a2⟩ := hargs c
    have h1 := h0.trans (Cert.ReferenceIdeal.Stages.result_eq m' c)
    rw [a0, a1, a2] at h1
    exact ⟨h1.trans (ref_eq m hp c _ _), ha⟩

end Cert.KernelIdeal.Attention

end
-- ==== Proof.ExpertsMath.lean ====
/-
  Hand-written, untrusted. The experts' mathematics at one row and one output column: two columns of the first product, clipped
  and gated, then the second product.
-/
module

public import proofs.«01_k».proof.Defs
public import proofs.«01_k».proof.Proof.Gen.ExpertsIdeal.Skeleton
public import proofs.«01_k».proof.Proof.Gen.ExpertsRefIdeal.Run
public import Idealize.ShloMosaic.Lib.Pipeline.Value
public import Idealize.ShloMosaic.Lib.Pointwise
public import Idealize.ShloMosaic.Lib.WordCmp

@[expose] public section

noncomputable section

namespace Cert.ExpertsIdeal.Rows

open Cert.ExpertsIdeal Cert.ExpertsIdeal.Gen Idealize.ShloMosaic Idealize.ShloMosaic.TcCoe Idealize.SL.Sem
open scoped BigOperators

/-- The two halves of a hidden unit, clipped and gated: `g' · sigmoid(1.702 g') · (l' + 1)`. -/
def gated (g l : EReal) : EReal :=
  min g (Ideal.ofBits .f32 0x40E00000#32)
    * Ideal.div (Ideal.ofBits .f32 0x3F800000#32) (Ideal.ofBits .f32 0x3F800000#32
        + FloatOps.exp (F := Ideal) (φ := .f32) (-(Ideal.ofBits .f32 0x3FD9DB23#32 * min g (Ideal.ofBits .f32 0x40E00000#32))))
    * (min (max l (Ideal.ofBits .f32 0xC0E00000#32)) (Ideal.ofBits .f32 0x40E00000#32) + Ideal.ofBits .f32 0x3F800000#32)

/-- One hidden unit of a row: the products with its even and its odd column, each with its bias, gated. -/
def unit (x w v : Fin 1024 → EReal) (b d : EReal) : EReal := gated ((∑ k, x k * w k) + b) ((∑ k, x k * v k) + d)

/-- The body's gated block at row `r` and hidden unit `j`. -/
theorem pay3_apply (x : Vec Ideal S256x1024 .f32) (w : Vec Ideal S1x1024x1024 .bf16) (b : Vec Ideal S1x1x1024 .f32) (v : Vec Ideal S1x1024x1024 .bf16) (d : Vec Ideal S1x1x1024 .f32) (r : Fin 256) (j : Fin 1024) :
    k0_pay3 x w b v d (ix2 r j) = unit (fun k => x (ix2 r k)) (fun k => w (ix3 0 k j)) (fun k => v (ix3 0 k j)) (b (ix3 0 0 j)) (d (ix3 0 0 j)) := by
  pointwise [k0_pay3, unit, gated]
  rw [zero_sub, min_comm (Ideal.ofBits .f32 0x40E00000#32) (max _ _), max_comm (Ideal.ofBits .f32 0xC0E00000#32)]

/-- The body's result block at row `r` and column `j`. -/
theorem pay1_apply (a : FVec Ideal S256x1024 .bf16) (w : Vec Ideal S1x1024x1024 .bf16) (b : Vec Ideal S1x1x1024 .f32) (r : Fin 256) (j : Fin 1024) :
    k0_pay1 a w b (ix2 r j) = (∑ k : Fin 1024, a (ix2 r k) * w (ix3 0 k j)) + b (ix3 0 0 j) := by
  pointwise [k0_pay1]

end Cert.ExpertsIdeal.Rows

namespace Cert.ExpertsRefIdeal.Rows

open Cert.ExpertsRefIdeal Cert.ExpertsRefIdeal.Gen Idealize.ShloMosaic Idealize.ShloMosaic.TcCoe Idealize.SL.Sem
open Cert.ExpertsIdeal.Rows (gated unit)
open scoped BigOperators

section Gathers

variable {α : Type}

/-- Taking whole slabs `[A, B]` of an operand `[N, A, B]`, one per start index. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The slabs taken, at an index: the slab is the start index's, read signed and clamped. -/
theorem gather_slab {N A B n w : Nat} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (p : Fin A) (q : Fin B) :
    Host.gather (slabDims N A B n wf) x idx (ix3 b p q) = x (ix3 ⟨min (idx (ix2 b 0)).toInt.toNat (N - 1), by omega⟩ p q) := by
  unfold Host.gather
  refine congrArg x (funext fun a => Fin.ext ?_)
  show (slabDims N A B n wf).start (ix3 b p q) idx a + (slabDims N A B n wf).batchCoord (ix3 b p q) a + (slabDims N A B n wf).offCoord (ix3 b p q) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B n wf).startIndexMap from List.mem_singleton.mpr rfl)]
    have hsi : (slabDims N A B n wf).siIdx (ix3 b p q) ⟨List.idxOf (0 : Fin 3) (slabDims N A B n wf).startIndexMap,
        List.idxOf_lt_length_iff.2 (List.mem_singleton.mpr rfl)⟩ = ix2 b 0 := by
      funext c; refine Fin.ext ?_
      match c with
      | ⟨0, _⟩ => rfl
      | ⟨1, _⟩ => rfl
    exact congrArg (fun i => min (idx i).toInt.toNat (N - 1)) hsi
  · unfold GatherDims.start GatherDims.offCoord
    rw [dif_neg (show (1 : Fin 3) ∉ (slabDims N A B n wf).startIndexMap from fun h => absurd (congrArg Fin.val (List.mem_singleton.mp h)) (Nat.succ_ne_zero 0)), Nat.zero_add,
      dif_pos ((GatherDims.mem_sKept _ _).mpr ⟨fun h => absurd (congrArg Fin.val (List.mem_singleton.mp h)) (Nat.succ_ne_zero 0), List.not_mem_nil⟩)]
    rfl
  · unfold GatherDims.start GatherDims.offCoord
    rw [dif_neg (show (2 : Fin 3) ∉ (slabDims N A B n wf).startIndexMap from fun h => absurd (congrArg Fin.val (List.mem_singleton.mp h)) (Nat.succ_ne_zero 1)), Nat.zero_add,
      dif_pos ((GatherDims.mem_sKept _ _).mpr ⟨fun h => absurd (congrArg Fin.val (List.mem_singleton.mp h)) (Nat.succ_ne_zero 1), List.not_mem_nil⟩)]
    rfl

/-- Taking whole rows `[A]` of an operand `[N, A]`, one per start index. -/
abbrev rowDims (N A n : Nat) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- The rows taken, at an index. -/
theorem gather_row {N A n w : Nat} (hN : 0 < N) (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ w) (b : Fin n) (p : Fin A) :
    Host.gather (rowDims N A n wf) x idx (ix2 b p) = x (ix2 ⟨min (idx (ix2 b 0)).toInt.toNat (N - 1), by omega⟩ p) := by
  unfold Host.gather
  refine congrArg x (funext fun a => Fin.ext ?_)
  show (rowDims N A n wf).start (ix2 b p) idx a + (rowDims N A n wf).batchCoord (ix2 b p) a + (rowDims N A n wf).offCoord (ix2 b p) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N A n wf).startIndexMap from List.mem_singleton.mpr rfl)]
    have hsi : (rowDims N A n wf).siIdx (ix2 b p) ⟨List.idxOf (0 : Fin 2) (rowDims N A n wf).startIndexMap,
        List.idxOf_lt_length_iff.2 (List.mem_singleton.mpr rfl)⟩ = ix2 b 0 := by
      funext c; refine Fin.ext ?_
      match c with
      | ⟨0, _⟩ => rfl
      | ⟨1, _⟩ => rfl
    exact congrArg (fun i => min (idx i).toInt.toNat (N - 1)) hsi
  · unfold GatherDims.start GatherDims.offCoord
    rw [dif_neg (show (1 : Fin 2) ∉ (rowDims N A n wf).startIndexMap from fun h => absurd (congrArg Fin.val (List.mem_singleton.mp h)) (Nat.succ_ne_zero 0)), Nat.zero_add,
      dif_pos ((GatherDims.mem_sKept _ _).mpr ⟨fun h => absurd (congrArg Fin.val (List.mem_singleton.mp h)) (Nat.succ_ne_zero 0), List.not_mem_nil⟩)]
    rfl

end Gathers

/-- The start indices the reference takes experts by: the block's expert, a negative one counted from the end. -/
def starts (be : IVec S288 32) : IVec S288x1 32 :=
  broadcastInDim S288x1 ![0] bcast_S288_S288x1_0 (select (cmpi .slt be (broadcastInDim S288 ![] bcast_S_S288 (constantI S_ 32 0#32)))
    (addi be (broadcastInDim S288 ![] bcast_S_S288 (constantI S_ 32 32#32))) be)

/-- An expert in range is its own start index. -/
theorem starts_apply (be : IVec S288 32) (b : Fin 288) (h : (be (ix1 b)).toNat < 32) : (starts be (ix2 b 0)).toInt.toNat = (be (ix1 b)).toNat := by
  have e : starts be (ix2 b 0) = be (ix1 b) := by
    pointwise [starts]
    rw [WordCmp.cmpi_slt_zero, WordCmp.select_decide, if_neg (by omega)]
  rw [e, WordCmp.toInt_eq_toNat_of_lt_half (by omega)]; rfl

/-- The reference's first product with its bias: both halves of the hidden units, interleaved. -/
def hidden (be : IVec S288 32) (x : Vec Ideal S73728x1024 .f32) (w1 : Vec Ideal S32x1024x2048 .f32) (b1 : Vec Ideal S32x2048 .f32) : FVec Ideal S288x256x2048 .f32 :=
  addf (Host.dotGeneral (F := Ideal) (φ₁ := .f32) (φ₂ := .f32) dot_S288x256x1024_S288x1024x2048_S288x256x2048_2_1_1_2_0_0 none (shapeCast _ x shapeCasts_S73728x1024_S288x256x1024)
      (Host.gather gather_S32x1024x2048_S288x1_S288x1024x2048_12_0_n_n_0_1_110242048 w1 (starts be)))
    (broadcastInDim S288x256x2048 ![0, 1, 2] bcast_S288x1x2048_S288x256x2048_0_1_2 (broadcastInDim S288x1x2048 ![0, 2] bcast_S288x2048_S288x1x2048_0_2
      (Host.gather gather_S32x2048_S288x1_S288x2048_1_0_n_n_0_1_12048 b1 (starts be))))

/-- Row `r` of block `b`. -/
def row (b : Fin 288) (r : Fin 256) : Fin 73728 := ⟨b * 256 + r, by omega⟩

/-- The gated hidden units of the interleaved first product. -/
def act (hd : FVec Ideal S288x256x2048 .f32) : FVec Ideal S288x256x1024 .f32 :=
  have g : FVec Ideal S288x256x1024 .f32 := minimumf (Host.slice S288x256x1024 ![0, 0, 0] ![1, 1, 2] hd slicesBy_S288x256x2048_S288x256x1024_0s1_0s1_0s2) (broadcastInDim S288x256x1024 ![] bcast_S_S288x256x1024 (constant S_ .f32 0x40E00000#32))
  mulf (mulf g (Host.divf (broadcastInDim S288x256x1024 ![] bcast_S_S288x256x1024 (constant S_ .f32 0x3F800000#32)) (addf (broadcastInDim S288x256x1024 ![] bcast_S_S288x256x1024 (constant S_ .f32 0x3F800000#32))
      (Host.exp (Host.negf (mulf (broadcastInDim S288x256x1024 ![] bcast_S_S288x256x1024 (constant S_ .f32 0x3FD9DB23#32)) g))))))
    (addf (minimumf (maximumf (Host.slice S288x256x1024 ![0, 0, 1] ![1, 1, 2] hd slicesBy_S288x256x2048_S288x256x1024_0s1_0s1_1s2) (broadcastInDim S288x256x1024 ![] bcast_S_S288x256x1024 (constant S_ .f32 0xC0E00000#32)))
      (broadcastInDim S288x256x1024 ![] bcast_S_S288x256x1024 (constant S_ .f32 0x40E00000#32))) (broadcastInDim S288x256x1024 ![] bcast_S_S288x256x1024 (constant S_ .f32 0x3F800000#32)))

theorem act_apply (hd : FVec Ideal S288x256x2048 .f32) (b : Fin 288) (r : Fin 256) (j : Fin 1024) :
    act hd (ix3 b r j) = gated (hd (ix3 b r ⟨2 * j, by omega⟩)) (hd (ix3 b r ⟨1 + 2 * j, by omega⟩)) := by
  pointwise [act, gated]

section Taken

variable (be : IVec S288 32) (b : Fin 288) (h : (be (ix1 b)).toNat < 32)

include h in
theorem start_eq : (⟨min (starts be (ix2 b 0)).toInt.toNat (32 - 1), by omega⟩ : Fin 32) = ⟨_, h⟩ :=
  Fin.ext (by show min _ _ = (be (ix1 b)).toNat; rw [starts_apply be b h]; omega)

theorem take_w1 (w : Vec Ideal S32x1024x2048 .f32) (k : Fin 1024) (j : Fin 2048) :
    Host.gather gather_S32x1024x2048_S288x1_S288x1024x2048_12_0_n_n_0_1_110242048 w (starts be) (ix3 b k j) = w (ix3 ⟨_, h⟩ k j) := by
  rw [← start_eq be b h]; exact gather_slab (by norm_num) _ w (starts be) b k j

theorem take_b1 (w : Vec Ideal S32x2048 .f32) (j : Fin 2048) :
    Host.gather gather_S32x2048_S288x1_S288x2048_1_0_n_n_0_1_12048 w (starts be) (ix2 b j) = w (ix2 ⟨_, h⟩ j) := by
  rw [← start_eq be b h]; exact gather_row (by norm_num) _ w (starts be) b j

theorem take_w2 (w : Vec Ideal S32x1024x1024 .f32) (k : Fin 1024) (j : Fin 1024) :
    Host.gather gather_S32x1024x1024_S288x1_S288x1024x1024_12_0_n_n_0_1_110241024 w (starts be) (ix3 b k j) = w (ix3 ⟨_, h⟩ k j) := by
  rw [← start_eq be b h]; exact gather_slab (by norm_num) _ w (starts be) b k j

theorem take_b2 (w : Vec Ideal S32x1024 .f32) (j : Fin 1024) :
    Host.gather gather_S32x1024_S288x1_S288x1024_1_0_n_n_0_1_11024 w (starts be) (ix2 b j) = w (ix2 ⟨_, h⟩ j) := by
  rw [← start_eq be b h]; exact gather_row (by norm_num) _ w (starts be) b j

theorem hidden_apply (x : Vec Ideal S73728x1024 .f32) (w1 : Vec Ideal S32x1024x2048 .f32) (b1 : Vec Ideal S32x2048 .f32) (r : Fin 256) (j : Fin 2048) :
    hidden be x w1 b1 (ix3 b r j) = (∑ k : Fin 1024, x (ix2 (row b r) k) * w1 (ix3 ⟨_, h⟩ k j)) + b1 (ix2 ⟨_, h⟩ j) := by
  pointwise [hidden]
  simp only [take_w1 be b h, take_b1 be b h]
  rfl

/-- The reference's blocks: the gated units by the second matrix, with its bias, in the active blocks and zeros in the others. -/
def blocks (na : IVec S1 32) (a : FVec Ideal S288x256x1024 .f32) (w2 : Vec Ideal S32x1024x1024 .f32) (b2 : Vec Ideal S32x1024 .f32) : FVec Ideal S288x256x1024 .f32 :=
  select (broadcastInDim S288x256x1024 ![0, 1, 2] bcast_S288x1x1_S288x256x1024_0_1_2 (cmpi .slt (broadcastInDim S288x1x1 ![0] bcast_S288_S288x1x1_0 (iotaInDim S288 32 0)) (broadcastInDim S288x1x1 ![] bcast_S_S288x1x1 (shapeCast _ na shapeCasts_S1_S_))))
    (addf (Host.dotGeneral (F := Ideal) (φ₁ := .f32) (φ₂ := .f32) dot_S288x256x1024_S288x1024x1024_S288x256x1024_2_1_1_2_0_0 none a (Host.gather gather_S32x1024x1024_S288x1_S288x1024x1024_12_0_n_n_0_1_110241024 w2 (starts be)))
      (broadcastInDim S288x256x1024 ![0, 1, 2] bcast_S288x1x1024_S288x256x1024_0_1_2 (broadcastInDim S288x1x1024 ![0, 2] bcast_S288x1024_S288x1x1024_0_2 (Host.gather gather_S32x1024_S288x1_S288x1024_1_0_n_n_0_1_11024 b2 (starts be)))))
    (broadcastInDim S288x256x1024 ![] bcast_S_S288x256x1024 (id (constant S_ .f32 0x00000000#32)))

theorem blocks_apply (na : IVec S1 32) (a : FVec Ideal S288x256x1024 .f32) (w2 : Vec Ideal S32x1024x1024 .f32) (b2 : Vec Ideal S32x1024 .f32) (r : Fin 256) (j : Fin 1024) :
    blocks be na a w2 b2 (ix3 b r j) = if (b : Int) < (na (ix1 0)).toInt then (∑ k : Fin 1024, a (ix3 b r k) * w2 (ix3 ⟨_, h⟩ k j)) + b2 (ix2 ⟨_, h⟩ j) else 0 := by
  pointwise [blocks]
  simp only [take_w2 be b h, take_b2 be b h]
  rw [WordCmp.cmpi_slt_eq, WordCmp.select_decide, WordCmp.toInt_ofNat_of_lt (by omega)]
  exact congrArg (fun z : EReal => if (b : Int) < (na (ix1 0)).toInt then _ else z) Ideal.ofBits_zero_f32

end Taken

/-- The reference's result, as these stages. -/
theorem result_eq (m : (ℓ : Loc nD τ sig) → Buf (Elt Ideal) ℓ) (c : Dev nD) :
    Value.res_out0 m c = (shapeCast S73728x1024 (blocks (m ((c : Thread nD τ).loc main_arg0)) (m ((c : Thread nD τ).loc main_arg1))
      (act (hidden (m ((c : Thread nD τ).loc main_arg0)) (m ((c : Thread nD τ).loc main_arg2)) (m ((c : Thread nD τ).loc main_arg3)) (m ((c : Thread nD τ).loc main_arg4))))
      (m ((c : Thread nD τ).loc main_arg5)) (m ((c : Thread nD τ).loc main_arg6))) shapeCasts_S288x256x1024_S73728x1024 : Vec Ideal S73728x1024 .f32) := rfl

end Cert.ExpertsRefIdeal.Rows

end
-- ==== Proof.ExpertsIdealBody.lean ====
/- The body of the experts' kernel run once, on any whole staging buffers: in a block before the first n_active it
   leaves the block's rows through the expert's two layers, in a later block zeros. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them. -/
abbrev expertTable : Memref sig .tc .smem S288 .i32 := Memref.whole main_arg0
abbrev countTable : Memref sig .tc .smem S1 .i32 := Memref.whole main_arg1

/-- A table's contents on core `c`, and the half of it the body reads. -/
abbrev TableBuf (c : Dev nD) {S : Shape} {e : EltTy} (M : Memref sig .tc .smem S e) : Type := Buf (Elt F) (M.view.loc (c : Thread nD τ))
abbrev tableHalf (c : Dev nD) {S : Shape} {e : EltTy} (M : Memref sig .tc .smem S e) (f : TableBuf (F := F) c M) : sProp 𝕄 :=
  M.view.loc (c : Thread nD τ) ↦{fullShare.right} f

/-- The word of the count table. -/
abbrev count (t : S1.Idx → BitVec 32) : BitVec 32 := t (Shape.Idx.first (s := S1) (by decide))

/-- What the body leaves of a block: its rows through the expert's two layers while the block is active, else zeros. -/
def blockOut (i : grid0.Coords) (x0 : Vec F S256x1024 .f32) (x1 : Vec F S1x1024x1024 .bf16) (x2 : Vec F S1x1024x1024 .bf16)
    (x3 : Vec F S1x1x1024 .f32) (x4 : Vec F S1x1x1024 .f32) (x5 : Vec F S1x1024x1024 .bf16) (x6 : Vec F S1x1x1024 .f32)
    (t1 : S1.Idx → BitVec 32) : Vec F S256x1024 .f32 :=
  if k0_cond1 i (count t1) = 1#1 then k0_pay1 (k0_pay3 x0 x1 x3 x2 x4) x5 x6 else k0_pay2

/-- One of the two conditions holds and the other does not. -/
theorem cond2_iff (i : grid0.Coords) (v : BitVec 32) : k0_cond2 i v = 1#1 ↔ ¬ k0_cond1 i v = 1#1 := by
  have key : ∀ p : Bool, (IntOp.cmpi .ne ((BitVec.ofBool p).setWidth 32) 0#32 = 1#1 ↔ p = true) := by decide
  refine (key _).trans (Iff.trans ?_ (not_congr (key _)).symm)
  show v.sle (BitVec.ofNat 32 (i 0).val) = true ↔ ¬ (BitVec.ofNat 32 (i 0).val).slt v = true
  rw [BitVec.sle_iff_toInt_le, BitVec.slt_iff_toInt_lt, Int.not_lt]

set_option maxHeartbeats 1000000 in
theorem body_run (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (x0 : Vec F S256x1024 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (t0 : TableBuf (F := F) c expertTable) (t1 : TableBuf (F := F) c countTable)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tableHalf c expertTable t0 ∗ tableHalf c countTable t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (blockOut i x0 x1 x2 x3 x4 x5 x6 t1) ∗ tableHalf c expertTable t0 ∗ tableHalf c countTable t1) -∗ K ⟨⟩))
      ⊢ wp frame (wpE (defs₀ (F := F)) Variants.none c none) E (cc0__expert_kernel i expertTable (Memref.isWhole_whole _) countTable (Memref.isWhole_whole _) arg3 harg3 arg4 harg4 arg5 harg5 arg6 harg6 arg7 harg7 arg8 harg8 arg9 harg9 arg10 harg10) K := by
  simp only [cc0__expert_kernel_eq_skeleton]; unfold cc0__expert_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    have ec : body_run.sl.r c t1 = count t1 := by
      unfold body_run.sl.r
      exact congrFun (View.readAt_full countTable.view t1 _) _
    rw [ec]
    unfold blockOut
    by_cases hb : k0_cond1 i (count t1) = 1#1
    · have hn : ¬ k0_cond2 i (count t1) = 1#1 := fun h => (cond2_iff i _).1 h hb
      rw [dif_neg hn, dif_pos hb, if_pos hb]
      unfold body_run.sl.r_1
      refine (View.read_writes_full _ _ _ _ _).trans ?_
      refine congr (congr (congrArg k0_pay1 ?_) ((View.readAt_full _ _ _).trans hf5)) ((View.readAt_full _ _ _).trans hf6)
      exact congr (congr (congr (congr (congrArg k0_pay3 ((View.readAt_full _ _ _).trans hf0)) ((View.readAt_full _ _ _).trans hf1))
        ((View.readAt_full _ _ _).trans hf3)) ((View.readAt_full _ _ _).trans hf2)) ((View.readAt_full _ _ _).trans hf4)
    · have hp : k0_cond2 i (count t1) = 1#1 := (cond2_iff i _).2 hb
      rw [dif_pos hp, dif_neg hb, if_neg hb]
      exact View.read_writes_full _ _ _ _ _
  isplitl [HT0]; · iexact HT0
  iexact HT1

end Cert.ExpertsIdeal.Rows

end
-- ==== Proof.ExpertsIdealRun.lean ====
/- The run of the experts' program: its host operations, the pipeline over the 288 blocks at whatever the two
   tables hold, what every array holds at the end, and the frame, under the pipeline's side condition of the tables. -/
module

public import proofs.«01_k».proof.Proof.ExpertsIdealBody
public import Idealize.ShloMosaic.Lib.Claim

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- The buffers' contents when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem main_to_region (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_arg (c : Dev nD) (b : Ref sig .tc) (hb : b ∈ [main_arg0, main_arg1, main_arg2, main_arg3, main_arg4, main_arg5, main_arg6]) :
    V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  simp only [List.mem_cons, List.not_mem_nil, or_false] at hb
  rcases hb with rfl | rfl | rfl | rfl | rfl | rfl | rfl
  all_goals
    repeat' apply And.intro
    all_goals exact StableHlo.devRef_ne_of_ne (by decide)

/-! ## The tables -/

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The pipeline's side condition of the tables: every window's block inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tableHalf c expertTable (tbl m 0) ∗ tableHalf c countTable (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging memref window `w` is on at point `t`, and that it is a whole buffer. -/
abbrev ms_0 (hO : Ok m) (t : Fin (cfgM m hO).N) : Memref sig .tc .vmem S256x1024 .f32 := spec0_0.stage ((cfgM m hO).slots t 0)
abbrev ms_1 (hO : Ok m) (t : Fin (cfgM m hO).N) : Memref sig .tc .vmem S1x1024x1024 .bf16 := spec0_1.stage ((cfgM m hO).slots t 1)
abbrev ms_2 (hO : Ok m) (t : Fin (cfgM m hO).N) : Memref sig .tc .vmem S1x1024x1024 .bf16 := spec0_2.stage ((cfgM m hO).slots t 2)
abbrev ms_3 (hO : Ok m) (t : Fin (cfgM m hO).N) : Memref sig .tc .vmem S1x1x1024 .f32 := spec0_3.stage ((cfgM m hO).slots t 3)
abbrev ms_4 (hO : Ok m) (t : Fin (cfgM m hO).N) : Memref sig .tc .vmem S1x1x1024 .f32 := spec0_4.stage ((cfgM m hO).slots t 4)
abbrev ms_5 (hO : Ok m) (t : Fin (cfgM m hO).N) : Memref sig .tc .vmem S1x1024x1024 .bf16 := spec0_5.stage ((cfgM m hO).slots t 5)
abbrev ms_6 (hO : Ok m) (t : Fin (cfgM m hO).N) : Memref sig .tc .vmem S1x1x1024 .f32 := spec0_6.stage ((cfgM m hO).slots t 6)
abbrev ms_7 (hO : Ok m) (t : Fin (cfgM m hO).N) : Memref sig .tc .vmem S256x1024 .f32 := spec0_7.stage ((cfgM m hO).slots t 7)

/-- The body at point `t`, on what the pipeline calls it with. -/
abbrev bodyAt (hO : Ok m) (t : Fin (cfgM m hO).N) : Prog (TpuEff nD τ sig (Elt F) Λ₀ .tc) PUnit :=
  cc0__expert_kernel (grid0.coords t) expertTable (Memref.isWhole_whole _) countTable (Memref.isWhole_whole _) (ms_0 m hO t) (hstage0_0 (((cfgM m hO).slots t 0).cast nbuf0_0)) (ms_1 m hO t) (hstage0_1 (((cfgM m hO).slots t 1).cast nbuf0_1)) (ms_2 m hO t) (hstage0_2 (((cfgM m hO).slots t 2).cast nbuf0_2)) (ms_3 m hO t) (hstage0_3 (((cfgM m hO).slots t 3).cast nbuf0_3)) (ms_4 m hO t) (hstage0_4 (((cfgM m hO).slots t 4).cast nbuf0_4)) (ms_5 m hO t) (hstage0_5 (((cfgM m hO).slots t 5).cast nbuf0_5)) (ms_6 m hO t) (hstage0_6 (((cfgM m hO).slots t 6).cast nbuf0_6)) (ms_7 m hO t) (hstage0_7 (((cfgM m hO).slots t 7).cast nbuf0_7))

/-- What the body leaves in the output's buffer at point `t`. -/
def outAt (hO : Ok m) (c : Dev nD) (t : Fin (cfgM m hO).N) : Vec F S256x1024 .f32 :=
  blockOut (grid0.coords t) (iblk m hO c 0 t) (iblk m hO c 1 t) (iblk m hO c 2 t) (iblk m hO c 3 t) (iblk m hO c 4 t) (iblk m hO c 5 t) (iblk m hO c 6 t) (tbl m 1)

/-- The proof data: every array as the region finds it, each input's buffer left at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outAt m hO c t := by dsimp only [dats]; try rfl

/-- An input's staging buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ owns (c : Thread nD τ) (ms_7 m hO t) fullShare ((dats m hO 0 c).after 7 t))

set_option maxHeartbeats 800000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem some_cond (i : grid0.Coords) (v : BitVec 32) : (!(k0_cond1 i v == 1#1) && !(k0_cond2 i v == 1#1)) = false := by
  have h := cond2_iff i v
  by_cases hb : k0_cond1 i v = 1#1
  · rw [hb]; rfl
  · rw [h.2 hb]; simp only [beq_self_eq_true, Bool.not_true, Bool.and_false]

/-- The output's window is written at every point, whatever the tables hold: one of the two conditions holds. -/
theorem never_idle (a : (pcfg0 (F := F)).Adm) (i : grid0.Coords) : (cfg0 a).idle 7 i = false := some_cond i (a.1.atD 1 ![0])

set_option maxHeartbeats 800000 in
theorem body_obligation (hO : Ok m) (c : Dev nD) : BodyObligation (dats (F := F) m hO 0 c) (defs₀ (F := F)) Variants.none () Set.univ := fun t => by
  rw [bigSep_W0, bigSep_W0, body_row m hO]
  rw [never_idle (adm m hO)]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_to_region m Variants.none) (hA := A_eq m hO) (hpf := V_pre m)
    (hΦ := fun _ _ => rfl)

/-- At the end: the output's array as its last contents, every argument unchanged, every counter zero. -/
theorem run_values (hO : Ok m) : θ_run defs (onTc (τ := τ) (main (F := F))) ⟨m, fun _ => 0, ρ⟩ (fun r => (∀ c : Dev nD,
      r.2.mem ((c.tc : Thread nD τ).loc main_v14) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 7,
      ((h.1 c).2 main_arg0 (by decide : main_arg0 ∈ Pipeline.restRefs sig spec0)).trans (V_arg m c main_arg0 (by decide)),
      ((h.1 c).2 main_arg1 (by decide : main_arg1 ∈ Pipeline.restRefs sig spec0)).trans (V_arg m c main_arg1 (by decide)),
      ((h.1 c).1 0).trans (((dats m hO 0 c).arrAt_in 0 rfl _).trans ((A_eq m hO c 0).trans (V_arg m c main_arg2 (by decide)))),
      ((h.1 c).2 main_arg3 (by decide : main_arg3 ∈ Pipeline.restRefs sig spec0)).trans (V_arg m c main_arg3 (by decide)),
      ((h.1 c).2 main_arg4 (by decide : main_arg4 ∈ Pipeline.restRefs sig spec0)).trans (V_arg m c main_arg4 (by decide)),
      ((h.1 c).2 main_arg5 (by decide : main_arg5 ∈ Pipeline.restRefs sig spec0)).trans (V_arg m c main_arg5 (by decide)),
      ((h.1 c).2 main_arg6 (by decide : main_arg6 ∈ Pipeline.restRefs sig spec0)).trans (V_arg m c main_arg6 (by decide))⟩, h.2⟩)
    (run_main_quiescent m ρ hO)

/-- The frame: the argument arrays end unchanged, every counter zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_values m ρ hO)

end Cert.ExpertsIdeal.Rows

end
-- ==== Proof.ExpertsIdealTables.lean ====
/- The tables of the experts' program under the precondition: every block's expert is one of the 32 and one
   block at least is active, so every window's block is inside its array. -/
module

public import proofs.«01_k».proof.Defs
public import proofs.«01_k».proof.Proof.ExpertsIdealRun
public import proofs.«01_k».proof.Proof.Gen.Pre_tables_in_range
public import Idealize.ShloMosaic.Lib.StableHlo.Predicate

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.WordCmp

variable {F : FTy → Type} [FloatOps F]

/-- What the precondition says of the two tables' words. -/
structure InRange (be : S288.Idx → BitVec 32) (na : S1.Idx → BitVec 32) : Prop where
  expert : ∀ x, (be x).toNat < 32
  active : 1 ≤ (count na).toInt

theorem inRange_of_words {be : S288.Idx → BitVec 32} {na : S1.Idx → BitVec 32}
    (h0 : ∀ x, IntOp.andi (IntOp.cmpi .sge (be x) 0#32) (IntOp.cmpi .slt (be x) 32#32) = 1#1)
    (h1 : ∀ x, IntOp.cmpi .sge (na x) 1#32 = 1#1) : InRange be na where
  expert x := by
    have h := h0 x
    rw [show (32#32 : BitVec 32) = BitVec.ofNat 32 32 from rfl, andi_sge_zero_slt_ofNat (by norm_num), ofBool_decide_eq_one_iff] at h
    exact h
  active := by
    have h := h1 (Shape.Idx.first (s := S1) (by decide))
    rw [cmpi_sge_eq, ofBool_decide_eq_one_iff] at h
    exact h

/-- The smaller of a point of the grid and the last active block is at most the point. -/
theorem min_le {n : Nat} (hn : n < 288) {v : BitVec 32} (hv : 1 ≤ v.toInt) :
    (Scalar.minsi (BitVec.ofNat 32 n) (Scalar.subi v 1#32)).toNat = min n (v.toNat - 1) := by
  have hi : v.toInt = v.toNat := by
    have h0 := (toInt_nonneg_iff_lt_half v).1 (by omega)
    exact toInt_eq_toNat_of_lt_half h0
  have h0 : v.toNat < 2 ^ 31 := (toInt_nonneg_iff_lt_half v).1 (by omega)
  have h1 : 1 ≤ v.toNat := by omega
  have hs : (Scalar.subi v 1#32).toNat = v.toNat - 1 := by
    show (v - 1#32).toNat = _
    rw [BitVec.toNat_sub_of_le (by rw [BitVec.le_def]; exact h1)]; rfl
  have hsi : (Scalar.subi v 1#32).toInt = ((v.toNat - 1 : Nat) : Int) := by
    rw [toInt_eq_toNat_of_lt_half (by rw [hs]; omega), hs]
  have hni : (BitVec.ofNat 32 n).toInt = (n : Int) := toInt_ofNat_of_lt (by omega)
  show (if (BitVec.ofNat 32 n).slt (Scalar.subi v 1#32) then BitVec.ofNat 32 n else Scalar.subi v 1#32).toNat = _
  by_cases h : n < v.toNat - 1
  · rw [if_pos (by rw [BitVec.slt_iff_toInt_lt, hni, hsi]; exact_mod_cast h), toNat_ofNat_of_lt (by omega)]; omega
  · rw [if_neg (by rw [BitVec.slt_iff_toInt_lt, hni, hsi]; exact_mod_cast h), hs]; omega

variable (pf : pre0.Contents (Elt F))

/-- The block of rows fetched at a point. -/
theorem rows_index (h : InRange (pf 0) (pf 1)) (i : grid0.Coords) :
    cc0_transform_0 inb_S1_S1_0 numel1_S1 pf i = ![min (i 0).val ((count (pf 1)).toNat - 1), 0] := by
  unfold cc0_transform_0
  have e : pf.at 1 (Rect.unit (s := S1) ![0] S1.size inb_S1_S1_0) numel1_S1 = count (pf 1) :=
    congrArg (fun x : S1.Idx => pf 1 x) (funext fun a => match a with | ⟨0, _⟩ => Subsingleton.elim (α := Fin 1) _ _)
  have hm := min_le (n := (i 0).val) (i 0).isLt h.active
  rw [← e] at hm ⊢
  funext a
  match a with
  | ⟨0, _⟩ => exact hm
  | ⟨1, _⟩ => rfl

/-- The expert of the block at a point. -/
def expert (be : S288.Idx → BitVec 32) (i : grid0.Coords) : Nat := (be (fun a => match a with | ⟨0, _⟩ => i 0)).toNat

theorem expert_at (i : grid0.Coords) :
    (pf.at 0 (Rect.unit (s := S288) (k0_off1 i) S1.size (k0_off1_inb i)) numel1_S1 : BitVec 32).toNat = expert (pf 0) i := by
  refine congrArg (fun x : S288.Idx => (pf 0 x : BitVec 32).toNat) ?_
  funext a
  match a with
  | ⟨0, _⟩ =>
    refine Fin.ext ?_
    have hi : (i 0).val < 288 := (i 0).isLt
    show (BitVec.setWidth _ (BitVec.ofNat 32 (i 0).val)).toNat + 0 * 1 = (i 0).val
    rw [BitVec.toNat_setWidth, BitVec.toNat_ofNat]
    norm_num
    omega

theorem expert_index (i : grid0.Coords) : cc0_transform_1 k0_off1_inb numel1_S1 pf i = ![expert (pf 0) i, 0, 0] := by
  rw [← expert_at]; rfl

theorem ok_of_inRange (h : InRange (pf 0) (pf 1)) : ok0 (F := F) pf := by
  have hx (i : grid0.Coords) := h.expert (fun a => match a with | ⟨0, _⟩ => i 0)
  have h0 (i : grid0.Coords) : ∀ a, (cc0_transform_0 inb_S1_S1_0 numel1_S1 pf i a + 1) * S256x1024.size a ≤ S73728x1024.size a := by
    rw [rows_index pf h]
    have hi : (i 0).val < 288 := (i 0).isLt
    intro a
    match a with
    | ⟨0, _⟩ => show (min (i 0).val _ + 1) * 256 ≤ 73728; omega
    | ⟨1, _⟩ => show (0 + 1) * 1024 ≤ 1024; omega
  have h1 (i : grid0.Coords) : ∀ a, (cc0_transform_1 k0_off1_inb numel1_S1 pf i a + 1) * S1x1024x1024.size a ≤ S32x1024x1024.size a := by
    rw [expert_index]
    have hi : expert (pf 0) i < 32 := hx i
    intro a
    match a with
    | ⟨0, _⟩ => show (expert (pf 0) i + 1) * 1 ≤ 32; omega
    | ⟨1, _⟩ => show (0 + 1) * 1024 ≤ 1024; omega
    | ⟨2, _⟩ => show (0 + 1) * 1024 ≤ 1024; omega
  have h3 (i : grid0.Coords) : ∀ a, (cc0_transform_1 k0_off1_inb numel1_S1 pf i a + 1) * S1x1x1024.size a ≤ S32x1x1024.size a := by
    rw [expert_index]
    have hi : expert (pf 0) i < 32 := hx i
    intro a
    match a with
    | ⟨0, _⟩ => show (expert (pf 0) i + 1) * 1 ≤ 32; omega
    | ⟨1, _⟩ => show (0 + 1) * 1 ≤ 1; omega
    | ⟨2, _⟩ => show (0 + 1) * 1024 ≤ 1024; omega
  have hw (i : grid0.Coords) : EltTy.bits .bf16 = 32 ∨ (Rect.block (s := S32x1024x1024) S1x1024x1024.size (cc0_transform_1 k0_off1_inb numel1_S1 pf i) (h1 i)).WholeWords (EltTy.packing .bf16) :=
    .inr (.inr ⟨by decide, rfl, rfl, rfl⟩)
  exact ⟨fun i => ⟨h0 i, .inl rfl⟩, fun i => ⟨h1 i, hw i⟩, fun i => ⟨h1 i, hw i⟩, fun i => ⟨h3 i, .inl rfl⟩, fun i => ⟨h3 i, .inl rfl⟩,
    fun i => ⟨h1 i, hw i⟩, fun i => ⟨h3 i, .inl rfl⟩⟩

omit F [FloatOps F] in
theorem inRange_of_pre (m : (ℓ : Loc nD τ sig) → Buf (Elt Ideal) ℓ) (h : Cert.Pre_ExpertsIdeal m) :
    InRange (tbl m 0) (tbl m 1) := by
  have e0 := congrFun (h 0).1
  have e1 := congrFun (h 0).2
  simp only [Pre_tables_in_range.fn, cmpi, andi] at e0 e1
  have t0 : tbl m 0 = m ((0 : Dev nD).tc.loc main_arg0) := V_arg m 0 main_arg0 (by decide)
  have t1 : tbl m 1 = m ((0 : Dev nD).tc.loc main_arg1) := V_arg m 0 main_arg1 (by decide)
  rw [t0, t1]
  exact inRange_of_words (fun x => e0 x) (fun x => e1 x)

theorem ok_of_pre (m : (ℓ : Loc nD τ sig) → Buf (Elt Ideal) ℓ) (h : Cert.Pre_ExpertsIdeal m) : Ok (F := Ideal) m :=
  ok_of_inRange _ (inRange_of_pre m h)

end Cert.ExpertsIdeal.Rows

end
-- ==== Proof.ExpertsValue.lean ====
/-
  Hand-written, untrusted. The experts' result array after the pipelined kernel's run, block by block: the active blocks hold the
  gated product with the block's expert, the others zeros.
-/
module

public import proofs.«01_k».proof.Proof.ExpertsMath
public import proofs.«01_k».proof.Proof.ExpertsIdealTables
public import Idealize.ShloMosaic.Lib.Claim

@[expose] public section

set_option maxRecDepth 16384

noncomputable section

namespace Cert.ExpertsIdeal.Rows

open Cert.ExpertsIdeal Cert.ExpertsIdeal.Gen Idealize.ShloMosaic Idealize.ShloMosaic.TcCoe Idealize.SL.Sem
open Idealize.ShloMosaic.Pipeline (Dat)
open Cert.ExpertsRefIdeal.Rows (row)
open scoped BigOperators

variable (m : (ℓ : Loc nD τ sig) → Buf (Elt Ideal) ℓ)

/-! ## The operands the region is entered with -/

/-- The first matrix's even columns. -/
theorem V_w1g (c : Dev nD) (e : Fin 32) (k j : Fin 1024) : (V m c main_v4 : Vec Ideal S32x1024x1024 .bf16) (ix3 e k j)
    = (m ((c : Thread nD τ).loc main_arg3) : Vec Ideal S32x1024x2048 .f32) (ix3 e k ⟨2 * j, by omega⟩) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise
  exact congrArg (fun a : Fin 2048 => (m ((c : Thread nD τ).loc main_arg3) : Vec Ideal S32x1024x2048 .f32) (ix3 e k a)) (Fin.ext (by show j.val * 2 = 2 * j.val; omega))

/-- Its odd columns. -/
theorem V_w1l (c : Dev nD) (e : Fin 32) (k j : Fin 1024) : (V m c main_v7 : Vec Ideal S32x1024x1024 .bf16) (ix3 e k j)
    = (m ((c : Thread nD τ).loc main_arg3) : Vec Ideal S32x1024x2048 .f32) (ix3 e k ⟨1 + 2 * j, by omega⟩) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise
  exact congrArg (fun a : Fin 2048 => (m ((c : Thread nD τ).loc main_arg3) : Vec Ideal S32x1024x2048 .f32) (ix3 e k a)) (Fin.ext (by show j.val * 2 + 1 = 1 + 2 * j.val; omega))

/-- The first bias's even columns. -/
theorem V_b1g (c : Dev nD) (e : Fin 32) (j : Fin 1024) : (V m c main_v9 : Vec Ideal S32x1x1024 .f32) (ix3 e 0 j)
    = (m ((c : Thread nD τ).loc main_arg4) : Vec Ideal S32x2048 .f32) (ix2 e ⟨2 * j, by omega⟩) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise
  exact congrArg (fun a : Fin 2048 => (m ((c : Thread nD τ).loc main_arg4) : Vec Ideal S32x2048 .f32) (ix2 e a)) (Fin.ext (by show j.val * 2 = 2 * j.val; omega))

/-- Its odd columns. -/
theorem V_b1l (c : Dev nD) (e : Fin 32) (j : Fin 1024) : (V m c main_v11 : Vec Ideal S32x1x1024 .f32) (ix3 e 0 j)
    = (m ((c : Thread nD τ).loc main_arg4) : Vec Ideal S32x2048 .f32) (ix2 e ⟨1 + 2 * j, by omega⟩) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise
  exact congrArg (fun a : Fin 2048 => (m ((c : Thread nD τ).loc main_arg4) : Vec Ideal S32x2048 .f32) (ix2 e a)) (Fin.ext (by show j.val * 2 + 1 = 1 + 2 * j.val; omega))

/-- The second matrix. -/
theorem V_w2 (c : Dev nD) (e : Fin 32) (k j : Fin 1024) : (V m c main_v12 : Vec Ideal S32x1024x1024 .bf16) (ix3 e k j)
    = (m ((c : Thread nD τ).loc main_arg5) : Vec Ideal S32x1024x1024 .f32) (ix3 e k j) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise

/-- The second bias. -/
theorem V_b2 (c : Dev nD) (e : Fin 32) (j : Fin 1024) : (V m c main_v13 : Vec Ideal S32x1x1024 .f32) (ix3 e 0 j)
    = (m ((c : Thread nD τ).loc main_arg6) : Vec Ideal S32x1024 .f32) (ix2 e j) := by
  simp only [V, hostOps0, StableHlo.TRef.binary, StableHlo.TRef.unary, StableHlo.TRef.toBuf, StableHlo.TRef.ofBuf, cast_eq, List.flatten_cons, List.flatten_nil, List.append_nil, List.cons_append, List.nil_append]
  after_results
  pointwise

/-! ## The windows' blocks -/

theorem coords_val : ∀ t : Fin grid0.N, (grid0.coords t 0).val = t.val := by decide +kernel

variable (hO : Ok m) (hI : InRange (tbl m 0) (tbl m 1)) (c : Dev nD)

/-- A block's expert. -/
def ex (b : Fin 288) : Fin 32 := ⟨(tbl m 0 (ix1 b) : BitVec 32).toNat, hI.expert _⟩

/-- A point as a block's number. -/
def blk (t : Fin (cfgM m hO).N) : Fin 288 := ⟨t.val, t.isLt⟩

variable (t : Fin (cfgM m hO).N)

theorem expert_eq : expert (tbl m 0) (grid0.coords t) = (ex m hI (blk m hO t)).val := by
  refine congrArg (fun x : S288.Idx => (tbl m 0 x : BitVec 32).toNat) (funext fun a => ?_)
  match a with
  | ⟨0, _⟩ => exact Fin.ext (coords_val t)

theorem emb1 (k j : Fin 1024) : (((cfgM m hO).win 1).rect t).emb (ix3 0 k j) = (ix3 (ex m hI (blk m hO t)) k j : S32x1024x1024.Idx) := by
  have hi : ((cfgM m hO).win 1).index t = ![expert (tbl m 0) (grid0.coords t), 0, 0] := expert_index (tbl m) (grid0.coords t)
  funext a
  refine Fin.ext ?_
  rw [Pipeline.Window.rect_emb_val ((cfgM m hO).win 1) t (ix3 0 k j) a, hi]
  match a with
  | ⟨0, _⟩ => show expert _ _ * 1 + 0 = (ex m hI (blk m hO t)).val; rw [expert_eq m hO hI t]; omega
  | ⟨1, _⟩ => show 0 * 1024 + k.val = k.val; omega
  | ⟨2, _⟩ => show 0 * 1024 + j.val = j.val; omega

theorem emb2 (k j : Fin 1024) : (((cfgM m hO).win 2).rect t).emb (ix3 0 k j) = (ix3 (ex m hI (blk m hO t)) k j : S32x1024x1024.Idx) := by
  have hi : ((cfgM m hO).win 2).index t = ![expert (tbl m 0) (grid0.coords t), 0, 0] := expert_index (tbl m) (grid0.coords t)
  funext a
  refine Fin.ext ?_
  rw [Pipeline.Window.rect_emb_val ((cfgM m hO).win 2) t (ix3 0 k j) a, hi]
  match a with
  | ⟨0, _⟩ => show expert _ _ * 1 + 0 = (ex m hI (blk m hO t)).val; rw [expert_eq m hO hI t]; omega
  | ⟨1, _⟩ => show 0 * 1024 + k.val = k.val; omega
  | ⟨2, _⟩ => show 0 * 1024 + j.val = j.val; omega

theorem emb5 (k j : Fin 1024) : (((cfgM m hO).win 5).rect t).emb (ix3 0 k j) = (ix3 (ex m hI (blk m hO t)) k j : S32x1024x1024.Idx) := by
  have hi : ((cfgM m hO).win 5).index t = ![expert (tbl m 0) (grid0.coords t), 0, 0] := expert_index (tbl m) (grid0.coords t)
  funext a
  refine Fin.ext ?_
  rw [Pipeline.Window.rect_emb_val ((cfgM m hO).win 5) t (ix3 0 k j) a, hi]
  match a with
  | ⟨0, _⟩ => show expert _ _ * 1 + 0 = (ex m hI (blk m hO t)).val; rw [expert_eq m hO hI t]; omega
  | ⟨1, _⟩ => show 0 * 1024 + k.val = k.val; omega
  | ⟨2, _⟩ => show 0 * 1024 + j.val = j.val; omega

theorem emb3 (j : Fin 1024) : (((cfgM m hO).win 3).rect t).emb (ix3 0 0 j) = (ix3 (ex m hI (blk m hO t)) 0 j : S32x1x1024.Idx) := by
  have hi : ((cfgM m hO).win 3).index t = ![expert (tbl m 0) (grid0.coords t), 0, 0] := expert_index (tbl m) (grid0.coords t)
  funext a
  refine Fin.ext ?_
  rw [Pipeline.Window.rect_emb_val ((cfgM m hO).win 3) t (ix3 0 0 j) a, hi]
  match a with
  | ⟨0, _⟩ => show expert _ _ * 1 + 0 = (ex m hI (blk m hO t)).val; rw [expert_eq m hO hI t]; omega
  | ⟨1, _⟩ => rfl
  | ⟨2, _⟩ => show 0 * 1024 + j.val = j.val; omega

theorem emb4 (j : Fin 1024) : (((cfgM m hO).win 4).rect t).emb (ix3 0 0 j) = (ix3 (ex m hI (blk m hO t)) 0 j : S32x1x1024.Idx) := by
  have hi : ((cfgM m hO).win 4).index t = ![expert (tbl m 0) (grid0.coords t), 0, 0] := expert_index (tbl m) (grid0.coords t)
  funext a
  refine Fin.ext ?_
  rw [Pipeline.Window.rect_emb_val ((cfgM m hO).win 4) t (ix3 0 0 j) a, hi]
  match a with
  | ⟨0, _⟩ => show expert _ _ * 1 + 0 = (ex m hI (blk m hO t)).val; rw [expert_eq m hO hI t]; omega
  | ⟨1, _⟩ => rfl
  | ⟨2, _⟩ => show 0 * 1024 + j.val = j.val; omega

theorem emb6 (j : Fin 1024) : (((cfgM m hO).win 6).rect t).emb (ix3 0 0 j) = (ix3 (ex m hI (blk m hO t)) 0 j : S32x1x1024.Idx) := by
  have hi : ((cfgM m hO).win 6).index t = ![expert (tbl m 0) (grid0.coords t), 0, 0] := expert_index (tbl m) (grid0.coords t)
  funext a
  refine Fin.ext ?_
  rw [Pipeline.Window.rect_emb_val ((cfgM m hO).win 6) t (ix3 0 0 j) a, hi]
  match a with
  | ⟨0, _⟩ => show expert _ _ * 1 + 0 = (ex m hI (blk m hO t)).val; rw [expert_eq m hO hI t]; omega
  | ⟨1, _⟩ => rfl
  | ⟨2, _⟩ => show 0 * 1024 + j.val = j.val; omega

theorem iblk1_apply (k j : Fin 1024) : (iblk m hO c 1 t : Vec Ideal S1x1024x1024 .bf16) (ix3 0 k j)
    = (m ((c : Thread nD τ).loc main_arg3) : Vec Ideal S32x1024x2048 .f32) (ix3 (ex m hI (blk m hO t)) k ⟨2 * j, by omega⟩) := by
  show (V m c main_v4 : Vec Ideal S32x1024x1024 .bf16) ((((cfgM m hO).win 1).rect t).emb (ix3 0 k j)) = _
  rw [emb1 m hO hI, V_w1g]

theorem iblk2_apply (k j : Fin 1024) : (iblk m hO c 2 t : Vec Ideal S1x1024x1024 .bf16) (ix3 0 k j)
    = (m ((c : Thread nD τ).loc main_arg3) : Vec Ideal S32x1024x2048 .f32) (ix3 (ex m hI (blk m hO t)) k ⟨1 + 2 * j, by omega⟩) := by
  show (V m c main_v7 : Vec Ideal S32x1024x1024 .bf16) ((((cfgM m hO).win 2).rect t).emb (ix3 0 k j)) = _
  rw [emb2 m hO hI, V_w1l]

theorem iblk5_apply (k j : Fin 1024) : (iblk m hO c 5 t : Vec Ideal S1x1024x1024 .bf16) (ix3 0 k j)
    = (m ((c : Thread nD τ).loc main_arg5) : Vec Ideal S32x1024x1024 .f32) (ix3 (ex m hI (blk m hO t)) k j) := by
  show (V m c main_v12 : Vec Ideal S32x1024x1024 .bf16) ((((cfgM m hO).win 5).rect t).emb (ix3 0 k j)) = _
  rw [emb5 m hO hI, V_w2]

theorem iblk3_apply (j : Fin 1024) : (iblk m hO c 3 t : Vec Ideal S1x1x1024 .f32) (ix3 0 0 j)
    = (m ((c : Thread nD τ).loc main_arg4) : Vec Ideal S32x2048 .f32) (ix2 (ex m hI (blk m hO t)) ⟨2 * j, by omega⟩) := by
  show (V m c main_v9 : Vec Ideal S32x1x1024 .f32) ((((cfgM m hO).win 3).rect t).emb (ix3 0 0 j)) = _
  rw [emb3 m hO hI, V_b1g]

theorem iblk4_apply (j : Fin 1024) : (iblk m hO c 4 t : Vec Ideal S1x1x1024 .f32) (ix3 0 0 j)
    = (m ((c : Thread nD τ).loc main_arg4) : Vec Ideal S32x2048 .f32) (ix2 (ex m hI (blk m hO t)) ⟨1 + 2 * j, by omega⟩) := by
  show (V m c main_v11 : Vec Ideal S32x1x1024 .f32) ((((cfgM m hO).win 4).rect t).emb (ix3 0 0 j)) = _
  rw [emb4 m hO hI, V_b1l]

theorem iblk6_apply (j : Fin 1024) : (iblk m hO c 6 t : Vec Ideal S1x1x1024 .f32) (ix3 0 0 j)
    = (m ((c : Thread nD τ).loc main_arg6) : Vec Ideal S32x1024 .f32) (ix2 (ex m hI (blk m hO t)) j) := by
  show (V m c main_v13 : Vec Ideal S32x1x1024 .f32) ((((cfgM m hO).win 6).rect t).emb (ix3 0 0 j)) = _
  rw [emb6 m hO hI, V_b2]

include hI in
/-- In an active block, the rows' block is the point's. -/
theorem iblk0_apply (ht : (t.val : Int) < (count (tbl m 1)).toInt) (r : Fin 256) (k : Fin 1024) : (iblk m hO c 0 t : Vec Ideal S256x1024 .f32) (ix2 r k)
    = (m ((c : Thread nD τ).loc main_arg2) : Vec Ideal S73728x1024 .f32) (ix2 (row (blk m hO t) r) k) := by
  show (V m c main_arg2 : Vec Ideal S73728x1024 .f32) ((((cfgM m hO).win 0).rect t).emb (ix2 r k)) = _
  rw [V_arg m c main_arg2 (by decide)]
  have hi : ((cfgM m hO).win 0).index t = ![min (grid0.coords t 0).val ((count (tbl m 1)).toNat - 1), 0] := rows_index (tbl m) hI (grid0.coords t)
  have hn : (count (tbl m 1)).toInt = (count (tbl m 1)).toNat := by
    have h0 := (WordCmp.toInt_nonneg_iff_lt_half (count (tbl m 1))).1 (by have := hI.active; omega)
    exact WordCmp.toInt_eq_toNat_of_lt_half h0
  refine congrArg _ (funext fun a => Fin.ext ?_)
  rw [Pipeline.Window.rect_emb_val ((cfgM m hO).win 0) t (ix2 r k) a, hi]
  match a with
  | ⟨0, _⟩ =>
    show min (grid0.coords t 0).val ((count (tbl m 1)).toNat - 1) * 256 + r.val = t.val * 256 + r.val
    rw [coords_val t, min_eq_left (by omega)]
  | ⟨1, _⟩ =>
    show 0 * 1024 + k.val = k.val
    omega

/-- Where an element of the result's block lies in the array. -/
theorem emb7 (r : Fin 256) (j : Fin 1024) : (((cfgM m hO).win 7).rect t).emb (ix2 r j) = (ix2 (row (blk m hO t) r) j : S73728x1024.Idx) := by
  have hi : ((cfgM m hO).win 7).index t = ![(BitVec.ofNat 32 (grid0.coords t 0).val).toNat, 0] := rfl
  refine funext fun a => Fin.ext ?_
  rw [Pipeline.Window.rect_emb_val ((cfgM m hO).win 7) t (ix2 r j) a, hi]
  match a with
  | ⟨0, _⟩ =>
    show (BitVec.ofNat 32 (grid0.coords t 0).val).toNat * 256 + r.val = t.val * 256 + r.val
    have ht : t.val < 288 := t.isLt
    rw [coords_val t, WordCmp.toNat_ofNat_of_lt (by omega)]
  | ⟨1, _⟩ =>
    show 0 * 1024 + j.val = j.val
    omega

/-! ## The result -/

/-- Row `R` of block `b` at column `j`: the gated units of the row with the block's expert, by that expert's second matrix, with its
    bias; zero in a block that is not active. -/
def val (b : Fin 288) (R : Fin 73728) (j : Fin 1024) : EReal :=
  if (b : Int) < (count (tbl m 1)).toInt then
    (∑ k : Fin 1024, unit (fun l => (m ((c : Thread nD τ).loc main_arg2) : Vec Ideal S73728x1024 .f32) (ix2 R l))
        (fun l => (m ((c : Thread nD τ).loc main_arg3) : Vec Ideal S32x1024x2048 .f32) (ix3 (ex m hI b) l ⟨2 * k, by omega⟩))
        (fun l => (m ((c : Thread nD τ).loc main_arg3) : Vec Ideal S32x1024x2048 .f32) (ix3 (ex m hI b) l ⟨1 + 2 * k, by omega⟩))
        ((m ((c : Thread nD τ).loc main_arg4) : Vec Ideal S32x2048 .f32) (ix2 (ex m hI b) ⟨2 * k, by omega⟩))
        ((m ((c : Thread nD τ).loc main_arg4) : Vec Ideal S32x2048 .f32) (ix2 (ex m hI b) ⟨1 + 2 * k, by omega⟩))
      * (m ((c : Thread nD τ).loc main_arg5) : Vec Ideal S32x1024x1024 .f32) (ix3 (ex m hI b) k j))
    + (m ((c : Thread nD τ).loc main_arg6) : Vec Ideal S32x1024 .f32) (ix2 (ex m hI b) j)
  else 0

/-- The block that holds a row. -/
def blockOf (R : Fin 73728) : Fin 288 := ⟨R.val / 256, by omega⟩
/-- The row's place within it. -/
def within (R : Fin 73728) : Fin 256 := ⟨R.val % 256, Nat.mod_lt _ (by decide)⟩

theorem row_within (R : Fin 73728) : row (blockOf R) (within R) = R := Fin.ext (by show R.val / 256 * 256 + R.val % 256 = R.val; omega)
theorem blockOf_row (b : Fin 288) (r : Fin 256) : blockOf (row b r) = b := Fin.ext (by show (b.val * 256 + r.val) / 256 = b.val; omega)

/-- The result array. -/
def G : Vec Ideal S73728x1024 .f32 := fun i => val m hI c (blockOf (i 0)) (i 0) (i 1)

/-- The count's test, as the body makes it. -/
theorem cond1_iff (i : grid0.Coords) (v : BitVec 32) : k0_cond1 i v = 1#1 ↔ ((i 0).val : Int) < v.toInt := by
  have hi : (i 0).val < 288 := (i 0).isLt
  show IntOp.cmpi .ne ((IntOp.cmpi .slt (BitVec.ofNat 32 (i 0).val) v).setWidth 32) 0#32 = 1#1 ↔ _
  rw [WordCmp.cmpi_slt_eq, WordCmp.toInt_ofNat_of_lt (by omega)]
  by_cases h : ((i 0).val : Int) < v.toInt
  · rw [decide_eq_true h]; exact ⟨fun _ => h, fun _ => by decide⟩
  · rw [decide_eq_false h]; exact ⟨fun e => absurd e (by decide), fun e => absurd e h⟩

/-- The body's block where it computes, from its blocks. -/
theorem blockOut_active {i : grid0.Coords} (x0 : Vec Ideal S256x1024 .f32) (x1 : Vec Ideal S1x1024x1024 .bf16) (x2 : Vec Ideal S1x1024x1024 .bf16) (x3 : Vec Ideal S1x1x1024 .f32) (x4 : Vec Ideal S1x1x1024 .f32) (x5 : Vec Ideal S1x1024x1024 .bf16) (x6 : Vec Ideal S1x1x1024 .f32) (t1 : S1.Idx → BitVec 32)
    (h : ((i 0).val : Int) < (count t1).toInt) (r : Fin 256) (j : Fin 1024) :
    blockOut i x0 x1 x2 x3 x4 x5 x6 t1 (ix2 r j)
      = (∑ k : Fin 1024, unit (fun l => x0 (ix2 r l)) (fun l => x1 (ix3 0 l k)) (fun l => x2 (ix3 0 l k)) (x3 (ix3 0 0 k)) (x4 (ix3 0 0 k)) * x5 (ix3 0 k j)) + x6 (ix3 0 0 j) := by
  unfold blockOut
  rw [if_pos ((cond1_iff _ _).2 h), pay1_apply]
  simp only [pay3_apply]

/-- The body's block where it does not. -/
theorem blockOut_idle {i : grid0.Coords} (x0 : Vec Ideal S256x1024 .f32) (x1 : Vec Ideal S1x1024x1024 .bf16) (x2 : Vec Ideal S1x1024x1024 .bf16) (x3 : Vec Ideal S1x1x1024 .f32) (x4 : Vec Ideal S1x1x1024 .f32) (x5 : Vec Ideal S1x1024x1024 .bf16) (x6 : Vec Ideal S1x1x1024 .f32) (t1 : S1.Idx → BitVec 32)
    (h : ¬ ((i 0).val : Int) < (count t1).toInt) (r : Fin 256) (j : Fin 1024) : blockOut i x0 x1 x2 x3 x4 x5 x6 t1 (ix2 r j) = (0 : EReal) := by
  unfold blockOut
  rw [if_neg (fun e => h ((cond1_iff _ _).1 e))]
  exact Ideal.ofBits_zero_f32

theorem unit_congr {x x' w w' v v' : Fin 1024 → EReal} {b b' d d' : EReal} (hx : ∀ k, x k = x' k) (hw : ∀ k, w k = w' k) (hv : ∀ k, v k = v' k) (hb : b = b') (hd : d = d') :
    unit x w v b d = unit x' w' v' b' d' := by
  obtain rfl := funext hx; obtain rfl := funext hw; obtain rfl := funext hv; rw [hb, hd]

/-- What the body leaves at a point, element by element. -/
theorem out_apply (r : Fin 256) (j : Fin 1024) : outAt m hO c t (ix2 r j) = val m hI c (blk m hO t) (row (blk m hO t) r) j := by
  have hc : (((grid0.coords t 0).val : Int) < (count (tbl m 1)).toInt) = ((t.val : Int) < (count (tbl m 1)).toInt) := by rw [coords_val t]
  by_cases h : (t.val : Int) < (count (tbl m 1)).toInt
  · refine (blockOut_active _ _ _ _ _ _ _ (tbl m 1) (hc.mpr h) r j).trans (Eq.trans ?_ (if_pos h).symm)
    exact congrArg₂ (· + ·) (Finset.sum_congr rfl fun k _ => congrArg₂ (· * ·)
      (unit_congr (iblk0_apply m hO hI c t h r) (fun l => iblk1_apply m hO hI c t l k) (fun l => iblk2_apply m hO hI c t l k) (iblk3_apply m hO hI c t k) (iblk4_apply m hO hI c t k))
      (iblk5_apply m hO hI c t k j)) (iblk6_apply m hO hI c t j)
  · exact (blockOut_idle _ _ _ _ _ _ _ (tbl m 1) (fun e => h (hc.mp e)) r j).trans (if_neg h).symm

/-- The result's window is written back at every point. -/
theorem flush7 : ((cfgM m hO).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true) t

/-- What a point writes back is its block of the result. -/
theorem flushed7_eq : (dats m hO 0 c).flushed 7 t = (((cfgM m hO).win 7).blk t).view.read (Elt Ideal) (G m hI c) := by
  show ((cfgM m hO).win 7).cut (grid0.coords t) ((dats m hO 0 c).after 7 t) = _
  rw [after_7]
  funext y
  change S256x1024.Idx at y
  idx_vars y
  show outAt m hO c t (ix2 y0 y1) = G m hI c ((((cfgM m hO).win 7).rect t).emb (ix2 y0 y1))
  rw [emb7, out_apply m hO hI c t]
  show _ = val m hI c (blockOf (row (blk m hO t) y0)) (row (blk m hO t) y0) y1
  rw [blockOf_row]

/-- The result after the run: the blocks are all of its rows. -/
theorem arr7_eq : (dats m hO 0 c).arrAt 7 (cfgM m hO).N = G m hI c := by
  refine (dats m hO 0 c).arrAt_eq_of_cover 7 (G m hI c) (fun t _ => flushed7_eq m hO hI c t) fun i => ?_
  change S73728x1024.Idx at i
  idx_vars i
  refine ⟨(blockOf i0 : Fin 288), flush7 m hO _, ?_⟩
  have e : (((cfgM m hO).win 7).rect (blockOf i0 : Fin 288)).emb (ix2 (within i0) i1) = (ix2 i0 i1 : S73728x1024.Idx) :=
    (emb7 m hO (blockOf i0 : Fin 288) _ _).trans (congrArg (fun R => ix2 R i1) (row_within i0))
  rw [← e]
  exact View.emb_mem_set (((cfgM m hO).win 7).blk (blockOf i0 : Fin 288)).view (ix2 (within i0) i1)

end Cert.ExpertsIdeal.Rows

end
-- ==== Proof.ExpertsClaim.lean ====
module

public import proofs.«01_k».proof.Proof.ExpertsValue

/-!
# The experts against their reference

The reference's result read at an index, and the claim.
-/

@[expose] public section

set_option maxRecDepth 16384

noncomputable section

namespace Cert.ExpertsIdeal.Rows

open Cert.ExpertsIdeal Cert.ExpertsIdeal.Gen Idealize.ShloMosaic Idealize.ShloMosaic.TcCoe Idealize.SL.Sem
open Cert.ExpertsRefIdeal.Rows (row hidden hidden_apply act act_apply blocks blocks_apply)
open scoped BigOperators

/-- The experts' result at row `R` of block `b` and column `j`, over any arrays, where the block's expert is `e`. -/
def spec (n : BitVec 32) (x : Vec Ideal S73728x1024 .f32) (w1 : Vec Ideal S32x1024x2048 .f32) (b1 : Vec Ideal S32x2048 .f32) (w2 : Vec Ideal S32x1024x1024 .f32) (b2 : Vec Ideal S32x1024 .f32)
    (b : Fin 288) (e : Fin 32) (R : Fin 73728) (j : Fin 1024) : EReal :=
  if (b : Int) < n.toInt then
    (∑ k : Fin 1024, unit (fun l => x (ix2 R l)) (fun l => w1 (ix3 e l ⟨2 * k, by omega⟩)) (fun l => w1 (ix3 e l ⟨1 + 2 * k, by omega⟩))
        (b1 (ix2 e ⟨2 * k, by omega⟩)) (b1 (ix2 e ⟨1 + 2 * k, by omega⟩)) * w2 (ix3 e k j)) + b2 (ix2 e j)
  else 0

/-- The reference's blocks, element by element, where the table names experts. -/
theorem ref_block (be : IVec Cert.ExpertsRefIdeal.S288 32) (na : IVec Cert.ExpertsRefIdeal.S1 32) (x : Vec Ideal S73728x1024 .f32) (w1 : Vec Ideal S32x1024x2048 .f32)
    (b1 : Vec Ideal S32x2048 .f32) (w2 : Vec Ideal S32x1024x1024 .f32) (b2 : Vec Ideal S32x1024 .f32) (b : Fin 288) (h : (be (ix1 b)).toNat < 32) (r : Fin 256) (j : Fin 1024) :
    blocks be na (act (hidden be x w1 b1)) w2 b2 (ix3 b r j) = spec (na (ix1 0)) x w1 b1 w2 b2 b ⟨_, h⟩ (row b r) j := by
  rw [blocks_apply be b h]
  refine ite_congr rfl (fun _ => ?_) fun _ => rfl
  refine congrArg (· + _) (Finset.sum_congr rfl fun k _ => congrArg (· * _) ?_)
  exact (act_apply _ b r k).trans (congrArg₂ gated (hidden_apply be b h x w1 b1 r _) (hidden_apply be b h x w1 b1 r _))

/-- An array of blocks, read as rows. -/
theorem rows_apply (f : FVec Ideal Cert.ExpertsRefIdeal.S288x256x1024 .f32) (R : Fin 73728) (j : Fin 1024) :
    (shapeCast Cert.ExpertsRefIdeal.S73728x1024 f Cert.ExpertsRefIdeal.Gen.shapeCasts_S288x256x1024_S73728x1024 : Vec Ideal S73728x1024 .f32) (ix2 R j) = f (ix3 (blockOf R) (within R) j) := by
  pointwise
  rfl

variable (m : (ℓ : Loc nD τ sig) → Buf (Elt Ideal) ℓ) (hI : InRange (tbl m 0) (tbl m 1)) (c : Dev nD)

theorem count_eq (na : Cert.ExpertsRefIdeal.S1.Idx → BitVec 32) : na (ix1 0) = count na :=
  congrArg na (funext fun a => match a with | ⟨0, _⟩ => Subsingleton.elim (α := Fin 1) _ _)

/-- The kernel's result by the same formula. -/
theorem val_eq (b : Fin 288) (R : Fin 73728) (j : Fin 1024) : val m hI c b R j = spec (count (tbl m 1)) (m ((c : Thread nD τ).loc main_arg2)) (m ((c : Thread nD τ).loc main_arg3))
    (m ((c : Thread nD τ).loc main_arg4)) (m ((c : Thread nD τ).loc main_arg5)) (m ((c : Thread nD τ).loc main_arg6)) b (ex m hI b) R j := rfl

/-- The reference's result, at the kernel's arguments, is the kernel's. -/
theorem ref_eq : (shapeCast Cert.ExpertsRefIdeal.S73728x1024 (blocks (m ((c : Thread nD τ).loc main_arg0)) (m ((c : Thread nD τ).loc main_arg1))
      (act (hidden (m ((c : Thread nD τ).loc main_arg0)) (m ((c : Thread nD τ).loc main_arg2)) (m ((c : Thread nD τ).loc main_arg3)) (m ((c : Thread nD τ).loc main_arg4))))
      (m ((c : Thread nD τ).loc main_arg5)) (m ((c : Thread nD τ).loc main_arg6))) Cert.ExpertsRefIdeal.Gen.shapeCasts_S288x256x1024_S73728x1024 : Vec Ideal S73728x1024 .f32) = G m hI c := by
  obtain rfl : c = 0 := Subsingleton.elim _ _
  have t0 : m (((0 : Dev nD) : Thread nD τ).loc main_arg0) = tbl m 0 := (V_arg m 0 main_arg0 (by decide)).symm
  have t1 : m (((0 : Dev nD) : Thread nD τ).loc main_arg1) = tbl m 1 := (V_arg m 0 main_arg1 (by decide)).symm
  rw [t0, t1]
  funext i
  idx_vars i
  refine (rows_apply _ i0 i1).trans ((ref_block (tbl m 0) (tbl m 1) _ _ _ _ _ (blockOf i0) (hI.expert _) (within i0) i1).trans ?_)
  refine Eq.trans ?_ (val_eq m hI 0 (blockOf i0) i0 i1).symm
  exact congrArg₂ (fun (n : BitVec 32) (R : Fin 73728) => spec n (m (((0 : Dev nD) : Thread nD τ).loc main_arg2)) (m (((0 : Dev nD) : Thread nD τ).loc main_arg3))
    (m (((0 : Dev nD) : Thread nD τ).loc main_arg4)) (m (((0 : Dev nD) : Thread nD τ).loc main_arg5)) (m (((0 : Dev nD) : Thread nD τ).loc main_arg6)) (blockOf i0) (ex m hI (blockOf i0)) R i1)
    (count_eq (tbl m 1)) (row_within i0)

/-- Both runs of the experts: where the tables are in range, from memories that agree on the arguments, the kernel's result and the
    reference's are the same array, and each program leaves its arguments as they were. -/
theorem algebraic [hP : Cert.Pre_tables_in_range.Facts] : Cert.algebraic_ExpertsIdeal_ExpertsRefIdeal (hExpertsIdeal := Cert.ExpertsIdeal.Gen.facts)
    (hExpertsRefIdeal := Cert.ExpertsRefIdeal.Gen.facts) := by
  intro m g m' g' hp hargs
  have hI := inRange_of_pre m hp
  refine ⟨G m hI, ?_, ?_⟩
  · refine (θ_run defs _ _).mono (fun r h c => ?_) (run_values m g (ok_of_pre m hp))
    exact ⟨(h.1 c).1.trans (arr7_eq m (ok_of_pre m hp) hI c), (h.1 c).2⟩
  · refine (θ_run Cert.ExpertsRefIdeal.defs _ _).mono (fun r h c => ?_) (Cert.ExpertsRefIdeal.Value.run m' g')
    obtain ⟨h0, ha⟩ := h c
    obtain ⟨a0, a1, a2, a3, a4, a5, a6⟩ := hargs c
    have h1 := h0.trans (Cert.ExpertsRefIdeal.Rows.result_eq m' c)
    rw [a0, a1, a2, a3, a4, a5, a6] at h1
    exact ⟨h1.trans (ref_eq m hI c), ha⟩

end Cert.ExpertsIdeal.Rows

end
-- ==== Proof.MemkvClaim.lean ====
module

public import proofs.«01_k».proof.Proof.InprojValue
public import proofs.«01_k».proof.Proof.Gen.MemkvIdeal.Value
public import proofs.«01_k».proof.Proof.Gen.MemkvRefIdeal.Run

/-!
# The memory's keys and values against their reference

One grid point: normed rows of the memory by one matrix, cut into its two halves.
-/

@[expose] public section

noncomputable section

namespace Cert.MemkvRefIdeal.Rows

open Cert.MemkvRefIdeal Cert.MemkvRefIdeal.Gen Idealize.ShloMosaic Idealize.ShloMosaic.TcCoe Idealize.SL.Sem
open Cert.InprojIdeal.Rows (normed)
open scoped BigOperators

/-- The reference's product: the memory's rows, each divided by its root mean square and scaled by `g`, times `w`. -/
def product (x : Vec Ideal S512x1024 .f32) (g : Vec Ideal S1024 .f32) (w : Vec Ideal S1024x1024 .f32) : FVec Ideal S512x1024 .f32 :=
  Host.dotGeneral (F := Ideal) (φ₁ := .f32) (φ₂ := .f32) dot_S512x1024_S1024x1024_S512x1024_1_0_0_1_n_n none
    (mulf (mulf x (broadcastInDim S512x1024 ![0, 1] bcast_S512x1_S512x1024_0_1
      (Host.rsqrt (addf (Host.divf (broadcastInDim S512x1 ![0] bcast_S512_S512x1_0
          (Host.reduceAdd (mulf x x) (constant S_ .f32 0x00000000#32) reducesTo_S512x1024_S512_d1 h_S_))
        (broadcastInDim S512x1 ![] bcast_S_S512x1 (constant S_ .f32 0x44800000#32)))
        (broadcastInDim S512x1 ![] bcast_S_S512x1 (constant S_ .f32 0x3727C5AC#32))))))
      (broadcastInDim S512x1024 ![0, 1] bcast_S1x1024_S512x1024_0_1 (broadcastInDim S1x1024 ![1] bcast_S1024_S1x1024_1 g)))
    w

/-- The product at row `R` and column `j`. -/
theorem product_apply (x : Vec Ideal S512x1024 .f32) (g : Vec Ideal S1024 .f32) (w : Vec Ideal S1024x1024 .f32) (R : Fin 512) (j : Fin 1024) :
    product x g w (ix2 R j) = ∑ k : Fin 1024, normed (fun k => x (ix2 R k)) (fun k => g (ix1 k)) k * w (ix2 k j) := by
  pointwise [product, normed]

end Cert.MemkvRefIdeal.Rows

namespace Cert.MemkvIdeal.Rows

open Cert.MemkvIdeal Cert.MemkvIdeal.Gen Idealize.ShloMosaic Idealize.ShloMosaic.TcCoe Idealize.SL.Sem
open Cert.InprojIdeal.Rows (normed hz2)
open Cert.MemkvRefIdeal.Rows (product product_apply)
open scoped BigOperators

variable (m : (ℓ : Loc nD τ sig) → Buf (Elt Ideal) ℓ)

theorem pay1_apply (v0 : Vec Ideal S512x1024 .f32) (v1 : Vec Ideal S1x1024 .f32) (v16 : Vec Ideal S1024x1024 .bf16) (r : Fin 512) (j : Fin 1024) :
    k0_pay1 v0 v1 v16 (ix2 r j) = ∑ k : Fin 1024, normed (fun k => v0 (ix2 r k)) (fun k => v1 (ix2 0 k)) k * v16 (ix2 k j) := by
  pointwise [k0_pay1, normed]

/-- Every window's block is its whole array. -/
theorem index_facts : ∀ t : Fin cfg0.N,
    (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N,
    (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))

theorem iblk0_apply (c : Dev nD) (t : Fin cfg0.N) (r : Fin 512) (k : Fin 1024) :
    (iblk m c 0 t : Vec Ideal S512x1024 .f32) (ix2 r k) = (m ((c : Thread nD τ).loc main_arg0) : Vec Ideal S512x1024 .f32) (ix2 r k) := by
  show (V m c main_arg0 : Vec Ideal S512x1024 .f32) ((win0_0.rect t).emb (ix2 r k)) = _
  rw [V_main_arg0]
  exact congrArg _ (Shape.idx_ext₂ (Pipeline.Window.rect_emb_val_of_index_zero win0_0 t 0 (index_facts t).1.1 (ix2 r k)) (Pipeline.Window.rect_emb_val_of_index_zero win0_0 t 1 (index_facts t).1.2 (ix2 r k)))

theorem iblk1_apply (c : Dev nD) (t : Fin cfg0.N) (k : Fin 1024) :
    (iblk m c 1 t : Vec Ideal S1x1024 .f32) (ix2 0 k) = (m ((c : Thread nD τ).loc main_arg1) : Vec Ideal S1024 .f32) (ix1 k) := by
  show (V m c main_v0 : Vec Ideal S1x1024 .f32) ((win0_1.rect t).emb (ix2 0 k)) = _
  have e : (win0_1.rect t).emb (ix2 0 k) = (ix2 0 k : S1x1024.Idx) := Shape.idx_ext₂
    (Pipeline.Window.rect_emb_val_of_index_zero win0_1 t 0 (index_facts t).2.1.1 (ix2 0 k)) (Pipeline.Window.rect_emb_val_of_index_zero win0_1 t 1 (index_facts t).2.1.2 (ix2 0 k))
  rw [e]
  simp only [V, hostOps0, StableHlo.TRef.unary, StableHlo.TRef.toBuf, StableHlo.TRef.ofBuf, cast_eq, List.flatten_cons, List.flatten_nil, List.append_nil, List.cons_append, List.nil_append]
  after_results
  pointwise

theorem iblk2_apply (c : Dev nD) (t : Fin cfg0.N) (k j : Fin 1024) :
    (iblk m c 2 t : Vec Ideal S1024x1024 .bf16) (ix2 k j) = (m ((c : Thread nD τ).loc main_arg2) : Vec Ideal S1024x1024 .f32) (ix2 k j) := by
  show (V m c main_v1 : Vec Ideal S1024x1024 .bf16) ((win0_2.rect t).emb (ix2 k j)) = _
  have e : (win0_2.rect t).emb (ix2 k j) = (ix2 k j : S1024x1024.Idx) := Shape.idx_ext₂
    (Pipeline.Window.rect_emb_val_of_index_zero win0_2 t 0 (index_facts t).2.2.1.1 (ix2 k j)) (Pipeline.Window.rect_emb_val_of_index_zero win0_2 t 1 (index_facts t).2.2.1.2 (ix2 k j))
  rw [e]
  simp only [V, hostOps0, StableHlo.TRef.unary, StableHlo.TRef.toBuf, StableHlo.TRef.ofBuf, cast_eq, List.flatten_cons, List.flatten_nil, List.append_nil, List.cons_append, List.nil_append]
  after_results
  pointwise

/-- The body's product is the reference's. -/
theorem block_apply (c : Dev nD) (t : Fin cfg0.N) (r : Fin 512) (j : Fin 1024) :
    k0_pay1 (iblk m c 0 t : Vec Ideal S512x1024 .f32) (iblk m c 1 t : Vec Ideal S1x1024 .f32) (iblk m c 2 t : Vec Ideal S1024x1024 .bf16) (ix2 r j)
      = product (m ((c : Thread nD τ).loc main_arg0)) (m ((c : Thread nD τ).loc main_arg1)) (m ((c : Thread nD τ).loc main_arg2)) (ix2 r j) := by
  rw [pay1_apply, product_apply]
  simp only [iblk0_apply, iblk1_apply, iblk2_apply]

/-- The keys: the product's first 512 columns. -/
def keys (c : Dev nD) : Vec Ideal S512x512 .bf16 := truncf (F := Ideal) (φ := .f32) .bf16 (extractStridedSlice S512x512 ![0, 0]
  (product (m ((c : Thread nD τ).loc main_arg0)) (m ((c : Thread nD τ).loc main_arg1)) (m ((c : Thread nD τ).loc main_arg2))) Cert.MemkvRefIdeal.Gen.slices_S512x1024_S512x512_0_0) bitsLt_bf16_f32

/-- The values: the product's last 512 columns. -/
def values (c : Dev nD) : Vec Ideal S512x512 .bf16 := truncf (F := Ideal) (φ := .f32) .bf16 (extractStridedSlice S512x512 ![0, 512]
  (product (m ((c : Thread nD τ).loc main_arg0)) (m ((c : Thread nD τ).loc main_arg1)) (m ((c : Thread nD τ).loc main_arg2))) Cert.MemkvRefIdeal.Gen.slices_S512x1024_S512x512_0_512) bitsLt_bf16_f32

theorem emb3 (t : Fin cfg0.N) (y0 y1 : Fin 512) : (win0_3.rect t).emb (ix2 y0 y1) = (ix2 y0 y1 : S512x512.Idx) :=
  Shape.idx_ext₂ (Pipeline.Window.rect_emb_val_of_index_zero win0_3 t 0 (index_facts t).2.2.2.1.1 (ix2 y0 y1)) (Pipeline.Window.rect_emb_val_of_index_zero win0_3 t 1 (index_facts t).2.2.2.1.2 (ix2 y0 y1))

theorem emb4 (t : Fin cfg0.N) (y0 y1 : Fin 512) : (win0_4.rect t).emb (ix2 y0 y1) = (ix2 y0 y1 : S512x512.Idx) :=
  Shape.idx_ext₂ (Pipeline.Window.rect_emb_val_of_index_zero win0_4 t 0 (index_facts t).2.2.2.2.1 (ix2 y0 y1)) (Pipeline.Window.rect_emb_val_of_index_zero win0_4 t 1 (index_facts t).2.2.2.2.2 (ix2 y0 y1))

theorem flushed3_eq (c : Dev nD) (t : Fin cfg0.N) : (dats m 0 c).flushed 3 t = ((cfg0.win 3).blk t).view.read (Elt Ideal) (keys m c) := by
  rw [Value.flushed3]
  unfold out0_3
  rw [View.canon_unit_zero (S := S512x512) hz2, View.ld_unit_zero (S := S512x1024) hz2, View.ld_unit_zero (S := S1x1024) hz2, View.ld_unit_zero (S := S1024x1024) hz2]
  funext y
  idx_vars y
  show _ = keys m c ((win0_3.rect t).emb (ix2 y0 y1))
  rw [emb3]
  show k0_pay2 _ _ _ (ix2 y0 y1) = _
  pointwise [k0_pay2, keys]
  exact block_apply m c t y0 _

theorem flushed4_eq (c : Dev nD) (t : Fin cfg0.N) : (dats m 0 c).flushed 4 t = ((cfg0.win 4).blk t).view.read (Elt Ideal) (values m c) := by
  rw [Value.flushed4]
  unfold out0_4
  rw [View.canon_unit_zero (S := S512x512) hz2, View.ld_unit_zero (S := S512x1024) hz2, View.ld_unit_zero (S := S1x1024) hz2, View.ld_unit_zero (S := S1024x1024) hz2]
  funext y
  idx_vars y
  show _ = values m c ((win0_4.rect t).emb (ix2 y0 y1))
  rw [emb4]
  show k0_pay3 _ _ _ (ix2 y0 y1) = _
  pointwise [k0_pay3, values]
  exact block_apply m c t y0 _

/-- The one grid point. -/
def only : Fin cfg0.N := ⟨0, by decide⟩

theorem arr3_eq (c : Dev nD) : (dats m 0 c).arrAt 3 cfg0.N = keys m c := by
  refine (dats m 0 c).arrAt_eq_of_cover 3 (keys m c) (fun t _ => flushed3_eq m c t) fun i => ⟨only, flush0_3 _, ?_⟩
  idx_vars i
  rw [← (emb3 only i0 i1 : _ = (ix2 i0 i1 : S512x512.Idx))]
  exact View.emb_mem_set ((cfg0.win 3).blk only).view (ix2 i0 i1)

theorem arr4_eq (c : Dev nD) : (dats m 0 c).arrAt 4 cfg0.N = values m c := by
  refine (dats m 0 c).arrAt_eq_of_cover 4 (values m c) (fun t _ => flushed4_eq m c t) fun i => ⟨only, flush0_4 _, ?_⟩
  idx_vars i
  rw [← (emb4 only i0 i1 : _ = (ix2 i0 i1 : S512x512.Idx))]
  exact View.emb_mem_set ((cfg0.win 4).blk only).view (ix2 i0 i1)

/-- Both runs: from memories that agree on the arguments, the keys and the values are the same arrays, and each program leaves
    its arguments as they were. -/
theorem algebraic : Cert.algebraic_MemkvIdeal_MemkvRefIdeal (hMemkvIdeal := Cert.MemkvIdeal.Gen.facts) (hMemkvRefIdeal := Cert.MemkvRefIdeal.Gen.facts) := by
  intro m g m' g' _ hargs
  refine ⟨keys m, values m, ?_, ?_⟩
  · refine (θ_run defs _ _).mono (fun r h c => ?_) (Value.run_blocks m g)
    obtain ⟨h3, h4, ha⟩ := h c
    exact ⟨h3.trans (arr3_eq m c), h4.trans (arr4_eq m c), ha⟩
  · refine (θ_run Cert.MemkvRefIdeal.defs _ _).mono (fun r h c => ?_) (Cert.MemkvRefIdeal.Value.run m' g')
    obtain ⟨h3, h4, ha⟩ := h c
    obtain ⟨a0, a1, a2⟩ := hargs c
    rw [a0, a1, a2] at h3 h4
    exact ⟨h3, h4, ha⟩

end Cert.MemkvIdeal.Rows

end
-- ==== Proof.MidMath.lean ====
module

public import proofs.«01_k».proof.Proof.InprojValue
public import proofs.«01_k».proof.Proof.SwaMath

/-!
# The mathematics of the out-projection and the cross attention

One row's results from the row's inputs, and the softmax that divides once at the end.
-/

@[expose] public section

noncomputable section

namespace Cert.MidIdeal.Rows

open Idealize.ShloMosaic
open Cert.InprojIdeal.Rows (normed)
open Cert.KernelIdeal.Attention (sum_mul_real dot_real fold_max_ne_top)
open scoped BigOperators

/-- The two mixers' rows side by side. -/
def joined (a b : Fin 512 → EReal) (k : Fin 1024) : EReal := if h : (k : Nat) < 512 then a ⟨k, h⟩ else b ⟨k - 512, by omega⟩

/-- The row after the out-projection. -/
def mixed (a b : Fin 512 → EReal) (x : Fin 1024 → EReal) (w : Fin 1024 → Fin 1024 → EReal) (z : Fin 1024 → EReal) (j : Fin 1024) : EReal :=
  x j + (∑ k : Fin 1024, joined a b k * w k j) + z j

/-- The row's queries. -/
def queries (h g : Fin 1024 → EReal) (w : Fin 1024 → Fin 512 → EReal) (i : Fin 512) : EReal := ∑ k : Fin 1024, normed h g k * w k i

/-- The factor of the scores. -/
def scale : EReal := Ideal.ofBits .f32 0x3DB504F3#32

/-- Head `n`'s score at memory row `j`. -/
def score (q : Fin 512 → EReal) (k : Fin 256 → Fin 512 → EReal) (n : Fin 4) (j : Fin 256) : EReal :=
  (∑ e : Fin 128, q ⟨128 * n + e, by omega⟩ * k j ⟨128 * n + e, by omega⟩) * scale

/-- Softmax-weighted sum, dividing once at the end. -/
def soft (s v : Fin 256 → EReal) : EReal :=
  Ideal.div (∑ j, Ideal.exp (s j - Finset.univ.fold max ⊥ s) * v j) (∑ j, Ideal.exp (s j - Finset.univ.fold max ⊥ s))

/-- The row after the cross attention. -/
def crossed (h : Fin 1024 → EReal) (q : Fin 512 → EReal) (k v : Fin 256 → Fin 512 → EReal) (w : Fin 512 → Fin 1024 → EReal) (j : Fin 1024) : EReal :=
  h j + ∑ i : Fin 512, soft (score q k ⟨i / 128, by omega⟩) (fun j => v j i) * w i j

/-- Dividing once at the end or each exponential on its own: the same, where every score is finite. -/
theorem soft_eq (s v : Fin 256 → EReal) (hs : ∀ j, ∃ r : ℝ, s j = (r : EReal)) :
    soft s v = ∑ j : Fin 256, v j * Ideal.div (Ideal.exp (s j - Finset.univ.fold max ⊥ s)) (∑ k : Fin 256, Ideal.exp (s k - Finset.univ.fold max ⊥ s)) := by
  unfold soft
  choose r hr using hs
  have hM : Finset.univ.fold max ⊥ s ≠ ⊤ := fold_max_ne_top s fun j => by rw [hr]; exact EReal.coe_ne_top _
  have hM' : Finset.univ.fold max ⊥ s ≠ ⊥ :=
    ne_of_gt ((Finset.lt_fold_max _).2 (Or.inr ⟨0, Finset.mem_univ _, by rw [hr]; exact EReal.bot_lt_coe _⟩))
  generalize Finset.univ.fold max ⊥ s = M at hM hM'
  lift M to ℝ using ⟨hM, hM'⟩
  have hq : ∀ j, Ideal.exp (s j - (M : EReal)) = ((Real.exp (r j - M) : ℝ) : EReal) := by
    intro j
    rw [hr, ← EReal.coe_sub]
    rfl
  simp only [hq]
  rw [show (∑ j, ((Real.exp (r j - M) : ℝ) : EReal)) = ((∑ j, Real.exp (r j - M) : ℝ) : EReal) from
    (map_sum (⟨⟨Real.toEReal, EReal.coe_zero⟩, EReal.coe_add⟩ : ℝ →+ EReal) (fun j => Real.exp (r j - M)) Finset.univ).symm]
  have hD : 0 < ∑ j : Fin 256, Real.exp (r j - M) := Finset.sum_pos (fun j _ => Real.exp_pos _) ⟨0, Finset.mem_univ _⟩
  generalize (∑ j : Fin 256, Real.exp (r j - M)) = D at hD
  have hdiv : ∀ x : EReal, Ideal.div x (D : EReal) = x * ((D⁻¹ : ℝ) : EReal) := by
    intro x
    rw [Ideal.div_coe hD.ne', one_div]
  simp only [hdiv]
  rw [sum_mul_real _ _ _ (inv_nonneg.2 hD.le)]
  refine Finset.sum_congr rfl fun j _ => ?_
  rw [mul_comm _ (v j), mul_assoc]

/-- A word of a finite number is a real. -/
theorem scale_real : ∃ r : ℝ, scale = (r : EReal) := by
  unfold scale
  simp [Ideal.ofBits, Ideal.ieee]
  exact ⟨_, (EReal.coe_mul _ _).symm⟩

theorem eps_pos : ∃ r : ℝ, 0 < r ∧ Ideal.ofBits .f32 0x3727C5AC#32 = (r : EReal) := by
  simp [Ideal.ofBits, Ideal.ieee]
  refine ⟨_, ?_, (EReal.coe_mul _ _).symm⟩
  positivity

theorem width_real : Ideal.ofBits .f32 0x44800000#32 = ((1024 : ℝ) : EReal) := by
  simp [Ideal.ofBits, Ideal.ieee]
  rw [← EReal.coe_mul]
  norm_num

/-- Any row normed by a finite gain is finite: a row with an infinity has an infinite mean square, so it is scaled by zero. -/
theorem normed_real (x g : Fin 1024 → EReal) (hg : ∀ j, ∃ r : ℝ, g j = (r : EReal)) (k : Fin 1024) : ∃ r : ℝ, normed x g k = (r : EReal) := by
  obtain ⟨e, he, hee⟩ := eps_pos
  unfold normed
  rw [hee, width_real, Ideal.div_coe (by norm_num)]
  by_cases hx : ∀ j, ∃ r : ℝ, x j = (r : EReal)
  · choose a ha using hx
    choose b hb using hg
    simp only [ha, hb, ← EReal.coe_mul]
    rw [show (∑ j, ((a j * a j : ℝ) : EReal)) = ((∑ j, a j * a j : ℝ) : EReal) from
      (map_sum (⟨⟨Real.toEReal, EReal.coe_zero⟩, EReal.coe_add⟩ : ℝ →+ EReal) (fun j => a j * a j) Finset.univ).symm, ← EReal.coe_mul, ← EReal.coe_add]
    have hp : 0 < (∑ j, a j * a j) * (1 / 1024) + e := add_pos_of_nonneg_of_pos (mul_nonneg (Finset.sum_nonneg fun j _ => mul_self_nonneg _) (by norm_num)) he
    generalize (∑ j, a j * a j) * (1 / 1024) + e = y at hp
    obtain ⟨r, hr⟩ : ∃ r : ℝ, FloatOps.rsqrt (F := Ideal) (φ := .f32) (y : EReal) = (r : EReal) :=
      ⟨(Real.sqrt y)⁻¹, by rw [Ideal.rsqrt_def, Ideal.rsqrt_coe, if_neg (not_lt.2 hp.le), if_neg hp.ne']⟩
    rw [hr, ← EReal.coe_mul, ← EReal.coe_mul]
    exact ⟨_, rfl⟩
  · obtain ⟨j, hj⟩ := not_forall.1 hx
    have hsq : ∀ i, 0 ≤ x i * x i := fun i => by
      rcases le_total 0 (x i) with h | h
      · exact mul_nonneg h h
      · rw [← neg_mul_neg]
        exact mul_nonneg (EReal.neg_nonneg.2 h) (EReal.neg_nonneg.2 h)
    have htop : x j * x j = ⊤ := by
      induction h : x j with
      | bot => exact EReal.bot_mul_bot
      | top => exact EReal.top_mul_top
      | coe r => exact absurd ⟨r, h⟩ hj
    have hs : (∑ i, x i * x i) = ⊤ := top_le_iff.1 (htop ▸ Finset.single_le_sum (fun i _ => hsq i) (Finset.mem_univ j))
    have hr : FloatOps.rsqrt (F := Ideal) (φ := .f32) (⊤ : EReal) = (0 : EReal) := rfl
    rw [hs, EReal.top_mul_coe_of_pos (by norm_num), EReal.top_add_coe, hr, mul_zero, zero_mul]
    exact ⟨0, rfl⟩

theorem queries_real (h g w) (hg : ∀ j, ∃ r : ℝ, g j = (r : EReal)) (hw : ∀ k j, ∃ r : ℝ, w k j = (r : EReal)) (i : Fin 512) :
    ∃ r : ℝ, queries h g w i = (r : EReal) :=
  dot_real _ _ (normed_real h g hg) fun k => hw k i

theorem score_real (q k) (hq : ∀ i, ∃ r : ℝ, q i = (r : EReal)) (hk : ∀ j i, ∃ r : ℝ, k j i = (r : EReal)) (n : Fin 4) (j : Fin 256) : ∃ r : ℝ, score q k n j = (r : EReal) := by
  unfold score
  obtain ⟨a, ha⟩ := dot_real (fun e : Fin 128 => q ⟨128 * n + e, by omega⟩) (fun e : Fin 128 => k j ⟨128 * n + e, by omega⟩) (fun e => hq _) (fun e => hk j _)
  obtain ⟨b, hb⟩ := scale_real
  rw [ha, hb]
  exact ⟨a * b, (EReal.coe_mul _ _).symm⟩

end Cert.MidIdeal.Rows

end
-- ==== Proof.MidBody.lean ====
module

public import proofs.«01_k».proof.Proof.MidMath
public import proofs.«01_k».proof.Proof.Gen.MidIdeal.Skeleton

/-!
# The body of the out-projection and the cross attention

The body's values read at an index.
-/

@[expose] public section

noncomputable section

namespace Cert.MidIdeal.Rows

open Cert.MidIdeal Cert.MidIdeal.Gen Idealize.ShloMosaic Idealize.ShloMosaic.TcCoe Idealize.SL.Sem
open Cert.InprojIdeal.Rows (normed)
open Cert.KernelIdeal.Attention (neg_inf)
open scoped BigOperators

theorem pay2_apply (v3 v4 : Vec Ideal S512x512 .f32) (v7 : Vec Ideal S512x1024 .f32) (v8 : Vec Ideal S1024x1024 .bf16) (v12 : Vec Ideal S1x1024 .f32) (r : Fin 512) (j : Fin 1024) :
    k0_pay2 v3 v4 v7 v8 v12 (ix2 r j) = mixed (fun k => v3 (ix2 r k)) (fun k => v4 (ix2 r k)) (fun k => v7 (ix2 r k)) (fun k j => v8 (ix2 k j)) (fun k => v12 (ix2 0 k)) j := by
  pointwise [k0_pay2, mixed, joined]

theorem pay3_apply (v3 v4 : Vec Ideal S512x512 .f32) (v7 : Vec Ideal S512x1024 .f32) (v8 : Vec Ideal S1024x1024 .bf16) (v12 v16 : Vec Ideal S1x1024 .f32) (v31 : Vec Ideal S1024x512 .bf16) (r : Fin 512) (j : Fin 512) :
    k0_pay3 v3 v4 v7 v8 v12 v16 v31 (ix2 r j) = queries (fun k => k0_pay2 v3 v4 v7 v8 v12 (ix2 r k)) (fun k => v16 (ix2 0 k)) (fun k j => v31 (ix2 k j)) j := by
  unfold k0_pay3
  generalize (k0_pay2 v3 v4 v7 v8 v12 : FVec Ideal S512x1024 .f32) = h
  pointwise [queries, normed]

theorem pay5_apply (q : FVec Ideal S512x128 .bf16) (k v : Vec Ideal S256x128 .bf16) (r : Fin 512) (d : Fin 128) :
    k0_pay5 q k v (ix2 r d) = soft (fun j => (∑ e : Fin 128, q (ix2 r e) * k (ix2 j e)) * scale) (fun j => v (ix2 j d)) := by
  pointwise [k0_pay5, soft, scale]
  rw [neg_inf]

theorem pay10_apply (h : FVec Ideal S512x1024 .f32) (g : Vec Ideal S1x1024 .f32) (r : Fin 512) (j : Fin 1024) :
    k0_pay10 h g (ix2 r j) = normed (fun k => h (ix2 r k)) (fun k => g (ix2 0 k)) j := by
  pointwise [k0_pay10, normed]

/-- Columns `o … o+127`. -/
def cols {α : Type} {n : Nat} (x : Shape.Idx ⟨2, ![n, 512]⟩ → α) (o : Nat) (ho : o + 128 ≤ 512) : Shape.Idx ⟨2, ![n, 128]⟩ → α :=
  fun y => x (ix2 (y 0) ⟨o + y 1, by have : (y 1 : Nat) < 128 := (y 1).isLt; omega⟩)

theorem slice_q (x : FVec Ideal S512x512 .bf16) (o : Nat) (h : S512x512.Slices ![0, o] S512x128) (ho : o + 128 ≤ 512) :
    extractStridedSlice S512x128 ![0, o] x h = cols x o ho := by
  funext y
  idx_vars y
  pointwise [cols]

theorem load_kv (x : Vec Ideal S256x512 .bf16) (o : Nat) (inb) (ho : o + 128 ≤ 512) :
    View.ld x (Rect.unit ![0, o] ![256, 128] inb) = cols x o ho := by
  rw [View.ld_unit]
  funext y
  idx_vars y
  pointwise [cols]

/-- Head `n`'s piece of the cross attention. -/
def head (q : FVec Ideal S512x512 .bf16) (k v : Vec Ideal S256x512 .bf16) (n : Fin 4) : FVec Ideal S512x128 .f32 :=
  k0_pay5 (cols q (128 * n) (by omega) : FVec Ideal S512x128 .bf16) (cols k (128 * n) (by omega) : Vec Ideal S256x128 .bf16) (cols v (128 * n) (by omega) : Vec Ideal S256x128 .bf16)

theorem head_apply (q : FVec Ideal S512x512 .bf16) (k v : Vec Ideal S256x512 .bf16) (n : Fin 4) (r : Fin 512) (d : Fin 128) :
    head q k v n (ix2 r d) = soft (score (fun i => q (ix2 r i)) (fun j i => k (ix2 j i)) n) (fun j => v (ix2 j ⟨128 * n + d, by omega⟩)) := by
  unfold head
  rw [pay5_apply]
  rfl

/-- The heads' pieces side by side. -/
def heads (q : FVec Ideal S512x512 .bf16) (k v : Vec Ideal S256x512 .bf16) : FVec Ideal S512x512 .f32 :=
  concatenate S512x512 1 [⟨S512x128, head q k v 0⟩, ⟨S512x128, head q k v 1⟩, ⟨S512x128, head q k v 2⟩, ⟨S512x128, head q k v 3⟩] concatenates_S512x128_S512x128_S512x128_S512x128_S512x512_d1

theorem heads_apply (q : FVec Ideal S512x512 .bf16) (k v : Vec Ideal S256x512 .bf16) (r : Fin 512) (i : Fin 512) :
    heads q k v (ix2 r i) = soft (score (fun i => q (ix2 r i)) (fun j i => k (ix2 j i)) ⟨i / 128, by omega⟩) (fun j => v (ix2 j i)) := by
  have e : heads q k v (ix2 r i) = head q k v ⟨i / 128, by omega⟩ (ix2 r ⟨i % 128, by omega⟩) := by
    refine concatenate_ofFn_apply (s₁ := S512x128) (t := S512x512) 1 (fun n : Fin 4 => head q k v n)
      concatenates_S512x128_S512x128_S512x128_S512x128_S512x512_d1 rfl 128 rfl (ix2 r i) ⟨i / 128, by omega⟩ rfl (ix2 r ⟨i % 128, by omega⟩) rfl ?_
    intro b hb
    match b with
    | ⟨0, _⟩ => rfl
    | ⟨1, _⟩ => exact absurd rfl hb
  rw [e, head_apply]
  refine congrArg (soft _) (funext fun j => congrArg (fun i => v (ix2 j i)) (Fin.ext ?_))
  show 128 * (i.val / 128) + i.val % 128 = i.val
  omega

/-- The block after the cross attention. -/
def after (h : FVec Ideal S512x1024 .f32) (q : FVec Ideal S512x512 .bf16) (k v : Vec Ideal S256x512 .bf16) (w : Vec Ideal S512x1024 .bf16) : FVec Ideal S512x1024 .f32 :=
  addf h (matmul dot_S512x512_S512x1024_S512x1024_1_0_0_1_n_n none (truncf .bf16 (heads q k v) bitsLt_bf16_f32) (shapeCast S512x1024 w shapeCasts_S512x1024_S512x1024 : FVec Ideal S512x1024 .bf16) (constant S512x1024 .f32 0x00000000#32))

theorem after_apply (h : FVec Ideal S512x1024 .f32) (q : FVec Ideal S512x512 .bf16) (k v : Vec Ideal S256x512 .bf16) (w : Vec Ideal S512x1024 .bf16) (r : Fin 512) (j : Fin 1024) :
    after h q k v w (ix2 r j) = crossed (fun k => h (ix2 r k)) (fun i => q (ix2 r i)) (fun j i => k (ix2 j i)) (fun j i => v (ix2 j i)) (fun i j => w (ix2 i j)) j := by
  pointwise [after, crossed]
  simp only [heads_apply]

/-- Four pieces side by side, through the output matrix, added to the row. -/
def joinOf (h : FVec Ideal S512x1024 .f32) (a b c d : FVec Ideal S512x128 .f32) (w : Vec Ideal S512x1024 .bf16) : FVec Ideal S512x1024 .f32 :=
  addf h (matmul dot_S512x512_S512x1024_S512x1024_1_0_0_1_n_n none (truncf .bf16 (concatenate S512x512 1 [⟨S512x128, a⟩, ⟨S512x128, b⟩, ⟨S512x128, c⟩, ⟨S512x128, d⟩] concatenates_S512x128_S512x128_S512x128_S512x128_S512x512_d1 : FVec Ideal S512x512 .f32) bitsLt_bf16_f32)
    (shapeCast S512x1024 w shapeCasts_S512x1024_S512x1024 : FVec Ideal S512x1024 .bf16) (constant S512x1024 .f32 0x00000000#32))

theorem pay9_pieces (h : FVec Ideal S512x1024 .f32) (q : FVec Ideal S512x512 .bf16) (a b : FVec Ideal S512x128 .f32) (k2 v2 k3 v3 : Vec Ideal S256x128 .bf16) (w : Vec Ideal S512x1024 .bf16) :
    k0_pay9 h q a b (k0_pay7 q) (k0_pay8 k2) (constant S512x256 .f32 0x00000000#32) v2 k3 v3 w
      = joinOf h a b (k0_pay5 (extractStridedSlice S512x128 ![0, 256] q slices_S512x512_o0_256_S512x128 : FVec Ideal S512x128 .bf16) k2 v2)
        (k0_pay5 (extractStridedSlice S512x128 ![0, 384] q slices_S512x512_o0_384_S512x128 : FVec Ideal S512x128 .bf16) k3 v3) w := rfl

theorem pay6_piece (q : FVec Ideal S512x512 .bf16) (k1 v1 : Vec Ideal S256x128 .bf16) :
    k0_pay6 q k1 v1 = k0_pay5 (extractStridedSlice S512x128 ![0, 128] q slices_S512x512_o0_128_S512x128 : FVec Ideal S512x128 .bf16) k1 v1 := rfl

theorem piece_eq (q : FVec Ideal S512x512 .bf16) (k v : Vec Ideal S256x512 .bf16) (o : Nat) (h : S512x512.Slices ![0, o] S512x128) (ho : o + 128 ≤ 512) (n : Fin 4) (e : o = 128 * n) :
    k0_pay5 (extractStridedSlice S512x128 ![0, o] q h : FVec Ideal S512x128 .bf16) (cols k o ho) (cols v o ho) = head q k v n := by
  subst e
  rw [slice_q q _ h ho]
  rfl

/-- The body's pieces are `after`. -/
theorem pay9_eq (h : FVec Ideal S512x1024 .f32) (q : FVec Ideal S512x512 .bf16) (k v : Vec Ideal S256x512 .bf16) (w : Vec Ideal S512x1024 .bf16) (i0 i1 i2 i3) :
    k0_pay9 h q (k0_pay5 (extractStridedSlice S512x128 ![0, 0] q slices_S512x512_o0_0_S512x128 : FVec Ideal S512x128 .bf16) (View.ld k (Rect.unit ![0, 0] ![256, 128] i0)) (View.ld v (Rect.unit ![0, 0] ![256, 128] i0)))
      (k0_pay6 q (View.ld k (Rect.unit ![0, 128] ![256, 128] i1)) (View.ld v (Rect.unit ![0, 128] ![256, 128] i1)))
      (k0_pay7 q) (k0_pay8 (View.ld k (Rect.unit ![0, 256] ![256, 128] i2))) (constant S512x256 .f32 0x00000000#32) (View.ld v (Rect.unit ![0, 256] ![256, 128] i2))
      (View.ld k (Rect.unit ![0, 384] ![256, 128] i3)) (View.ld v (Rect.unit ![0, 384] ![256, 128] i3)) w
      = after h q k v w := by
  rw [pay9_pieces, pay6_piece]
  simp only [load_kv _ 0 _ (by decide : 0 + 128 ≤ 512), load_kv _ 128 _ (by decide : 128 + 128 ≤ 512), load_kv _ 256 _ (by decide : 256 + 128 ≤ 512), load_kv _ 384 _ (by decide : 384 + 128 ≤ 512)]
  rw [piece_eq q k v 0 _ _ 0 rfl, piece_eq q k v 128 _ _ 1 rfl, piece_eq q k v 256 _ _ 2 rfl, piece_eq q k v 384 _ _ 3 rfl]
  rfl

end Cert.MidIdeal.Rows

end
-- ==== Proof.MidBlock.lean ====
module

public import proofs.«01_k».proof.Proof.MidBody
public import proofs.«01_k».proof.Proof.Gen.MidIdeal.Frame

/-!
# What one grid point stores of the first two results

The first point also zeroes the running counts; neither of the two results depends on them.
-/

@[expose] public section

noncomputable section

namespace Cert.MidIdeal.Rows

open Cert.MidIdeal Cert.MidIdeal.Gen Idealize.ShloMosaic Idealize.ShloMosaic.TcCoe Idealize.SL.Sem

/-- The block after the cross attention, from the blocks read. -/
def block (x0 x1 : Vec Ideal S512x512 .f32) (x2 : Vec Ideal S512x1024 .f32) (x3 : Vec Ideal S1024x1024 .bf16) (x4 x5 : Vec Ideal S1x1024 .f32) (x6 : Vec Ideal S1024x512 .bf16) (x7 x8 : Vec Ideal S256x512 .bf16) (x9 : Vec Ideal S512x1024 .bf16) : FVec Ideal S512x1024 .f32 :=
  after (k0_pay2 x0 x1 x2 x3 x4) (k0_pay3 x0 x1 x2 x3 x4 x5 x6) x7 x8 x9

variable (x0 x1 : Vec Ideal S512x512 .f32) (x2 : Vec Ideal S512x1024 .f32) (x3 : Vec Ideal S1024x1024 .bf16) (x4 x5 : Vec Ideal S1x1024 .f32) (x6 : Vec Ideal S1024x512 .bf16) (x7 x8 : Vec Ideal S256x512 .bf16) (x9 : Vec Ideal S512x1024 .bf16) (x10 : Vec Ideal S1x1024 .f32) (x11 : Vec Ideal S32x1024 .bf16) (x12 : Vec Ideal S32x1 .f32) (x13 : Vec Ideal S512x512 .bf16) (xs : Vec Ideal S32x1 .f32)

theorem block_pieces (i0 i1 i2 i3) :
    k0_pay9 (k0_pay2 x0 x1 x2 x3 x4) (k0_pay3 x0 x1 x2 x3 x4 x5 x6) (k0_pay5 (k0_pay4 x0 x1 x2 x3 x4 x5 x6) (View.ld x7 (Rect.unit ![0, 0] ![256, 128] i0)) (View.ld x8 (Rect.unit ![0, 0] ![256, 128] i0)))
      (k0_pay6 (k0_pay3 x0 x1 x2 x3 x4 x5 x6) (View.ld x7 (Rect.unit ![0, 128] ![256, 128] i1)) (View.ld x8 (Rect.unit ![0, 128] ![256, 128] i1)))
      (k0_pay7 (k0_pay3 x0 x1 x2 x3 x4 x5 x6)) (k0_pay8 (View.ld x7 (Rect.unit ![0, 256] ![256, 128] i2))) (constant S512x256 .f32 0x00000000#32) (View.ld x8 (Rect.unit ![0, 256] ![256, 128] i2))
      (View.ld x7 (Rect.unit ![0, 384] ![256, 128] i3)) (View.ld x8 (Rect.unit ![0, 384] ![256, 128] i3)) x9
      = block x0 x1 x2 x3 x4 x5 x6 x7 x8 x9 := by
  have e : (k0_pay4 x0 x1 x2 x3 x4 x5 x6 : FVec Ideal S512x128 .bf16) = extractStridedSlice S512x128 ![0, 0] (k0_pay3 x0 x1 x2 x3 x4 x5 x6) slices_S512x512_o0_0_S512x128 := rfl
  rw [e]
  unfold block
  generalize (k0_pay3 x0 x1 x2 x3 x4 x5 x6 : FVec Ideal S512x512 .bf16) = q
  generalize (k0_pay2 x0 x1 x2 x3 x4 : FVec Ideal S512x1024 .f32) = h
  exact pay9_eq h q x7 x8 x9 i0 i1 i2 i3

theorem point14_A (c : Dev nD) (t : Fin cfg0.N) (h0 : t.val % 32 = 0) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) x0 x1 x2 x3 x4 x5 x6 x7 x8 x9 x10 x11 x12 x13
      = block x0 x1 x2 x3 x4 x5 x6 x7 x8 x9 := by
  frame_out
  refine Eq.trans ?_ (block_pieces x0 x1 x2 x3 x4 x5 x6 x7 x8 x9 (by decide +kernel) (by decide +kernel) (by decide +kernel) (by decide +kernel))
  rfl

theorem point15_A (c : Dev nD) (t : Fin cfg0.N) (h0 : t.val % 32 = 0) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) x0 x1 x2 x3 x4 x5 x6 x7 x8 x9 x10 x11 x12 x13
      = k0_pay10 (block x0 x1 x2 x3 x4 x5 x6 x7 x8 x9) x10 := by
  frame_out
  refine Eq.trans ?_ (congrArg (k0_pay10 · x10) (block_pieces x0 x1 x2 x3 x4 x5 x6 x7 x8 x9 (by decide +kernel) (by decide +kernel) (by decide +kernel) (by decide +kernel)))
  rfl

theorem point14_B (c : Dev nD) (t : Fin cfg0.N) (h0 : ¬t.val % 32 = 0) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) x0 x1 x2 x3 x4 x5 x6 x7 x8 x9 x10 x11 x12 x13 xs
      = block x0 x1 x2 x3 x4 x5 x6 x7 x8 x9 := by
  frame_out
  refine Eq.trans ?_ (block_pieces x0 x1 x2 x3 x4 x5 x6 x7 x8 x9 (by decide +kernel) (by decide +kernel) (by decide +kernel) (by decide +kernel))
  rfl

theorem point15_B (c : Dev nD) (t : Fin cfg0.N) (h0 : ¬t.val % 32 = 0) :
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) x0 x1 x2 x3 x4 x5 x6 x7 x8 x9 x10 x11 x12 x13 xs
      = k0_pay10 (block x0 x1 x2 x3 x4 x5 x6 x7 x8 x9) x10 := by
  frame_out
  refine Eq.trans ?_ (congrArg (k0_pay10 · x10) (block_pieces x0 x1 x2 x3 x4 x5 x6 x7 x8 x9 (by decide +kernel) (by decide +kernel) (by decide +kernel) (by decide +kernel)))
  rfl

end Cert.MidIdeal.Rows

end
-- ==== Proof.MidValue.lean ====
module

public import proofs.«01_k».proof.Defs
public import proofs.«01_k».proof.Proof.MidBlock
public import proofs.«01_k».proof.Proof.Gen.MidIdeal.Value

/-!
# What the out-projection and the cross attention leave

Its first two result arrays after the run, row by row.
-/

@[expose] public section

noncomputable section

namespace Cert.MidIdeal.Rows

open Cert.MidIdeal Cert.MidIdeal.Gen Idealize.ShloMosaic Idealize.ShloMosaic.TcCoe Idealize.SL.Sem
open Cert.InprojIdeal.Rows (normed hz2)
open scoped BigOperators

section rows
variable (a0 a1 : Vec Ideal S16384x512 .f32) (a2 : Vec Ideal S16384x1024 .f32) (a3 : Vec Ideal S1024x1024 .f32) (a4 a5 : Vec Ideal S1024 .f32) (a6 : Vec Ideal S1024x512 .f32) (a7 a8 : Vec Ideal S512x512 .f32) (a9 : Vec Ideal S512x1024 .f32) (a10 : Vec Ideal S1024 .f32)

/-- The memory row `j` of row `R`'s sequence. -/
def memRow (R : Fin 16384) (j : Fin 256) : Fin 512 := ⟨R / 8192 * 256 + j, by omega⟩

/-- Row `R` after the out-projection. -/
def rowH (R : Fin 16384) : Fin 1024 → EReal := mixed (fun k => a0 (ix2 R k)) (fun k => a1 (ix2 R k)) (fun k => a2 (ix2 R k)) (fun k j => a3 (ix2 k j)) (fun k => a4 (ix1 k))

/-- Row `R`'s queries. -/
def rowQ (R : Fin 16384) : Fin 512 → EReal := queries (rowH a0 a1 a2 a3 a4 R) (fun k => a5 (ix1 k)) (fun k j => a6 (ix2 k j))

/-- Row `R` after the cross attention. -/
def rowC (R : Fin 16384) : Fin 1024 → EReal :=
  crossed (rowH a0 a1 a2 a3 a4 R) (rowQ a0 a1 a2 a3 a4 a5 a6 R) (fun j i => a7 (ix2 (memRow R j) i)) (fun j i => a8 (ix2 (memRow R j) i)) (fun i j => a9 (ix2 i j))

/-- Row `R` normed for the experts. -/
def rowU (R : Fin 16384) : Fin 1024 → EReal := normed (rowC a0 a1 a2 a3 a4 a5 a6 a7 a8 a9 R) (fun k => a10 (ix1 k))

end rows

variable (m : (ℓ : Loc nD τ sig) → Buf (Elt Ideal) ℓ)

/-- Which block each window holds at a point. -/
theorem index_facts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val / 16 ∧ win0_7.index t 1 = 0)
    ∧ (win0_8.index t 0 = t.val / 16 ∧ win0_8.index t 1 = 0)
    ∧ (win0_9.index t 0 = 0 ∧ win0_9.index t 1 = 0)
    ∧ (win0_10.index t 0 = 0 ∧ win0_10.index t 1 = 0)
    ∧ (win0_14.index t 0 = t.val ∧ win0_14.index t 1 = 0)
    ∧ (win0_15.index t 0 = t.val ∧ win0_15.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val / 16 ∧ win0_7.index t 1 = 0)
    ∧ (win0_8.index t 0 = t.val / 16 ∧ win0_8.index t 1 = 0)
    ∧ (win0_9.index t 0 = 0 ∧ win0_9.index t 1 = 0)
    ∧ (win0_10.index t 0 = 0 ∧ win0_10.index t 1 = 0)
    ∧ (win0_14.index t 0 = t.val ∧ win0_14.index t 1 = 0)
    ∧ (win0_15.index t 0 = t.val ∧ win0_15.index t 1 = 0))

/-- The row of the array that row `r` of block `t` is. -/
def row (t : Fin cfg0.N) (r : Fin 512) : Fin 16384 := ⟨t.val * 512 + r, by have h : t.val < 32 := t.isLt; omega⟩

theorem iblk0_apply (c : Dev nD) (t : Fin cfg0.N) (r : Fin 512) (k : Fin 512) :
    (iblk m c 0 t : Vec Ideal S512x512 .f32) (ix2 r k) = (m ((c : Thread nD τ).loc main_arg0) : Vec Ideal S16384x512 .f32) (ix2 (row t r) k) := by
  show (V m c main_arg0 : Vec Ideal S16384x512 .f32) ((win0_0.rect t).emb (ix2 r k)) = _
  rw [V_main_arg0]
  refine congrArg _ (Shape.idx_ext₂ ?_ (Pipeline.Window.rect_emb_val_of_index_zero win0_0 t 1 (index_facts t).1.2 (ix2 r k)))
  rw [Pipeline.Window.rect_emb_val win0_0 t (ix2 r k) 0, (index_facts t).1.1]
  rfl

theorem iblk1_apply (c : Dev nD) (t : Fin cfg0.N) (r : Fin 512) (k : Fin 512) :
    (iblk m c 1 t : Vec Ideal S512x512 .f32) (ix2 r k) = (m ((c : Thread nD τ).loc main_arg1) : Vec Ideal S16384x512 .f32) (ix2 (row t r) k) := by
  show (V m c main_arg1 : Vec Ideal S16384x512 .f32) ((win0_1.rect t).emb (ix2 r k)) = _
  rw [V_main_arg1]
  refine congrArg _ (Shape.idx_ext₂ ?_ (Pipeline.Window.rect_emb_val_of_index_zero win0_1 t 1 (index_facts t).2.1.2 (ix2 r k)))
  rw [Pipeline.Window.rect_emb_val win0_1 t (ix2 r k) 0, (index_facts t).2.1.1]
  rfl

theorem iblk2_apply (c : Dev nD) (t : Fin cfg0.N) (r : Fin 512) (k : Fin 1024) :
    (iblk m c 2 t : Vec Ideal S512x1024 .f32) (ix2 r k) = (m ((c : Thread nD τ).loc main_arg2) : Vec Ideal S16384x1024 .f32) (ix2 (row t r) k) := by
  show (V m c main_arg2 : Vec Ideal S16384x1024 .f32) ((win0_2.rect t).emb (ix2 r k)) = _
  rw [V_main_arg2]
  refine congrArg _ (Shape.idx_ext₂ ?_ (Pipeline.Window.rect_emb_val_of_index_zero win0_2 t 1 (index_facts t).2.2.1.2 (ix2 r k)))
  rw [Pipeline.Window.rect_emb_val win0_2 t (ix2 r k) 0, (index_facts t).2.2.1.1]
  rfl

theorem iblk3_apply (c : Dev nD) (t : Fin cfg0.N) (k : Fin 1024) (j : Fin 1024) :
    (iblk m c 3 t : Vec Ideal S1024x1024 .bf16) (ix2 k j) = (m ((c : Thread nD τ).loc main_arg3) : Vec Ideal S1024x1024 .f32) (ix2 k j) := by
  show (V m c main_v0 : Vec Ideal S1024x1024 .bf16) ((win0_3.rect t).emb (ix2 k j)) = _
  have e : (win0_3.rect t).emb (ix2 k j) = (ix2 k j : S1024x1024.Idx) := Shape.idx_ext₂
    (Pipeline.Window.rect_emb_val_of_index_zero win0_3 t 0 (index_facts t).2.2.2.1.1 (ix2 k j)) (Pipeline.Window.rect_emb_val_of_index_zero win0_3 t 1 (index_facts t).2.2.2.1.2 (ix2 k j))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk6_apply (c : Dev nD) (t : Fin cfg0.N) (k : Fin 1024) (j : Fin 512) :
    (iblk m c 6 t : Vec Ideal S1024x512 .bf16) (ix2 k j) = (m ((c : Thread nD τ).loc main_arg6) : Vec Ideal S1024x512 .f32) (ix2 k j) := by
  show (V m c main_v3 : Vec Ideal S1024x512 .bf16) ((win0_6.rect t).emb (ix2 k j)) = _
  have e : (win0_6.rect t).emb (ix2 k j) = (ix2 k j : S1024x512.Idx) := Shape.idx_ext₂
    (Pipeline.Window.rect_emb_val_of_index_zero win0_6 t 0 (index_facts t).2.2.2.2.2.2.1.1 (ix2 k j)) (Pipeline.Window.rect_emb_val_of_index_zero win0_6 t 1 (index_facts t).2.2.2.2.2.2.1.2 (ix2 k j))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk9_apply (c : Dev nD) (t : Fin cfg0.N) (k : Fin 512) (j : Fin 1024) :
    (iblk m c 9 t : Vec Ideal S512x1024 .bf16) (ix2 k j) = (m ((c : Thread nD τ).loc main_arg9) : Vec Ideal S512x1024 .f32) (ix2 k j) := by
  show (V m c main_v6 : Vec Ideal S512x1024 .bf16) ((win0_9.rect t).emb (ix2 k j)) = _
  have e : (win0_9.rect t).emb (ix2 k j) = (ix2 k j : S512x1024.Idx) := Shape.idx_ext₂
    (Pipeline.Window.rect_emb_val_of_index_zero win0_9 t 0 (index_facts t).2.2.2.2.2.2.2.2.2.1.1 (ix2 k j)) (Pipeline.Window.rect_emb_val_of_index_zero win0_9 t 1 (index_facts t).2.2.2.2.2.2.2.2.2.1.2 (ix2 k j))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk4_apply (c : Dev nD) (t : Fin cfg0.N) (k : Fin 1024) :
    (iblk m c 4 t : Vec Ideal S1x1024 .f32) (ix2 0 k) = (m ((c : Thread nD τ).loc main_arg4) : Vec Ideal S1024 .f32) (ix1 k) := by
  show (V m c main_v1 : Vec Ideal S1x1024 .f32) ((win0_4.rect t).emb (ix2 0 k)) = _
  have e : (win0_4.rect t).emb (ix2 0 k) = (ix2 0 k : S1x1024.Idx) := Shape.idx_ext₂
    (Pipeline.Window.rect_emb_val_of_index_zero win0_4 t 0 (index_facts t).2.2.2.2.1.1 (ix2 0 k)) (Pipeline.Window.rect_emb_val_of_index_zero win0_4 t 1 (index_facts t).2.2.2.2.1.2 (ix2 0 k))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk5_apply (c : Dev nD) (t : Fin cfg0.N) (k : Fin 1024) :
    (iblk m c 5 t : Vec Ideal S1x1024 .f32) (ix2 0 k) = (m ((c : Thread nD τ).loc main_arg5) : Vec Ideal S1024 .f32) (ix1 k) := by
  show (V m c main_v2 : Vec Ideal S1x1024 .f32) ((win0_5.rect t).emb (ix2 0 k)) = _
  have e : (win0_5.rect t).emb (ix2 0 k) = (ix2 0 k : S1x1024.Idx) := Shape.idx_ext₂
    (Pipeline.Window.rect_emb_val_of_index_zero win0_5 t 0 (index_facts t).2.2.2.2.2.1.1 (ix2 0 k)) (Pipeline.Window.rect_emb_val_of_index_zero win0_5 t 1 (index_facts t).2.2.2.2.2.1.2 (ix2 0 k))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk10_apply (c : Dev nD) (t : Fin cfg0.N) (k : Fin 1024) :
    (iblk m c 10 t : Vec Ideal S1x1024 .f32) (ix2 0 k) = (m ((c : Thread nD τ).loc main_arg10) : Vec Ideal S1024 .f32) (ix1 k) := by
  show (V m c main_v7 : Vec Ideal S1x1024 .f32) ((win0_10.rect t).emb (ix2 0 k)) = _
  have e : (win0_10.rect t).emb (ix2 0 k) = (ix2 0 k : S1x1024.Idx) := Shape.idx_ext₂
    (Pipeline.Window.rect_emb_val_of_index_zero win0_10 t 0 (index_facts t).2.2.2.2.2.2.2.2.2.2.1.1 (ix2 0 k)) (Pipeline.Window.rect_emb_val_of_index_zero win0_10 t 1 (index_facts t).2.2.2.2.2.2.2.2.2.2.1.2 (ix2 0 k))
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk7_apply (c : Dev nD) (t : Fin cfg0.N) (r : Fin 512) (j : Fin 256) (i : Fin 512) :
    (iblk m c 7 t : Vec Ideal S256x512 .bf16) (ix2 j i) = (m ((c : Thread nD τ).loc main_arg7) : Vec Ideal S512x512 .f32) (ix2 (memRow (row t r) j) i) := by
  show (V m c main_v4 : Vec Ideal S512x512 .bf16) ((win0_7.rect t).emb (ix2 j i)) = _
  have e : (win0_7.rect t).emb (ix2 j i) = (ix2 (memRow (row t r) j) i : S512x512.Idx) := by
    refine Shape.idx_ext₂ ?_ (Pipeline.Window.rect_emb_val_of_index_zero win0_7 t 1 (index_facts t).2.2.2.2.2.2.2.1.2 (ix2 j i))
    rw [Pipeline.Window.rect_emb_val win0_7 t (ix2 j i) 0, (index_facts t).2.2.2.2.2.2.2.1.1]
    show t.val / 16 * 256 + j.val = (t.val * 512 + r.val) / 8192 * 256 + j.val
    omega
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

theorem iblk8_apply (c : Dev nD) (t : Fin cfg0.N) (r : Fin 512) (j : Fin 256) (i : Fin 512) :
    (iblk m c 8 t : Vec Ideal S256x512 .bf16) (ix2 j i) = (m ((c : Thread nD τ).loc main_arg8) : Vec Ideal S512x512 .f32) (ix2 (memRow (row t r) j) i) := by
  show (V m c main_v5 : Vec Ideal S512x512 .bf16) ((win0_8.rect t).emb (ix2 j i)) = _
  have e : (win0_8.rect t).emb (ix2 j i) = (ix2 (memRow (row t r) j) i : S512x512.Idx) := by
    refine Shape.idx_ext₂ ?_ (Pipeline.Window.rect_emb_val_of_index_zero win0_8 t 1 (index_facts t).2.2.2.2.2.2.2.2.1.2 (ix2 j i))
    rw [Pipeline.Window.rect_emb_val win0_8 t (ix2 j i) 0, (index_facts t).2.2.2.2.2.2.2.2.1.1]
    show t.val / 16 * 256 + j.val = (t.val * 512 + r.val) / 8192 * 256 + j.val
    omega
  rw [e]
  simp only [V, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results
  pointwise

/-- The first result. -/
def out14 (c : Dev nD) : Vec Ideal S16384x1024 .f32 := fun i => rowC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)
/-- The second result. -/
def out15 (c : Dev nD) : Vec Ideal S16384x1024 .f32 := fun i => rowU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

/-- The block of point `t` at row `r` and column `j`. -/
theorem block_apply (c : Dev nD) (t : Fin cfg0.N) (r : Fin 512) (j : Fin 1024) :
    block (iblk m c 0 t) (iblk m c 1 t) (iblk m c 2 t) (iblk m c 3 t) (iblk m c 4 t) (iblk m c 5 t) (iblk m c 6 t) (iblk m c 7 t) (iblk m c 8 t) (iblk m c 9 t) (ix2 r j) = rowC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) j := by
  unfold block
  rw [after_apply]
  simp only [pay3_apply, pay2_apply, iblk0_apply, iblk1_apply, iblk2_apply, iblk3_apply, iblk4_apply, iblk5_apply, iblk6_apply, iblk7_apply m c t r, iblk8_apply m c t r, iblk9_apply]
  rfl

theorem emb14 (t : Fin cfg0.N) (y0 : Fin 512) (y1 : Fin 1024) : (win0_14.rect t).emb (ix2 y0 y1) = (ix2 (row t y0) y1 : S16384x1024.Idx) :=
  Shape.idx_ext₂ (by rw [Pipeline.Window.rect_emb_val win0_14 t _ 0, (index_facts t).2.2.2.2.2.2.2.2.2.2.2.1.1]; rfl)
    (Pipeline.Window.rect_emb_val_of_index_zero win0_14 t 1 (index_facts t).2.2.2.2.2.2.2.2.2.2.2.1.2 (ix2 y0 y1))

theorem emb15 (t : Fin cfg0.N) (y0 : Fin 512) (y1 : Fin 1024) : (win0_15.rect t).emb (ix2 y0 y1) = (ix2 (row t y0) y1 : S16384x1024.Idx) :=
  Shape.idx_ext₂ (by rw [Pipeline.Window.rect_emb_val win0_15 t _ 0, (index_facts t).2.2.2.2.2.2.2.2.2.2.2.2.1]; rfl)
    (Pipeline.Window.rect_emb_val_of_index_zero win0_15 t 1 (index_facts t).2.2.2.2.2.2.2.2.2.2.2.2.2 (ix2 y0 y1))

theorem point14 (c : Dev nD) (t : Fin cfg0.N) : (dats m 0 c).flushed 14 t = (cfg0.win 14).cut (grid0.coords t) (block (iblk m c 0 t) (iblk m c 1 t) (iblk m c 2 t) (iblk m c 3 t) (iblk m c 4 t) (iblk m c 5 t) (iblk m c 6 t) (iblk m c 7 t) (iblk m c 8 t) (iblk m c 9 t)) := by
  by_cases h0 : t.val % 32 = 0
  · rw [Value.flushed14_A m c t h0, point14_A (h0 := h0)]
  · rw [Value.flushed14_B m c t h0, point14_B (h0 := h0)]

/-- What point `t` writes back is block `t` of the result. -/
theorem flushed14_eq (c : Dev nD) (t : Fin cfg0.N) : (dats m 0 c).flushed 14 t = ((cfg0.win 14).blk t).view.read (Elt Ideal) (out14 m c) := by
  rw [point14]
  funext y
  idx_vars y
  show _ = out14 m c ((win0_14.rect t).emb (ix2 y0 y1))
  rw [emb14]
  exact block_apply m c t y0 y1

theorem point15 (c : Dev nD) (t : Fin cfg0.N) : (dats m 0 c).flushed 15 t = (cfg0.win 15).cut (grid0.coords t) (k0_pay10 (block (iblk m c 0 t) (iblk m c 1 t) (iblk m c 2 t) (iblk m c 3 t) (iblk m c 4 t) (iblk m c 5 t) (iblk m c 6 t) (iblk m c 7 t) (iblk m c 8 t) (iblk m c 9 t)) (iblk m c 10 t)) := by
  by_cases h0 : t.val % 32 = 0
  · rw [Value.flushed15_A m c t h0, point15_A (h0 := h0)]
  · rw [Value.flushed15_B m c t h0, point15_B (h0 := h0)]

/-- What point `t` writes back is block `t` of the result. -/
theorem flushed15_eq (c : Dev nD) (t : Fin cfg0.N) : (dats m 0 c).flushed 15 t = ((cfg0.win 15).blk t).view.read (Elt Ideal) (out15 m c) := by
  rw [point15]
  funext y
  idx_vars y
  show _ = out15 m c ((win0_15.rect t).emb (ix2 y0 y1))
  rw [emb15]
  show k0_pay10 (block (iblk m c 0 t) (iblk m c 1 t) (iblk m c 2 t) (iblk m c 3 t) (iblk m c 4 t) (iblk m c 5 t) (iblk m c 6 t) (iblk m c 7 t) (iblk m c 8 t) (iblk m c 9 t)) (iblk m c 10 t) (ix2 y0 y1) = _
  rw [pay10_apply]
  simp only [block_apply, iblk10_apply]
  rfl

/-- The block that holds a row. -/
def blockOf (r : Fin 16384) : Fin cfg0.N := ⟨r.val / 512, by show r.val / 512 < 32; omega⟩
/-- The row's place within that block. -/
def within (r : Fin 16384) : Fin 512 := ⟨r.val % 512, Nat.mod_lt _ (by decide)⟩

theorem row_within (r : Fin 16384) : row (blockOf r) (within r) = r := Fin.ext (by show r.val / 512 * 512 + r.val % 512 = r.val; omega)

/-- The array after the run: the 32 blocks of 512 rows are all of its rows. -/
theorem arr14_eq (c : Dev nD) : (dats m 0 c).arrAt 14 cfg0.N = out14 m c := by
  refine (dats m 0 c).arrAt_eq_of_cover 14 (out14 m c) (fun t _ => flushed14_eq m c t) fun i => ⟨blockOf (i 0), flush0_14 _, ?_⟩
  idx_vars i
  have e : (win0_14.rect (blockOf i0)).emb (ix2 (within i0) i1) = (ix2 i0 i1 : S16384x1024.Idx) := (emb14 _ _ _).trans (by rw [row_within])
  rw [← e]
  exact View.emb_mem_set ((cfg0.win 14).blk (blockOf i0)).view (ix2 (within i0) i1)

/-- The array after the run: the 32 blocks of 512 rows are all of its rows. -/
theorem arr15_eq (c : Dev nD) : (dats m 0 c).arrAt 15 cfg0.N = out15 m c := by
  refine (dats m 0 c).arrAt_eq_of_cover 15 (out15 m c) (fun t _ => flushed15_eq m c t) fun i => ⟨blockOf (i 0), flush0_15 _, ?_⟩
  idx_vars i
  have e : (win0_15.rect (blockOf i0)).emb (ix2 (within i0) i1) = (ix2 i0 i1 : S16384x1024.Idx) := (emb15 _ _ _).trans (by rw [row_within])
  rw [← e]
  exact View.emb_mem_set ((cfg0.win 15).blk (blockOf i0)).view (ix2 (within i0) i1)

end Cert.MidIdeal.Rows

end
-- ==== Proof.MidRef.lean ====
module

public import proofs.«01_k».proof.Proof.MidMath
public import proofs.«01_k».proof.Proof.Gen.MidRefIdeal.Run

/-!
# The reference of the out-projection and the cross attention

The reference's stages and their values at an index.
-/

@[expose] public section

set_option maxRecDepth 16384

noncomputable section

namespace Cert.MidRefIdeal.Stages

open Cert.MidRefIdeal Cert.MidRefIdeal.Gen Idealize.ShloMosaic Idealize.ShloMosaic.TcCoe Idealize.SL.Sem
open Cert.InprojIdeal.Rows (normed)
open Cert.MidIdeal.Rows (joined)
open scoped BigOperators

section reduce
variable {n0 n1 n2 n3 : Nat}

/-- Reducing the last of four axes: the entries that drop to `j` are those with `j`'s coordinates. -/
theorem fiber (h : (⟨4, ![n0, n1, n2, n3]⟩ : Shape).ReducesTo [3] ⟨3, ![n0, n1, n2]⟩) (a0 : Fin n0) (a1 : Fin n1) (a2 : Fin n2) (i : (⟨4, ![n0, n1, n2, n3]⟩ : Shape).Idx) :
    h.drop i = ix3 a0 a1 a2 ↔ ∃ k : Fin n3, ix4 a0 a1 a2 k = i := by
  constructor
  · intro e
    refine ⟨i 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext b
    apply Fin.ext
    match b with
    | ⟨0, _⟩ => rfl
    | ⟨1, _⟩ => rfl
    | ⟨2, _⟩ => rfl

theorem reduceMax_apply {u : Shape} (h : (⟨4, ![n0, n1, n2, n3]⟩ : Shape).ReducesTo [3] ⟨3, ![n0, n1, n2]⟩) (l : FVec Ideal ⟨4, ![n0, n1, n2, n3]⟩ .f32)
    (init : FVec Ideal u .f32) (hu : 0 < u.numel) (a0 : Fin n0) (a1 : Fin n1) (a2 : Fin n2) :
    Host.reduce (FloatOps.maximumf (F := Ideal) (φ := .f32)) l init h hu (ix3 a0 a1 a2) = Finset.univ.fold max (init (Shape.Idx.first hu)) (fun k : Fin n3 => l (ix4 a0 a1 a2 k)) := by
  rw [Host.reduce_eq_fold]
  exact Finset.fold_filter_eq_fold_of_fiber max _ (fun k : Fin n3 => (ix4 a0 a1 a2 k : (⟨4, ![n0, n1, n2, n3]⟩ : Shape).Idx)) (fun _ _ e => congrFun e 3) (fiber h a0 a1 a2) _ l

theorem greater_apply {u : Shape} (h : (⟨4, ![n0, n1, n2, n3]⟩ : Shape).ReducesTo [3] ⟨3, ![n0, n1, n2]⟩) (l : FVec Ideal ⟨4, ![n0, n1, n2, n3]⟩ .f32)
    (x : FVec Ideal ⟨3, ![n0, n1, n2]⟩ .f32) (init : FVec Ideal u .f32) (hu : 0 < u.numel) (hi : init (Shape.Idx.first hu) = (⊥ : EReal)) (hx : ∀ i, x i = (⊥ : EReal))
    (a0 : Fin n0) (a1 : Fin n1) (a2 : Fin n2) :
    maximumf x (Host.reduce (FloatOps.maximumf (F := Ideal) (φ := .f32)) l init h hu) (ix3 a0 a1 a2) = Finset.univ.fold max ⊥ (fun k : Fin n3 => l (ix4 a0 a1 a2 k)) := by
  show max (x (ix3 a0 a1 a2)) _ = _
  rw [hx, reduceMax_apply, hi]
  exact max_eq_right bot_le

theorem reduceAdd_apply (h : (⟨4, ![n0, n1, n2, n3]⟩ : Shape).ReducesTo [3] ⟨3, ![n0, n1, n2]⟩) (l : (⟨4, ![n0, n1, n2, n3]⟩ : Shape).Idx → EReal) (a0 : Fin n0) (a1 : Fin n1) (a2 : Fin n2) :
    Ideal.hostReduceAdd h l 0 (ix3 a0 a1 a2) = ∑ k : Fin n3, l (ix4 a0 a1 a2 k) := by
  unfold Ideal.hostReduceAdd
  rw [zero_add]
  exact Finset.sum_filter_eq_sum_of_fiber _ (fun k : Fin n3 => (ix4 a0 a1 a2 k : (⟨4, ![n0, n1, n2, n3]⟩ : Shape).Idx)) (fun _ _ e => congrFun e 3) (fiber h a0 a1 a2) l

end reduce

/-- The rows after the out-projection. -/
def mixed (a0 a1 : Vec Ideal S16384x512 .f32) (a2 : Vec Ideal S16384x1024 .f32) (a3 : Vec Ideal S1024x1024 .f32) (a4 : Vec Ideal S1024 .f32) : FVec Ideal S16384x1024 .f32 :=
  addf a2 (addf (Host.dotGeneral (F := Ideal) (φ₁ := .f32) (φ₂ := .f32) dot_S16384x1024_S1024x1024_S16384x1024_1_0_0_1_n_n none
      (concatenate S16384x1024 1 [⟨S16384x512, a0⟩, ⟨S16384x512, a1⟩] concatenates_S16384x512_S16384x512_S16384x1024_d1) a3)
    (broadcastInDim S16384x1024 ![0, 1] bcast_S1x1024_S16384x1024_0_1 (broadcastInDim S1x1024 ![1] bcast_S1024_S1x1024_1 a4)))

/-- The rows, each divided by its root mean square and scaled by `g`. -/
def norm (x : FVec Ideal S16384x1024 .f32) (g : Vec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))

/-- The queries. -/
def queries (x : FVec Ideal S16384x1024 .f32) (w : Vec Ideal S1024x512 .f32) : FVec Ideal S16384x512 .f32 :=
  Host.dotGeneral (F := Ideal) (φ₁ := .f32) (φ₂ := .f32) dot_S16384x1024_S1024x512_S16384x512_1_0_0_1_n_n none x w

/-- The scores. -/
def scores (q : FVec Ideal S16384x512 .f32) (k : Vec Ideal S512x512 .f32) : FVec Ideal S2x4x8192x256 .f32 :=
  mulf (Host.dotGeneral (F := Ideal) (φ₁ := .f32) (φ₂ := .f32) dot_S2x8192x4x128_S2x256x4x128_S2x4x8192x256_3_3_1_1_02_02 none
      (shapeCast S2x8192x4x128 q shapeCasts_S16384x512_S2x8192x4x128) (shapeCast S2x256x4x128 k shapeCasts_S512x512_S2x256x4x128))
    (broadcastInDim S2x4x8192x256 ![] bcast_S_S2x4x8192x256 (constant S_ .f32 0x3DB504F3#32))

/-- The greatest score of each row. -/
def greatest (s : FVec Ideal S2x4x8192x256 .f32) : FVec Ideal S2x4x8192 .f32 :=
  maximumf (broadcastInDim S2x4x8192 ![] bcast_S_S2x4x8192 (constant S_ .f32 0xFF800000#32))
    (Host.reduce (FloatOps.maximumf (F := Ideal) (φ := .f32)) s (constant S_ .f32 0xFF800000#32) reducesTo_S2x4x8192x256_S2x4x8192_d3 h_S_)

/-- The exponentials. -/
def exps (s : FVec Ideal S2x4x8192x256 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (greatest s))))

/-- Each exponential over its row's sum. -/
def quotient (u : FVec Ideal S2x4x8192x256 .f32) : FVec Ideal S2x4x8192x256 .f32 :=
  Host.divf u (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd u (constant S_ .f32 0x00000000#32) reducesTo_S2x4x8192x256_S2x4x8192_d3 h_S_)))

/-- The weighted values, back as rows. -/
def weighted (v : Vec Ideal S512x512 .f32) (p : FVec Ideal S2x4x8192x256 .f32) : FVec Ideal S16384x512 .f32 :=
  shapeCast S16384x512 (transpose S2x8192x4x128 [0, 3, 1, 2]
    (Host.dotGeneral (F := Ideal) (φ₁ := .f32) (φ₂ := .f32) dot_S2x256x4x128_S2x4x8192x256_S2x4x128x8192_1_3_3_2_02_01 none (shapeCast S2x256x4x128 v shapeCasts_S512x512_S2x256x4x128) p : FVec Ideal S2x4x128x8192 .f32)
    transposes_S2x4x128x8192_S2x8192x4x128_0_3_1_2) shapeCasts_S2x8192x4x128_S16384x512

/-- The rows after the cross attention. -/
def after (h : FVec Ideal S16384x1024 .f32) (o : FVec Ideal S16384x512 .f32) (w : Vec Ideal S512x1024 .f32) : FVec Ideal S16384x1024 .f32 :=
  addf h (Host.dotGeneral (F := Ideal) (φ₁ := .f32) (φ₂ := .f32) dot_S16384x512_S512x1024_S16384x1024_1_0_0_1_n_n none o w)

/-- The first result from the arguments. -/
def first (a0 a1 : Vec Ideal S16384x512 .f32) (a2 : Vec Ideal S16384x1024 .f32) (a3 : Vec Ideal S1024x1024 .f32) (a4 a5 : Vec Ideal S1024 .f32) (a6 : Vec Ideal S1024x512 .f32) (a7 a8 : Vec Ideal S512x512 .f32) (a9 : Vec Ideal S512x1024 .f32) : FVec Ideal S16384x1024 .f32 :=
  after (mixed a0 a1 a2 a3 a4) (weighted a8 (quotient (exps (scores (queries (norm (mixed a0 a1 a2 a3 a4) a5) a6) a7)))) a9

variable (m : (ℓ : Loc nD τ sig) → Buf (Elt Ideal) ℓ)

theorem first_eq (c : Dev nD) : Value.res_out0 m c = first (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) := rfl

theorem second_eq (c : Dev nD) : Value.res_out1 m c = norm (first (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := rfl

theorem mixed_apply (a0 a1 a2 a3 a4) (R : Fin 16384) (j : Fin 1024) :
    mixed a0 a1 a2 a3 a4 (ix2 R j) = Cert.MidIdeal.Rows.mixed (fun k => a0 (ix2 R k)) (fun k => a1 (ix2 R k)) (fun k => a2 (ix2 R k)) (fun k j => a3 (ix2 k j)) (fun k => a4 (ix1 k)) j := by
  pointwise [mixed, Cert.MidIdeal.Rows.mixed, joined]
  exact (add_assoc _ _ _).symm

theorem norm_apply (x g) (R : Fin 16384) (k : Fin 1024) : norm x g (ix2 R k) = normed (fun k => x (ix2 R k)) (fun k => g (ix1 k)) k := by
  pointwise [norm, normed]

theorem queries_apply (x w) (R : Fin 16384) (i : Fin 512) : queries x w (ix2 R i) = ∑ k : Fin 1024, x (ix2 R k) * w (ix2 k i) := by
  pointwise [queries]

theorem scores_apply (q k) (b : Fin 2) (n : Fin 4) (r : Fin 8192) (j : Fin 256) :
    scores q k (ix4 b n r j) = (∑ e : Fin 128, q (ix2 ⟨b * 8192 + r, by omega⟩ ⟨n * 128 + e, by omega⟩) * k (ix2 ⟨b * 256 + j, by omega⟩ ⟨n * 128 + e, by omega⟩)) * Cert.MidIdeal.Rows.scale := by
  pointwise [scores, Cert.MidIdeal.Rows.scale]

theorem exps_apply (s) (b : Fin 2) (n : Fin 4) (r : Fin 8192) (j : Fin 256) :
    exps s (ix4 b n r j) = Ideal.exp (s (ix4 b n r j) - greatest s (ix3 b n r)) := by
  pointwise [exps]

theorem weighted_apply (v p) (R : Fin 16384) (i : Fin 512) :
    weighted v p (ix2 R i) = ∑ j : Fin 256, v (ix2 ⟨R / 8192 * 256 + j, by omega⟩ i) * p (ix4 ⟨R / 8192, by omega⟩ ⟨i / 128, by omega⟩ ⟨R % 8192, by omega⟩ j) := by
  pointwise [weighted]

theorem after_apply (h o w) (R : Fin 16384) (j : Fin 1024) : after h o w (ix2 R j) = h (ix2 R j) + ∑ i : Fin 512, o (ix2 R i) * w (ix2 i j) := by
  pointwise [after]

theorem greatest_apply (s) (b : Fin 2) (n : Fin 4) (r : Fin 8192) : greatest s (ix3 b n r) = Finset.univ.fold max ⊥ (fun k : Fin 256 => s (ix4 b n r k)) := by
  have hb : Ideal.ofBits .f32 0xFF800000#32 = (⊥ : EReal) := by simp [Ideal.ofBits, Ideal.ieee]
  exact greater_apply _ s _ _ _ hb (fun _ => hb) b n r

theorem quotient_apply (u) (b : Fin 2) (n : Fin 4) (r : Fin 8192) (j : Fin 256) :
    quotient u (ix4 b n r j) = Ideal.div (u (ix4 b n r j)) (∑ k : Fin 256, u (ix4 b n r k)) := by
  have e := reduceAdd_apply reducesTo_S2x4x8192x256_S2x4x8192_d3 u b n r
  generalize hs : (∑ k : Fin 256, u (ix4 b n r k)) = s at e ⊢
  unfold quotient
  generalize hz : (Host.reduceAdd u (constant S_ .f32 0x00000000#32) reducesTo_S2x4x8192x256_S2x4x8192_d3 h_S_ : FVec Ideal S2x4x8192 .f32) = z
  have ez : z (ix3 b n r) = s := by
    rw [← e, ← hz]
    show Ideal.hostReduceAdd _ u (Ideal.ofBits .f32 0x00000000#32) _ = _
    rw [show Ideal.ofBits .f32 0x00000000#32 = (0 : EReal) by simp [Ideal.ofBits, Ideal.ieee]]
  rw [← ez]
  pointwise

end Cert.MidRefIdeal.Stages

end
-- ==== Proof.MidClaim.lean ====
module

public import proofs.«01_k».proof.Proof.MidValue
public import proofs.«01_k».proof.Proof.MidRef
public import proofs.«01_k».proof.Proof.SwaClaim
public import proofs.«01_k».proof.Proof.Gen.Pre_finite_queries

/-!
# The out-projection and the cross attention against their reference

The reference's two results are the kernel's, where the gain, the queries' matrix and the keys of the cross attention are finite.
-/

@[expose] public section

set_option maxRecDepth 16384

noncomputable section

namespace Cert.MidIdeal.Rows

open Cert.MidIdeal Cert.MidIdeal.Gen Idealize.ShloMosaic Idealize.ShloMosaic.TcCoe Idealize.SL.Sem
open Cert.InprojIdeal.Rows (normed)
open Cert.KernelIdeal.Attention (inf_word lt_of_cmp real_of_abs)
open Cert.MidRefIdeal.Stages (first norm norm_apply mixed_apply queries_apply scores_apply greatest_apply exps_apply quotient_apply weighted_apply)
open scoped BigOperators

section arrays
variable (a0 a1 : Vec Ideal S16384x512 .f32) (a2 : Vec Ideal S16384x1024 .f32) (a3 : Vec Ideal S1024x1024 .f32) (a4 a5 : Vec Ideal S1024 .f32) (a6 : Vec Ideal S1024x512 .f32)
  (a7 a8 : Vec Ideal S512x512 .f32) (a9 : Vec Ideal S512x1024 .f32) (a10 : Vec Ideal S1024 .f32) (a11 : Vec Ideal S1024x32 .f32) (a12 : Vec Ideal S32 .f32)

theorem pre_gain (h : (Cert.Pre_finite_queries.fn (F := Ideal) a0 a1 a2 a3 a4 a5 a6 a7 a8 a9 a10 a11 a12).1 = fun _ => 1#1) (k : Fin 1024) : ∃ r : ℝ, a5 (ix1 k) = (r : EReal) := by
  have h0 := congrFun h (ix1 k)
  refine real_of_abs ?_
  rw [← inf_word]
  refine lt_of_cmp ?_
  refine Eq.trans ?_ h0
  pointwise [Cert.Pre_finite_queries.fn]
  rfl

theorem pre_matrix (h : (Cert.Pre_finite_queries.fn (F := Ideal) a0 a1 a2 a3 a4 a5 a6 a7 a8 a9 a10 a11 a12).2.1 = fun _ => 1#1) (k : Fin 1024) (j : Fin 512) : ∃ r : ℝ, a6 (ix2 k j) = (r : EReal) := by
  have h0 := congrFun h (ix2 k j)
  refine real_of_abs ?_
  rw [← inf_word]
  refine lt_of_cmp ?_
  refine Eq.trans ?_ h0
  pointwise [Cert.Pre_finite_queries.fn]
  rfl

theorem pre_keys (h : (Cert.Pre_finite_queries.fn (F := Ideal) a0 a1 a2 a3 a4 a5 a6 a7 a8 a9 a10 a11 a12).2.2 = fun _ => 1#1) (k j : Fin 512) : ∃ r : ℝ, a7 (ix2 k j) = (r : EReal) := by
  have h0 := congrFun h (ix2 k j)
  refine real_of_abs ?_
  rw [← inf_word]
  refine lt_of_cmp ?_
  refine Eq.trans ?_ h0
  pointwise [Cert.Pre_finite_queries.fn]
  rfl

/-- The reference's scores are the kernel's. -/
theorem scores_eq (R : Fin 16384) (n : Fin 4) (j : Fin 256) :
    Cert.MidRefIdeal.Stages.scores (Cert.MidRefIdeal.Stages.queries (norm (Cert.MidRefIdeal.Stages.mixed a0 a1 a2 a3 a4) a5) a6) a7 (ix4 ⟨R / 8192, by omega⟩ n ⟨R % 8192, by omega⟩ j)
      = score (rowQ a0 a1 a2 a3 a4 a5 a6 R) (fun j i => a7 (ix2 (memRow R j) i)) n j := by
  rw [scores_apply]
  unfold score
  refine congrArg (fun s : EReal => s * scale) (Finset.sum_congr rfl fun e _ => ?_)
  have hR : (⟨R.val / 8192 * 8192 + R.val % 8192, by omega⟩ : Fin 16384) = R := Fin.ext (by show R.val / 8192 * 8192 + R.val % 8192 = R.val; omega)
  have he : (⟨n.val * 128 + e.val, by omega⟩ : Fin 512) = ⟨128 * n.val + e.val, by omega⟩ := Fin.ext (by show n.val * 128 + e.val = 128 * n.val + e.val; omega)
  rw [he]
  refine congrArg₂ (fun a b : EReal => a * b) ?_ rfl
  refine (congrArg (fun R => Cert.MidRefIdeal.Stages.queries (norm (Cert.MidRefIdeal.Stages.mixed a0 a1 a2 a3 a4) a5) a6 (ix2 R ⟨128 * n.val + e.val, by omega⟩)) hR).trans ?_
  rw [queries_apply]
  unfold rowQ queries rowH
  simp only [norm_apply, mixed_apply]

/-- The reference's first result at an index. -/
theorem first_apply (h5 : ∀ k, ∃ r : ℝ, a5 (ix1 k) = (r : EReal)) (h6 : ∀ k j, ∃ r : ℝ, a6 (ix2 k j) = (r : EReal)) (h7 : ∀ k j, ∃ r : ℝ, a7 (ix2 k j) = (r : EReal)) (R : Fin 16384) (j : Fin 1024) :
    first a0 a1 a2 a3 a4 a5 a6 a7 a8 a9 (ix2 R j) = rowC a0 a1 a2 a3 a4 a5 a6 a7 a8 a9 R j := by
  unfold first
  rw [Cert.MidRefIdeal.Stages.after_apply, mixed_apply]
  unfold rowC crossed
  refine congrArg₂ (fun a b : EReal => a + b) rfl (Finset.sum_congr rfl fun i _ => congrArg (fun s : EReal => s * _) ?_)
  have hr := score_real (rowQ a0 a1 a2 a3 a4 a5 a6 R) (fun j i => a7 (ix2 (memRow R j) i)) (fun i => queries_real _ _ _ h5 h6 i) (fun j i => h7 _ i) ⟨i / 128, by omega⟩
  rw [soft_eq _ _ hr, weighted_apply]
  refine Finset.sum_congr rfl fun l _ => congrArg₂ (fun a b : EReal => a * b) rfl ?_
  rw [quotient_apply]
  simp only [exps_apply, greatest_apply, scores_eq]

/-- The reference's second result at an index. -/
theorem second_apply (h5 : ∀ k, ∃ r : ℝ, a5 (ix1 k) = (r : EReal)) (h6 : ∀ k j, ∃ r : ℝ, a6 (ix2 k j) = (r : EReal)) (h7 : ∀ k j, ∃ r : ℝ, a7 (ix2 k j) = (r : EReal)) (R : Fin 16384) (j : Fin 1024) :
    norm (first a0 a1 a2 a3 a4 a5 a6 a7 a8 a9) a10 (ix2 R j) = rowU a0 a1 a2 a3 a4 a5 a6 a7 a8 a9 a10 R j := by
  rw [norm_apply]
  simp only [first_apply a0 a1 a2 a3 a4 a5 a6 a7 a8 a9 h5 h6 h7]
  rfl

end arrays

variable (m : (ℓ : Loc nD τ sig) → Buf (Elt Ideal) ℓ)

theorem first_out (hp : Cert.Pre_MidIdeal_finite_queries m) (c : Dev nD) :
    first (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) = out14 m c := by
  obtain ⟨h5, h6, h7⟩ := hp c
  funext i
  idx_vars i
  exact first_apply _ _ _ _ _ _ _ _ _ _ (pre_gain _ _ _ _ _ _ _ _ _ _ _ _ _ h5) (pre_matrix _ _ _ _ _ _ _ _ _ _ _ _ _ h6) (pre_keys _ _ _ _ _ _ _ _ _ _ _ _ _ h7) i0 i1

theorem second_out (hp : Cert.Pre_MidIdeal_finite_queries m) (c : Dev nD) :
    norm (first (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)))
      (m ((c : Thread nD τ).loc main_arg10)) = out15 m c := by
  obtain ⟨h5, h6, h7⟩ := hp c
  funext i
  idx_vars i
  exact second_apply _ _ _ _ _ _ _ _ _ _ _ (pre_gain _ _ _ _ _ _ _ _ _ _ _ _ _ h5) (pre_matrix _ _ _ _ _ _ _ _ _ _ _ _ _ h6) (pre_keys _ _ _ _ _ _ _ _ _ _ _ _ _ h7) i0 i1

/-- Both runs: from memories that agree on the arguments, the rows after the cross attention and the normed rows are the same
    arrays, and each program leaves its arguments as they were. -/
theorem algebraic : Cert.algebraic_MidIdeal_MidRefIdeal_pre_finite_queries (hMidIdeal := Cert.MidIdeal.Gen.facts) (hMidRefIdeal := Cert.MidRefIdeal.Gen.facts) (hPre_finite_queries := Cert.Pre_finite_queries.Gen.facts) := by
  intro m g m' g' hp hargs
  refine ⟨out14 m, out15 m, ?_, ?_⟩
  · refine (θ_run defs _ _).mono (fun r h c => ?_) (Value.run_blocks m g)
    obtain ⟨h14, h15, _, _, _, _, ha⟩ := h c
    exact ⟨h14.trans (arr14_eq m c), h15.trans (arr15_eq m c), ha⟩
  · refine (θ_run Cert.MidRefIdeal.defs _ _).mono (fun r h c => ?_) (Cert.MidRefIdeal.Value.run m' g')
    obtain ⟨h0, h1, ha⟩ := h c
    obtain ⟨a0, a1, a2, a3, a4, a5, a6, a7, a8, a9, a10, a11, a12⟩ := hargs c
    have e0 := h0.trans (Cert.MidRefIdeal.Stages.first_eq m' c)
    have e1 := h1.trans (Cert.MidRefIdeal.Stages.second_eq m' c)
    rw [a0, a1, a2, a3, a4, a5, a6, a7, a8, a9] at e0
    rw [a0, a1, a2, a3, a4, a5, a6, a7, a8, a9, a10] at e1
    exact ⟨e0.trans (first_out m hp c), e1.trans (second_out m hp c), ha⟩

end Cert.MidIdeal.Rows

end
-- ==== Proof.PositionsClaim.lean ====
module

public import proofs.«01_k».proof.Proof.ExpertsMath
public import proofs.«01_k».proof.Proof.SwaBody
public import proofs.«01_k».proof.Proof.Gen.PositionsIdeal.Value
public import proofs.«01_k».proof.Proof.Gen.PositionsRefIdeal.Run
public import proofs.«01_k».proof.Proof.Gen.Pre_experts_exist

/-!
# The places of the chosen rows against their reference

One grid point: each chosen expert's first row, found by comparing with every expert in turn, plus the rank among its rows.
-/

@[expose] public section

set_option maxRecDepth 16384

noncomputable section

namespace Cert.PositionsIdeal.Rows

open Cert.PositionsIdeal Cert.PositionsIdeal.Gen Idealize.ShloMosaic Idealize.ShloMosaic.TcCoe Idealize.SL.Sem
open Cert.KernelIdeal.Attention (hz2)

theorem inb_one (n : Nat) (h : n < 32) : ∀ a, (![n] : Fin 1 → Nat) a + S1.size a ≤ S32.size a := fun a =>
  match a with
  | ⟨0, _⟩ => h

/-- Expert `n`'s first row, as it is loaded. -/
def startOf (s : Vec Ideal S32 .i32) (n : Nat) : BitVec 32 :=
  if h : n < 32 then View.ld s (Rect.unit (s := S32) ![n] S1.size (inb_one n h)) (Shape.Idx.first (s := S1) (by decide)) else 0#32

/-- The sum after comparing with the first `n` experts. -/
def summed (s : Vec Ideal S32 .i32) (v r : BitVec 32) : Nat → BitVec 32
  | 0 => r
  | n + 1 => IntOp.addi (summed s v r n) (Scalar.select (IntOp.cmpi .eq v (BitVec.ofNat 32 n)) (startOf s n) 0#32)

variable (m : (ℓ : Loc nD τ sig) → Buf (Elt Ideal) ℓ)

theorem load_start (x0 : Vec Ideal S32 .i32) (n : Nat) (hn : n < 32) (inb) (y) : View.ld x0 (Rect.unit ![n] ![1] inb) y = x0 (ix1 ⟨n, hn⟩) := by
  rw [View.ld_unit]
  idx_vars y
  pointwise

theorem startOf_eq (s : Vec Ideal S32 .i32) (n : Nat) (h : n < 32) : startOf s n = s (ix1 ⟨n, h⟩) := by
  unfold startOf
  rw [dif_pos h]
  exact load_start s n h (inb_one n h) _

/-- What the body leaves: the sum after all the experts, entry by entry. -/
theorem out_eq (c : Dev nD) (t : Fin cfg0.N) (x0 : Vec Ideal S32 .i32) (x1 x2 : Vec Ideal S4x16384 .i32) :
    out0_A_3 c (ms0_0 t) (hs0_0 t) (ms0_1 t) (hs0_1 t) (ms0_2 t) (hs0_2 t) (ms0_3 t) (hs0_3 t) x0 x1 x2 = fun i => summed x0 (x1 i) (x2 i) 32 := by
  frame_out
  have e0 : View.read (Elt Ideal) (View.whole cc0_stg0_0) ((hs0_0 t).unread x0) = x0 := (hs0_0 t).read_unread x0
  have e1 : View.read (Elt Ideal) (View.whole cc0_stg1_0) ((hs0_1 t).unread x1) = x1 := (hs0_1 t).read_unread x1
  have e2 : View.read (Elt Ideal) (View.whole cc0_stg2_0) ((hs0_2 t).unread x2) = x2 := (hs0_2 t).read_unread x2
  rw [e0, e1]
  rw [e2]
  rfl

/-- Comparing with the first `n` experts adds the first row of the one met, if any. -/
theorem summed_eq (s : Vec Ideal S32 .i32) (v r : BitVec 32) (n : Nat) (hn : n ≤ 32) : summed s v r n = if v.toNat < n then startOf s v.toNat + r else r := by
  induction n with
  | zero => rfl
  | succ n ih =>
    unfold summed
    rw [ih (by omega)]
    by_cases h : v.toNat = n
    · have hv : v = BitVec.ofNat 32 n := by rw [← h, BitVec.ofNat_toNat, BitVec.setWidth_eq]
      rw [if_neg (by omega), if_pos (by omega)]
      have hc : IntOp.cmpi .eq v (BitVec.ofNat 32 n) = 1#1 := by rw [hv]; simp [IntOp.cmpi]
      rw [hc, h]
      exact BitVec.add_comm _ _
    · have hc : IntOp.cmpi .eq v (BitVec.ofNat 32 n) = 0#1 := by
        have hne : v ≠ BitVec.ofNat 32 n := fun e => h (by rw [e, BitVec.toNat_ofNat]; omega)
        simp [IntOp.cmpi, beq_eq_false_iff_ne.mpr hne]
      rw [hc]
      show _ + 0#32 = _
      rw [BitVec.add_zero]
      by_cases hl : v.toNat < n
      · rw [if_pos hl, if_pos (by omega)]
      · rw [if_neg hl, if_neg (by omega)]

/-- Every window's block is its whole array. -/
theorem index_facts : ∀ t : Fin cfg0.N,
    (win0_0.index t 0 = 0) ∧ (win0_1.index t 0 = 0 ∧ win0_1.index t 1 = 0) ∧ (win0_2.index t 0 = 0 ∧ win0_2.index t 1 = 0) ∧ (win0_3.index t 0 = 0 ∧ win0_3.index t 1 = 0) :=
  (by decide +kernel : ∀ t : Fin grid0.N,
    (win0_0.index t 0 = 0) ∧ (win0_1.index t 0 = 0 ∧ win0_1.index t 1 = 0) ∧ (win0_2.index t 0 = 0 ∧ win0_2.index t 1 = 0) ∧ (win0_3.index t 0 = 0 ∧ win0_3.index t 1 = 0))

theorem iblk0_apply (c : Dev nD) (t : Fin cfg0.N) (n : Fin 32) : (iblk m c 0 t : Vec Ideal S32 .i32) (ix1 n) = (m ((c : Thread nD τ).loc main_arg0) : Vec Ideal S32 .i32) (ix1 n) := by
  show (V m c main_arg0 : Vec Ideal S32 .i32) ((win0_0.rect t).emb (ix1 n)) = _
  rw [V_main_arg0]
  refine congrArg _ (funext fun a => Fin.ext ?_)
  match a with
  | ⟨0, _⟩ => exact Pipeline.Window.rect_emb_val_of_index_zero win0_0 t 0 (index_facts t).1 (ix1 n)

theorem iblk1_apply (c : Dev nD) (t : Fin cfg0.N) (a : Fin 4) (j : Fin 16384) : (iblk m c 1 t : Vec Ideal S4x16384 .i32) (ix2 a j) = (m ((c : Thread nD τ).loc main_arg1) : Vec Ideal S4x16384 .i32) (ix2 a j) := by
  show (V m c main_arg1 : Vec Ideal S4x16384 .i32) ((win0_1.rect t).emb (ix2 a j)) = _
  rw [V_main_arg1]
  exact congrArg _ (Shape.idx_ext₂ (Pipeline.Window.rect_emb_val_of_index_zero win0_1 t 0 (index_facts t).2.1.1 (ix2 a j)) (Pipeline.Window.rect_emb_val_of_index_zero win0_1 t 1 (index_facts t).2.1.2 (ix2 a j)))

theorem iblk2_apply (c : Dev nD) (t : Fin cfg0.N) (a : Fin 4) (j : Fin 16384) : (iblk m c 2 t : Vec Ideal S4x16384 .i32) (ix2 a j) = (m ((c : Thread nD τ).loc main_arg2) : Vec Ideal S4x16384 .i32) (ix2 a j) := by
  show (V m c main_arg2 : Vec Ideal S4x16384 .i32) ((win0_2.rect t).emb (ix2 a j)) = _
  rw [V_main_arg2]
  exact congrArg _ (Shape.idx_ext₂ (Pipeline.Window.rect_emb_val_of_index_zero win0_2 t 0 (index_facts t).2.2.1.1 (ix2 a j)) (Pipeline.Window.rect_emb_val_of_index_zero win0_2 t 1 (index_facts t).2.2.1.2 (ix2 a j)))

theorem emb3 (t : Fin cfg0.N) (a : Fin 4) (j : Fin 16384) : (win0_3.rect t).emb (ix2 a j) = (ix2 a j : S4x16384.Idx) :=
  Shape.idx_ext₂ (Pipeline.Window.rect_emb_val_of_index_zero win0_3 t 0 (index_facts t).2.2.2.1 (ix2 a j)) (Pipeline.Window.rect_emb_val_of_index_zero win0_3 t 1 (index_facts t).2.2.2.2 (ix2 a j))

/-- The places, by the comparisons. -/
def places (c : Dev nD) : Vec Ideal S4x16384 .i32 := fun i =>
  summed (m ((c : Thread nD τ).loc main_arg0)) ((m ((c : Thread nD τ).loc main_arg1) : Vec Ideal S4x16384 .i32) i) ((m ((c : Thread nD τ).loc main_arg2) : Vec Ideal S4x16384 .i32) i) 32

theorem flushed3_eq (c : Dev nD) (t : Fin cfg0.N) : (dats m 0 c).flushed 3 t = ((cfg0.win 3).blk t).view.read (Elt Ideal) (places m c) := by
  rw [Value.flushed3_A, out_eq]
  funext y
  idx_vars y
  show _ = places m c ((win0_3.rect t).emb (ix2 y0 y1))
  rw [emb3]
  show summed (iblk m c 0 t : Vec Ideal S32 .i32) ((iblk m c 1 t : Vec Ideal S4x16384 .i32) (ix2 y0 y1)) ((iblk m c 2 t : Vec Ideal S4x16384 .i32) (ix2 y0 y1)) 32 = _
  have h0 : (iblk m c 0 t : Vec Ideal S32 .i32) = m ((c : Thread nD τ).loc main_arg0) := by
    funext i
    idx_vars i
    exact iblk0_apply m c t i0
  rw [h0, iblk1_apply, iblk2_apply]
  rfl

/-- The one grid point. -/
def only : Fin cfg0.N := ⟨0, by decide⟩

theorem arr3_eq (c : Dev nD) : (dats m 0 c).arrAt 3 cfg0.N = places m c := by
  refine (dats m 0 c).arrAt_eq_of_cover 3 (places m c) (fun t _ => flushed3_eq m c t) fun i => ⟨only, flush0_3 _, ?_⟩
  idx_vars i
  rw [← (emb3 only i0 i1 : _ = (ix2 i0 i1 : S4x16384.Idx))]
  exact View.emb_mem_set ((cfg0.win 3).blk only).view (ix2 i0 i1)

/-- The precondition read at an index. -/
theorem exists_at (s : Vec Ideal S32 .i32) (v r : Vec Ideal S4x16384 .i32) (h : Cert.Pre_experts_exist.fn (F := Ideal) s v r = fun _ => 1#1) (a : Fin 4) (j : Fin 16384) :
    (v (ix2 a j) : BitVec 32).toNat < 32 := by
  have h0 := congrFun h (ix2 a j)
  have h1 : IntOp.andi (IntOp.cmpi .sge (v (ix2 a j)) 0#32) (IntOp.cmpi .slt (v (ix2 a j)) (BitVec.ofNat 32 32)) = 1#1 := by
    refine Eq.trans ?_ h0
    pointwise [Cert.Pre_experts_exist.fn]
  rw [WordCmp.andi_sge_zero_slt_ofNat (by norm_num), WordCmp.ofBool_decide_eq_one_iff] at h1
  exact h1

end Cert.PositionsIdeal.Rows

namespace Cert.PositionsRefIdeal.Rows

open Cert.PositionsRefIdeal Cert.PositionsRefIdeal.Gen Idealize.ShloMosaic Idealize.ShloMosaic.TcCoe Idealize.SL.Sem
open Cert.PositionsIdeal.Rows (startOf)

/-- The start indices the reference takes entries by: the expert, a negative one counted from the end. -/
def starts (v : IVec S4x16384 32) : IVec S4x16384x1 32 :=
  broadcastInDim S4x16384x1 ![0, 1] bcast_S4x16384_S4x16384x1_0_1 (select (cmpi .slt v (broadcastInDim S4x16384 ![] bcast_S_S4x16384 (constantI S_ 32 0#32)))
    (addi v (broadcastInDim S4x16384 ![] bcast_S_S4x16384 (constantI S_ 32 32#32))) v)

theorem starts_apply (v : IVec S4x16384 32) (a : Fin 4) (j : Fin 16384) (h : (v (ix2 a j)).toNat < 32) : (starts v (ix3 a j 0)).toInt.toNat = (v (ix2 a j)).toNat := by
  have e : starts v (ix3 a j 0) = v (ix2 a j) := by
    pointwise [starts]
    rw [WordCmp.cmpi_slt_zero, WordCmp.select_decide, if_neg (by omega)]
  rw [e, WordCmp.toInt_eq_toNat_of_lt_half (by omega)]; rfl

/-- The entries taken, at an index: the start index's, read signed and clamped. -/
theorem gather_apply (s : IVec S32 32) (idx : IVec S4x16384x1 32) (a : Fin 4) (j : Fin 16384) :
    Host.gather gather_S32_S4x16384x1_S4x16384_n_0_n_n_0_2_1 s idx (ix2 a j) = s (ix1 ⟨min (idx (ix3 a j 0)).toInt.toNat (32 - 1), by omega⟩) := by
  unfold Host.gather
  refine congrArg s (funext fun x => Fin.ext ?_)
  show gather_S32_S4x16384x1_S4x16384_n_0_n_n_0_2_1.start (ix2 a j) idx x + gather_S32_S4x16384x1_S4x16384_n_0_n_n_0_2_1.batchCoord (ix2 a j) x + gather_S32_S4x16384x1_S4x16384_n_0_n_n_0_2_1.offCoord (ix2 a j) x = _
  rw [GatherDims.batchCoord_eq_zero _ _ _ List.not_mem_nil, Nat.add_zero]
  obtain rfl : x = 0 := Subsingleton.elim (α := Fin 1) _ _
  rw [GatherDims.offCoord_eq_zero _ _ _ (fun h => ((GatherDims.mem_sKept _ _).mp h).1 (List.mem_singleton.mpr rfl)), Nat.add_zero]
  unfold GatherDims.start
  rw [dif_pos (show (0 : Fin 1) ∈ gather_S32_S4x16384x1_S4x16384_n_0_n_n_0_2_1.startIndexMap from List.mem_singleton.mpr rfl)]
  have hsi : gather_S32_S4x16384x1_S4x16384_n_0_n_n_0_2_1.siIdx (ix2 a j) ⟨List.idxOf (0 : Fin 1) gather_S32_S4x16384x1_S4x16384_n_0_n_n_0_2_1.startIndexMap,
      List.idxOf_lt_length_iff.2 (List.mem_singleton.mpr rfl)⟩ = ix3 a j 0 := by
    funext c; refine Fin.ext ?_
    match c with
    | ⟨0, _⟩ => rfl
    | ⟨1, _⟩ => rfl
    | ⟨2, _⟩ => rfl
  exact congrArg (fun i => min (idx i).toInt.toNat (32 - 1)) hsi

/-- The reference's result. -/
def result (s : IVec S32 32) (v r : IVec S4x16384 32) : IVec S4x16384 32 := addi (Host.gather gather_S32_S4x16384x1_S4x16384_n_0_n_n_0_2_1 s (starts v)) r

theorem result_apply (s : IVec S32 32) (v r : IVec S4x16384 32) (a : Fin 4) (j : Fin 16384) (h : (v (ix2 a j)).toNat < 32) :
    result s v r (ix2 a j) = startOf s (v (ix2 a j)).toNat + r (ix2 a j) := by
  show Host.gather _ s (starts v) (ix2 a j) + r (ix2 a j) = _
  rw [gather_apply]
  rw [Cert.PositionsIdeal.Rows.startOf_eq s _ h]
  exact congrArg (fun n => s (ix1 n) + r (ix2 a j)) (Fin.ext (by show min _ _ = _; rw [starts_apply v a j h]; exact Nat.min_eq_left (by omega)))

end Cert.PositionsRefIdeal.Rows

namespace Cert.PositionsIdeal.Rows

open Cert.PositionsIdeal Cert.PositionsIdeal.Gen Idealize.ShloMosaic Idealize.ShloMosaic.TcCoe Idealize.SL.Sem
open Cert.PositionsRefIdeal.Rows (result result_apply)

/-- Both runs: from memories that agree on the arguments, the places are the same array, and each program leaves its arguments as
    they were. -/
theorem algebraic : Cert.algebraic_PositionsIdeal_PositionsRefIdeal_pre_experts_exist (hPositionsIdeal := Cert.PositionsIdeal.Gen.facts) (hPositionsRefIdeal := Cert.PositionsRefIdeal.Gen.facts) (hPre_experts_exist := Cert.Pre_experts_exist.Gen.facts) := by
  intro m g m' g' hp hargs
  refine ⟨places m, ?_, ?_⟩
  · refine (θ_run defs _ _).mono (fun r h c => ?_) (Value.run_blocks m g)
    exact ⟨(h c).1.trans (arr3_eq m c), (h c).2⟩
  · refine (θ_run Cert.PositionsRefIdeal.defs _ _).mono (fun r h c => ?_) (Cert.PositionsRefIdeal.Value.run m' g')
    obtain ⟨h0, ha⟩ := h c
    obtain ⟨a0, a1, a2⟩ := hargs c
    rw [a0, a1, a2] at h0
    refine ⟨h0.trans ?_, ha⟩
    show result (m ((c : Thread nD τ).loc main_arg0)) (m ((c : Thread nD τ).loc main_arg1)) (m ((c : Thread nD τ).loc main_arg2)) = places m c
    funext i
    change S4x16384.Idx at i
    idx_vars i
    have hv := exists_at _ _ _ (hp c) i0 i1
    refine (result_apply _ _ _ i0 i1 hv).trans ?_
    show _ = summed _ _ _ 32
    rw [summed_eq _ _ _ 32 le_rfl, if_pos hv]

end Cert.PositionsIdeal.Rows

end
-- ==== Proof.BiasClaim.lean ====
module

public import proofs.«01_k».proof.Proof.ExpertsMath
public import proofs.«01_k».proof.Proof.SwaBody
public import proofs.«01_k».proof.Proof.Gen.BiasIdeal.Value
public import proofs.«01_k».proof.Proof.Gen.BiasRefIdeal.Run
public import proofs.«01_k».proof.Proof.Gen.Pre_buckets_exist

/-!
# The table of biases against its reference

One grid point: for each head, each place's bucket is compared with every bucket in turn, and a place outside the window is minus
infinity.
-/

@[expose] public section

set_option maxRecDepth 16384

noncomputable section

namespace Cert.BiasIdeal.Rows

open Cert.BiasIdeal Cert.BiasIdeal.Gen Idealize.ShloMosaic Idealize.ShloMosaic.TcCoe Idealize.SL.Sem

theorem inb_one (n h : Nat) (hn : n < 32) (hh : h < 8) : ∀ a, (![n, h] : Fin 2 → Nat) a + S1x1.size a ≤ S32x8.size a := fun a =>
  match a with
  | ⟨0, _⟩ => hn
  | ⟨1, _⟩ => hh

/-- Head `h`'s bias of bucket `n`, as it is loaded. -/
def entry (s : Vec Ideal S32x8 .f32) (h n : Nat) : EReal :=
  if hn : n < 32 then if hh : h < 8 then View.ld s (Rect.unit (s := S32x8) ![n, h] S1x1.size (inb_one n h hn hh)) (Shape.Idx.first (s := S1x1) (by decide)) else 0 else 0

/-- What is left after comparing with the first `n` buckets. -/
def chosen (s : Vec Ideal S32x8 .f32) (h : Nat) (v : BitVec 32) : Nat → EReal
  | 0 => Ideal.ofBits .f32 0x00000000#32
  | n + 1 => Scalar.select (IntOp.cmpi .eq v (BitVec.ofNat 32 n)) (entry s h n) (chosen s h v n)

/-- Head `h`'s table. -/
def tile (s : Vec Ideal S32x8 .f32) (v : Vec Ideal S128x256 .i32) (h : Nat) : FVec Ideal S1x128x256 .f32 :=
  shapeCast S1x128x256 (select (cmpi .sge v (broadcast S128x256 0#32)) (fun i => chosen s h (v i) 32) (broadcast S128x256 (Scalar.ofBits .f32 0xFF800000#32)))
    shapeCasts_S128x256_S1x128x256

/-- The table of one place. -/
def value (s : Vec Ideal S32x8 .f32) (h : Nat) (v : BitVec 32) : EReal := Scalar.select (IntOp.cmpi .sge v 0#32) (chosen s h v 32) ⊥

theorem tile_apply (s : Vec Ideal S32x8 .f32) (v : Vec Ideal S128x256 .i32) (h : Nat) (i : Fin 128) (j : Fin 256) :
    tile s v h (ix3 0 i j) = value s h (v (ix2 i j)) := by
  pointwise [tile]
  unfold value
  rw [← Cert.KernelIdeal.Attention.neg_inf]

variable (m : (ℓ : Loc nD τ sig) → Buf (Elt Ideal) ℓ)

theorem load_entry (x0 : Vec Ideal S32x8 .f32) (n h : Nat) (hn : n < 32) (hh : h < 8) (inb) (y) : View.ld x0 (Rect.unit ![n, h] ![1, 1] inb) y = x0 (ix2 ⟨n, hn⟩ ⟨h, hh⟩) := by
  rw [View.ld_unit]
  idx_vars y
  pointwise

theorem entry_eq (s : Vec Ideal S32x8 .f32) (h n : Nat) (hn : n < 32) (hh : h < 8) : entry s h n = s (ix2 ⟨n, hn⟩ ⟨h, hh⟩) := by
  unfold entry
  rw [dif_pos hn, dif_pos hh]
  exact load_entry s n h hn hh (inb_one n h hn hh) _

/-- A head's table at the place of the whole it stands for. -/
theorem tile_at (x0 : Vec Ideal S32x8 .f32) (x1 : Vec Ideal S128x256 .i32) (k : Nat) (h : Fin 8) (i : Fin 128) (j : Fin 256) (x : S1x128x256.Idx)
    (h0 : h.val = k + (x 0).val) (h1 : i.val = (x 1).val) (h2 : j.val = (x 2).val) : tile x0 x1 k x = value x0 h.val (x1 (ix2 i j)) := by
  have hz : (x 0).val = 0 := Nat.lt_one_iff.mp (x 0).isLt
  have hx : x = ix3 0 i j := by
    funext a
    refine Fin.ext ?_
    match a with
    | ⟨0, _⟩ => exact hz
    | ⟨1, _⟩ => exact h1.symm
    | ⟨2, _⟩ => exact h2.symm
  rw [hx, tile_apply, show k = h.val by omega]

/-- What the body leaves, entry by entry. -/
theorem out_apply (c : Dev nD) (t : Fin cfg0.N) (x0 : Vec Ideal S32x8 .f32) (x1 : Vec Ideal S128x256 .i32) (h : Fin 8) (i : Fin 128) (j : Fin 256) :
    out0_A_2 c (ms0_0 t) (hs0_0 t) (ms0_1 t) (hs0_1 t) (ms0_2 t) (hs0_2 t) x0 x1 (ix3 h i j) = value x0 h.val (x1 (ix2 i j)) := by
  have e0 : View.read (Elt Ideal) (View.whole cc0_stg0_0) ((hs0_0 t).unread x0) = x0 := (hs0_0 t).read_unread x0
  have e1 : View.read (Elt Ideal) (View.whole cc0_stg1_0) ((hs0_1 t).unread x1) = x1 := (hs0_1 t).read_unread x1
  frame_out
  rw [e0, e1]
  canon_tiles x hx
  case piece0 => exact tile_at x0 x1 7 h i j x hx0 hx1 hx2
  case piece1 => exact tile_at x0 x1 6 h i j x hx0 hx1 hx2
  case piece2 => exact tile_at x0 x1 5 h i j x hx0 hx1 hx2
  case piece3 => exact tile_at x0 x1 4 h i j x hx0 hx1 hx2
  case piece4 => exact tile_at x0 x1 3 h i j x hx0 hx1 hx2
  case piece5 => exact tile_at x0 x1 2 h i j x hx0 hx1 hx2
  case piece6 => exact tile_at x0 x1 1 h i j x hx0 hx1 hx2
  case piece7 => exact tile_at x0 x1 0 h i j x (hx0.trans (Nat.zero_add _).symm) hx1 hx2

/-- Comparing with the first `n` buckets leaves the bias of the one met, if any. -/
theorem chosen_eq (s : Vec Ideal S32x8 .f32) (h : Nat) (v : BitVec 32) (n : Nat) (hn : n ≤ 32) (hv : v.toNat < n) : chosen s h v n = entry s h v.toNat := by
  induction n with
  | zero => exact absurd hv (Nat.not_lt_zero _)
  | succ n ih =>
    unfold chosen
    by_cases e : v.toNat = n
    · have hv : v = BitVec.ofNat 32 n := by rw [← e, BitVec.ofNat_toNat, BitVec.setWidth_eq]
      have hc : IntOp.cmpi .eq v (BitVec.ofNat 32 n) = 1#1 := by rw [hv]; simp [IntOp.cmpi]
      rw [hc, e]
      rfl
    · have hc : IntOp.cmpi .eq v (BitVec.ofNat 32 n) = 0#1 := by
        have hne : v ≠ BitVec.ofNat 32 n := fun e' => e (by rw [e', BitVec.toNat_ofNat]; omega)
        simp [IntOp.cmpi, beq_eq_false_iff_ne.mpr hne]
      rw [hc]
      exact ih (by omega) (by omega)

/-- Every window's block is its whole array. -/
theorem index_facts : ∀ t : Fin cfg0.N,
    (win0_0.index t 0 = 0 ∧ win0_0.index t 1 = 0) ∧ (win0_1.index t 0 = 0 ∧ win0_1.index t 1 = 0) ∧ (win0_2.index t 0 = 0 ∧ win0_2.index t 1 = 0 ∧ win0_2.index t 2 = 0) :=
  (by decide +kernel : ∀ t : Fin grid0.N,
    (win0_0.index t 0 = 0 ∧ win0_0.index t 1 = 0) ∧ (win0_1.index t 0 = 0 ∧ win0_1.index t 1 = 0) ∧ (win0_2.index t 0 = 0 ∧ win0_2.index t 1 = 0 ∧ win0_2.index t 2 = 0))

theorem iblk0_eq (c : Dev nD) (t : Fin cfg0.N) : (iblk m c 0 t : Vec Ideal S32x8 .f32) = m ((c : Thread nD τ).loc main_arg0) := by
  funext y
  idx_vars y
  show (V m c main_arg0 : Vec Ideal S32x8 .f32) ((win0_0.rect t).emb (ix2 y0 y1)) = _
  rw [V_main_arg0]
  exact congrArg _ (Shape.idx_ext₂ (Pipeline.Window.rect_emb_val_of_index_zero win0_0 t 0 (index_facts t).1.1 (ix2 y0 y1)) (Pipeline.Window.rect_emb_val_of_index_zero win0_0 t 1 (index_facts t).1.2 (ix2 y0 y1)))

theorem iblk1_eq (c : Dev nD) (t : Fin cfg0.N) : (iblk m c 1 t : Vec Ideal S128x256 .i32) = m ((c : Thread nD τ).loc main_arg1) := by
  funext y
  idx_vars y
  show (V m c main_arg1 : Vec Ideal S128x256 .i32) ((win0_1.rect t).emb (ix2 y0 y1)) = _
  rw [V_main_arg1]
  exact congrArg _ (Shape.idx_ext₂ (Pipeline.Window.rect_emb_val_of_index_zero win0_1 t 0 (index_facts t).2.1.1 (ix2 y0 y1)) (Pipeline.Window.rect_emb_val_of_index_zero win0_1 t 1 (index_facts t).2.1.2 (ix2 y0 y1)))

theorem emb2 (t : Fin cfg0.N) (h : Fin 8) (i : Fin 128) (j : Fin 256) : (win0_2.rect t).emb (ix3 h i j) = (ix3 h i j : S8x128x256.Idx) := by
  funext a
  refine Fin.ext ?_
  match a with
  | ⟨0, _⟩ => exact Pipeline.Window.rect_emb_val_of_index_zero win0_2 t 0 (index_facts t).2.2.1 (ix3 h i j)
  | ⟨1, _⟩ => exact Pipeline.Window.rect_emb_val_of_index_zero win0_2 t 1 (index_facts t).2.2.2.1 (ix3 h i j)
  | ⟨2, _⟩ => exact Pipeline.Window.rect_emb_val_of_index_zero win0_2 t 2 (index_facts t).2.2.2.2 (ix3 h i j)

/-- The table, by the comparisons. -/
def table (c : Dev nD) : Vec Ideal S8x128x256 .f32 := fun i =>
  value (m ((c : Thread nD τ).loc main_arg0)) (i 0).val ((m ((c : Thread nD τ).loc main_arg1) : Vec Ideal S128x256 .i32) (ix2 (i 1) (i 2)))

theorem flushed2_eq (c : Dev nD) (t : Fin cfg0.N) : (dats m 0 c).flushed 2 t = ((cfg0.win 2).blk t).view.read (Elt Ideal) (table m c) := by
  rw [Value.flushed2_A]
  funext y
  idx_vars y
  refine (out_apply c t _ _ y0 y1 y2).trans ?_
  show _ = table m c ((win0_2.rect t).emb (ix3 y0 y1 y2))
  rw [emb2, iblk0_eq, iblk1_eq]
  rfl

/-- The one grid point. -/
def only : Fin cfg0.N := ⟨0, by decide⟩

theorem arr2_eq (c : Dev nD) : (dats m 0 c).arrAt 2 cfg0.N = table m c := by
  refine (dats m 0 c).arrAt_eq_of_cover 2 (table m c) (fun t _ => flushed2_eq m c t) fun i => ⟨only, flush0_2 _, ?_⟩
  idx_vars i
  rw [← (emb2 only i0 i1 i2 : _ = (ix3 i0 i1 i2 : S8x128x256.Idx))]
  exact View.emb_mem_set ((cfg0.win 2).blk only).view (ix3 i0 i1 i2)

/-- The precondition read at an index: a bucket that is not negative is below 32. -/
theorem exists_at (s : Vec Ideal S32x8 .f32) (v : Vec Ideal S128x256 .i32) (h : Cert.Pre_buckets_exist.fn (F := Ideal) s v = fun _ => 1#1) (i : Fin 128) (j : Fin 256)
    (hs : (v (ix2 i j) : BitVec 32).toNat < 2 ^ 31) : (v (ix2 i j) : BitVec 32).toNat < 32 := by
  have h0 := congrFun h (ix2 i j)
  have h1 : IntOp.cmpi .slt (v (ix2 i j)) (BitVec.ofNat 32 32) = 1#1 := by
    refine Eq.trans ?_ h0
    pointwise [Cert.Pre_buckets_exist.fn]
  rw [WordCmp.cmpi_slt_of_lt hs (by decide), WordCmp.ofBool_decide_eq_one_iff] at h1
  exact h1

end Cert.BiasIdeal.Rows

namespace Cert.BiasRefIdeal.Rows

open Cert.BiasRefIdeal Cert.BiasRefIdeal.Gen Idealize.ShloMosaic Idealize.ShloMosaic.TcCoe Idealize.SL.Sem
open Cert.BiasIdeal.Rows (value entry entry_eq chosen_eq)

/-- The start indices the reference takes rows by: the bucket, a negative one counted from the end. -/
def starts (v : IVec S128x256 32) : IVec S128x256x1 32 :=
  broadcastInDim S128x256x1 ![0, 1] bcast_S128x256_S128x256x1_0_1 (select (cmpi .slt v (broadcastInDim S128x256 ![] bcast_S_S128x256 (constantI S_ 32 0#32)))
    (addi v (broadcastInDim S128x256 ![] bcast_S_S128x256 (constantI S_ 32 32#32))) v)

theorem starts_apply (v : IVec S128x256 32) (a : Fin 128) (j : Fin 256) (h : (v (ix2 a j)).toNat < 32) : (starts v (ix3 a j 0)).toInt.toNat = (v (ix2 a j)).toNat := by
  have e : starts v (ix3 a j 0) = v (ix2 a j) := by
    pointwise [starts]
    rw [WordCmp.cmpi_slt_zero, WordCmp.select_decide, if_neg (by omega)]
  rw [e, WordCmp.toInt_eq_toNat_of_lt_half (by omega)]; rfl

/-- The rows taken, at an index: the start index's, read signed and clamped. -/
theorem gather_apply (s : FVec Ideal S32x8 .f32) (idx : IVec S128x256x1 32) (a : Fin 128) (j : Fin 256) (h : Fin 8) :
    Host.gather gather_S32x8_S128x256x1_S128x256x8_2_0_n_n_0_2_18 s idx (ix3 a j h) = s (ix2 ⟨min (idx (ix3 a j 0)).toInt.toNat (32 - 1), by omega⟩ h) := by
  unfold Host.gather
  refine congrArg s (funext fun x => Fin.ext ?_)
  show gather_S32x8_S128x256x1_S128x256x8_2_0_n_n_0_2_18.start (ix3 a j h) idx x + gather_S32x8_S128x256x1_S128x256x8_2_0_n_n_0_2_18.batchCoord (ix3 a j h) x + gather_S32x8_S128x256x1_S128x256x8_2_0_n_n_0_2_18.offCoord (ix3 a j h) x = _
  rw [GatherDims.batchCoord_eq_zero _ _ _ List.not_mem_nil, Nat.add_zero]
  have hx : x = 0 ∨ x = 1 := by
    match x with
    | ⟨0, _⟩ => exact Or.inl rfl
    | ⟨1, _⟩ => exact Or.inr rfl
  rcases hx with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x8_S128x256x1_S128x256x8_2_0_n_n_0_2_18.startIndexMap from List.mem_singleton.mpr rfl)]
    have hsi : gather_S32x8_S128x256x1_S128x256x8_2_0_n_n_0_2_18.siIdx (ix3 a j h) ⟨List.idxOf (0 : Fin 2) gather_S32x8_S128x256x1_S128x256x8_2_0_n_n_0_2_18.startIndexMap, List.idxOf_lt_length_iff.2 (List.mem_singleton.mpr rfl)⟩ = ix3 a j 0 := by
      funext c; refine Fin.ext ?_
      match c with
      | ⟨0, _⟩ => rfl
      | ⟨1, _⟩ => rfl
      | ⟨2, _⟩ => rfl
    exact congrArg (fun i => min (idx i).toInt.toNat (32 - 1)) hsi
  · unfold GatherDims.start GatherDims.offCoord
    rw [dif_neg (show (1 : Fin 2) ∉ gather_S32x8_S128x256x1_S128x256x8_2_0_n_n_0_2_18.startIndexMap from fun h => absurd (congrArg Fin.val (List.mem_singleton.mp h)) (Nat.succ_ne_zero 0)), Nat.zero_add,
      dif_pos ((GatherDims.mem_sKept _ _).mpr ⟨fun h => absurd (congrArg Fin.val (List.mem_singleton.mp h)) (Nat.succ_ne_zero 0), List.not_mem_nil⟩)]
    rfl

/-- The reference's result. -/
def result (s : FVec Ideal S32x8 .f32) (v : IVec S128x256 32) : FVec Ideal S8x128x256 .f32 :=
  select (broadcastInDim S8x128x256 ![0, 1, 2] bcast_S1x128x256_S8x128x256_0_1_2 (cmpi .sge (broadcastInDim S1x128x256 ![1, 2] bcast_S128x256_S1x128x256_1_2 v)
      (broadcastInDim S1x128x256 ![] bcast_S_S1x128x256 (constantI S_ 32 0#32))))
    (transpose S8x128x256 [2, 0, 1] (Host.gather gather_S32x8_S128x256x1_S128x256x8_2_0_n_n_0_2_18 s (starts v)) transposes_S128x256x8_S8x128x256_2_0_1)
    (broadcastInDim S8x128x256 ![] bcast_S_S8x128x256 (id (constant S_ .f32 0xFF800000#32)))

theorem result_apply (s : FVec Ideal S32x8 .f32) (v : IVec S128x256 32) (h : Fin 8) (a : Fin 128) (j : Fin 256) (hv : (v (ix2 a j)).toNat < 2 ^ 31 → (v (ix2 a j)).toNat < 32) :
    result s v (ix3 h a j) = value s h.val (v (ix2 a j)) := by
  have e : result s v (ix3 h a j) = Scalar.select (IntOp.cmpi .sge (v (ix2 a j)) 0#32) (Host.gather gather_S32x8_S128x256x1_S128x256x8_2_0_n_n_0_2_18 s (starts v) (ix3 a j h)) ⊥ := by
    pointwise [result]
    rw [← Cert.KernelIdeal.Attention.neg_inf]
    rfl
  rw [e]
  unfold value
  rw [WordCmp.cmpi_sge_zero, WordCmp.select_decide, WordCmp.select_decide]
  by_cases hs : (v (ix2 a j)).toNat < 2 ^ 31
  · have hl := hv hs
    rw [if_pos hs, if_pos hs, gather_apply, chosen_eq s h.val _ 32 le_rfl hl, entry_eq s h.val _ hl h.isLt]
    exact congrArg (fun n => s (ix2 n h)) (Fin.ext (by show min _ _ = _; rw [starts_apply v a j hl]; exact Nat.min_eq_left (by omega)))
  · rw [if_neg hs, if_neg hs]

end Cert.BiasRefIdeal.Rows

namespace Cert.BiasIdeal.Rows

open Cert.BiasIdeal Cert.BiasIdeal.Gen Idealize.ShloMosaic Idealize.ShloMosaic.TcCoe Idealize.SL.Sem
open Cert.BiasRefIdeal.Rows (result result_apply)

/-- Both runs: from memories that agree on the arguments, the tables are the same array, and each program leaves its arguments as
    they were. -/
theorem algebraic : Cert.algebraic_BiasIdeal_BiasRefIdeal_pre_buckets_exist (hBiasIdeal := Cert.BiasIdeal.Gen.facts) (hBiasRefIdeal := Cert.BiasRefIdeal.Gen.facts) (hPre_buckets_exist := Cert.Pre_buckets_exist.Gen.facts) := by
  intro m g m' g' hp hargs
  refine ⟨table m, ?_, ?_⟩
  · refine (θ_run defs _ _).mono (fun r h c => ?_) (Value.run_blocks m g)
    exact ⟨(h c).1.trans (arr2_eq m c), (h c).2⟩
  · refine (θ_run Cert.BiasRefIdeal.defs _ _).mono (fun r h c => ?_) (Cert.BiasRefIdeal.Value.run m' g')
    obtain ⟨h0, ha⟩ := h c
    obtain ⟨a0, a1⟩ := hargs c
    rw [a0, a1] at h0
    refine ⟨h0.trans ?_, ha⟩
    show result (m ((c : Thread nD τ).loc main_arg0)) (m ((c : Thread nD τ).loc main_arg1)) = table m c
    funext i
    change S8x128x256.Idx at i
    idx_vars i
    exact result_apply _ _ i0 i1 i2 (exists_at _ _ (hp c) i1 i2)

end Cert.BiasIdeal.Rows

end
-- ==== Proof.RefFrames.lean ====
module

public import proofs.«01_k».proof.Defs
public import proofs.«01_k».proof.Proof.Gen.ReferenceIdeal.Run
public import proofs.«01_k».proof.Proof.Gen.InprojRefIdeal.Run
public import proofs.«01_k».proof.Proof.Gen.ExpertsRefIdeal.Run
public import proofs.«01_k».proof.Proof.Gen.MemkvRefIdeal.Run
public import proofs.«01_k».proof.Proof.Gen.MidRefIdeal.Run
public import proofs.«01_k».proof.Proof.Gen.PositionsRefIdeal.Run
public import proofs.«01_k».proof.Proof.Gen.BiasRefIdeal.Run
public import Idealize.ShloMosaic.Lib.Claim

@[expose] public section

noncomputable section

namespace Cert.References

open Idealize.ShloMosaic Idealize.SL.Sem

/-- The in-projection's reference runs and leaves its arguments as they were; it declares no semaphore. -/
theorem frame_inproj : Cert.quiescent_InprojRefIdeal (hInprojRefIdeal := Cert.InprojRefIdeal.Gen.facts) := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

/-- The attention's reference runs and leaves its arguments as they were; it declares no semaphore. -/
theorem frame_attention : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the scores are finite. -/
theorem frame_attention_finite [hP : Cert.Pre_finite_scores.Facts] : Cert.quiescent_ReferenceIdeal_pre_finite_scores (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The experts' reference runs and leaves its arguments as they were; it declares no semaphore. -/
theorem frame_experts [hP : Cert.Pre_tables_in_range.Facts] : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The reference of the memory's keys and values runs and leaves its arguments as they were; it declares no semaphore. -/
theorem frame_memkv : Cert.quiescent_MemkvRefIdeal (hMemkvRefIdeal := Cert.MemkvRefIdeal.Gen.facts) := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

/-- The reference of the out-projection and the cross attention runs and leaves its arguments as they were; it declares no semaphore. -/
theorem frame_mid : Cert.quiescent_MidRefIdeal (hMidRefIdeal := Cert.MidRefIdeal.Gen.facts) := fun m ρ _ =>
  (θ_run Cert.MidRefIdeal.defs _ _).mono (fun r h => ⟨fun c => (h c).2.2, sem_eq_zero_of_no_sems (by decide) r.2⟩)
    (Cert.MidRefIdeal.Value.run (F := Ideal) m ρ)

/-- The same where the gain, the queries' matrix and the keys are finite. -/
theorem frame_mid_finite [hP : Cert.Pre_finite_queries.Facts] : Cert.quiescent_MidRefIdeal_pre_finite_queries (hMidRefIdeal := Cert.MidRefIdeal.Gen.facts) := fun m ρ _ =>
  (θ_run Cert.MidRefIdeal.defs _ _).mono (fun r h => ⟨fun c => (h c).2.2, sem_eq_zero_of_no_sems (by decide) r.2⟩)
    (Cert.MidRefIdeal.Value.run (F := Ideal) m ρ)

/-- The reference of the chosen rows' places runs and leaves its arguments as they were; it declares no semaphore. -/
theorem frame_positions : Cert.quiescent_PositionsRefIdeal (hPositionsRefIdeal := Cert.PositionsRefIdeal.Gen.facts) := fun m ρ _ =>
  (θ_run Cert.PositionsRefIdeal.defs _ _).mono (fun r h => ⟨fun c => (h c).2, sem_eq_zero_of_no_sems (by decide) r.2⟩)
    (Cert.PositionsRefIdeal.Value.run (F := Ideal) m ρ)

/-- The same where every chosen expert is one of the 32. -/
theorem frame_positions_exist [hP : Cert.Pre_experts_exist.Facts] : Cert.quiescent_PositionsRefIdeal_pre_experts_exist (hPositionsRefIdeal := Cert.PositionsRefIdeal.Gen.facts) := fun m ρ _ =>
  (θ_run Cert.PositionsRefIdeal.defs _ _).mono (fun r h => ⟨fun c => (h c).2, sem_eq_zero_of_no_sems (by decide) r.2⟩)
    (Cert.PositionsRefIdeal.Value.run (F := Ideal) m ρ)

/-- The reference of the table of biases runs and leaves its arguments as they were; it declares no semaphore. -/
theorem frame_bias : Cert.quiescent_BiasRefIdeal (hBiasRefIdeal := Cert.BiasRefIdeal.Gen.facts) := fun m ρ _ =>
  (θ_run Cert.BiasRefIdeal.defs _ _).mono (fun r h => ⟨fun c => (h c).2, sem_eq_zero_of_no_sems (by decide) r.2⟩)
    (Cert.BiasRefIdeal.Value.run (F := Ideal) m ρ)

/-- The same where every bucket is below 32. -/
theorem frame_bias_exist [hP : Cert.Pre_buckets_exist.Facts] : Cert.quiescent_BiasRefIdeal_pre_buckets_exist (hBiasRefIdeal := Cert.BiasRefIdeal.Gen.facts) := fun m ρ _ =>
  (θ_run Cert.BiasRefIdeal.defs _ _).mono (fun r h => ⟨fun c => (h c).2, sem_eq_zero_of_no_sems (by decide) r.2⟩)
    (Cert.BiasRefIdeal.Value.run (F := Ideal) m ρ)

end Cert.References

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.KernelIdeal.Value
public import proofs.«01_k».proof.Proof.Gen.InprojIdeal.Value
public import proofs.«01_k».proof.Proof.Gen.ReferenceIdeal.Run
public import proofs.«01_k».proof.Proof.Gen.InprojRefIdeal.Run
public import proofs.«01_k».proof.Proof.InprojClaim
public import proofs.«01_k».proof.Proof.SwaClaim
public import proofs.«01_k».proof.Proof.ExpertsTables
public import proofs.«01_k».proof.Proof.ExpertsClaim
public import proofs.«01_k».proof.Proof.Gen.Pre_tables_in_range
public import proofs.«01_k».proof.Proof.Gen.Pre_finite_scores
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MemkvIdeal.Value
public import proofs.«01_k».proof.Proof.Gen.MidIdeal.Value
public import proofs.«01_k».proof.Proof.Gen.MemkvRefIdeal
public import proofs.«01_k».proof.Proof.Gen.MemkvRefIdeal.Run
public import proofs.«01_k».proof.Proof.Gen.MidRefIdeal
public import proofs.«01_k».proof.Proof.Gen.MidRefIdeal.Run
public import proofs.«01_k».proof.Proof.Gen.Pre_finite_queries
public import proofs.«01_k».proof.Proof.Gen.Positions
public import proofs.«01_k».proof.Proof.Gen.Positions.Skeleton
public import proofs.«01_k».proof.Proof.Gen.Positions.Launch
public import proofs.«01_k».proof.Proof.Gen.Positions.Points
public import proofs.«01_k».proof.Proof.Gen.Positions.Frame
public import proofs.«01_k».proof.Proof.Gen.PositionsIdeal
public import proofs.«01_k».proof.Proof.Gen.PositionsIdeal.Skeleton
public import proofs.«01_k».proof.Proof.Gen.PositionsIdeal.Launch
public import proofs.«01_k».proof.Proof.Gen.PositionsIdeal.Points
public import proofs.«01_k».proof.Proof.Gen.PositionsIdeal.Frame
public import proofs.«01_k».proof.Proof.Gen.PositionsIdeal.Value
public import proofs.«01_k».proof.Proof.Gen.PositionsRefIdeal
public import proofs.«01_k».proof.Proof.Gen.PositionsRefIdeal.Run
public import proofs.«01_k».proof.Proof.Gen.Pre_experts_exist
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.Pre_buckets_exist
public import proofs.«01_k».proof.Proof.MemkvClaim
public import proofs.«01_k».proof.Proof.MidClaim
public import proofs.«01_k».proof.Proof.PositionsClaim
public import proofs.«01_k».proof.Proof.BiasClaim
public import proofs.«01_k».proof.Proof.RefFrames
public import Idealize.ShloMosaic.Adequacy
public import Idealize.ShloMosaic.Init

@[expose] public section

noncomputable section

namespace Cert.Proof

open Idealize.ShloMosaic Idealize.SL.Sem

/-- Every claim: the frames by the runs, `preserves` of programs that state nothing, the values of the attention, of the
    in-projection, of the experts, of the memory's keys and values, of the out-projection with the cross attention, of the chosen rows' places and of the
    biases. -/
theorem claim : Cert.Claim :=
  ⟨Cert.Kernel.Gen.facts, Cert.KernelIdeal.Gen.facts, Cert.ReferenceIdeal.Gen.facts, Cert.Inproj.Gen.facts, Cert.InprojIdeal.Gen.facts, Cert.InprojRefIdeal.Gen.facts, Cert.Experts.Gen.facts, Cert.ExpertsIdeal.Gen.facts, Cert.ExpertsRefIdeal.Gen.facts,
    Cert.Memkv.Gen.facts, Cert.MemkvIdeal.Gen.facts, Cert.MemkvRefIdeal.Gen.facts, Cert.Mid.Gen.facts, Cert.MidIdeal.Gen.facts, Cert.MidRefIdeal.Gen.facts, Cert.Positions.Gen.facts, Cert.PositionsIdeal.Gen.facts, Cert.PositionsRefIdeal.Gen.facts, Cert.Bias.Gen.facts, Cert.BiasIdeal.Gen.facts, Cert.BiasRefIdeal.Gen.facts,
    Cert.Pre_finite_scores.Gen.facts, Cert.Pre_tables_in_range.Gen.facts, Cert.Pre_finite_queries.Gen.facts, Cert.Pre_experts_exist.Gen.facts, Cert.Pre_buckets_exist.Gen.facts,
    fun m ρ _ => Cert.Kernel.Gen.frame m ρ, fun m ρ _ => Cert.KernelIdeal.Gen.frame m ρ, fun m ρ _ => Cert.KernelIdeal.Gen.frame m ρ,
    Cert.References.frame_attention, Cert.References.frame_attention_finite,
    fun m ρ _ => Cert.Inproj.Gen.frame m ρ, fun m ρ _ => Cert.InprojIdeal.Gen.frame m ρ, Cert.References.frame_inproj,
    fun m ρ h => Cert.Experts.Rows.frame_of_ok m ρ (Cert.Experts.Rows.ok_of_pre m h), fun m ρ h => Cert.ExpertsIdeal.Rows.frame_of_ok m ρ (Cert.ExpertsIdeal.Rows.ok_of_pre m h),
    Cert.References.frame_experts,
    fun m ρ _ => Cert.Memkv.Gen.frame m ρ, fun m ρ _ => Cert.MemkvIdeal.Gen.frame m ρ, Cert.References.frame_memkv,
    fun m ρ _ => Cert.Mid.Gen.frame m ρ, fun m ρ _ => Cert.MidIdeal.Gen.frame m ρ, fun m ρ _ => Cert.MidIdeal.Gen.frame m ρ, Cert.References.frame_mid, Cert.References.frame_mid_finite,
    fun m ρ _ => Cert.Positions.Gen.frame m ρ, fun m ρ _ => Cert.PositionsIdeal.Gen.frame m ρ, fun m ρ _ => Cert.PositionsIdeal.Gen.frame m ρ, Cert.References.frame_positions, Cert.References.frame_positions_exist,
    fun m ρ _ => Cert.Bias.Gen.frame m ρ, fun m ρ _ => Cert.BiasIdeal.Gen.frame m ρ, fun m ρ _ => Cert.BiasIdeal.Gen.frame m ρ, Cert.References.frame_bias, Cert.References.frame_bias_exist,
    trivial, Cert.KernelIdeal.Attention.algebraic, trivial, Cert.InprojIdeal.Rows.algebraic, trivial, Cert.ExpertsIdeal.Rows.algebraic,
    trivial, Cert.MemkvIdeal.Rows.algebraic, trivial, Cert.MidIdeal.Rows.algebraic, trivial, Cert.PositionsIdeal.Rows.algebraic,
    trivial, Cert.BiasIdeal.Rows.algebraic⟩

end Cert.Proof

end
